-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x637 : Shape := ⟨2, ![64, 637]⟩
abbrev S64x24 : Shape := ⟨2, ![64, 24]⟩
abbrev S50000x300 : Shape := ⟨2, ![50000, 300]⟩
abbrev S1024x300 : Shape := ⟨2, ![1024, 300]⟩
abbrev S1024x256 : Shape := ⟨2, ![1024, 256]⟩
abbrev S1024 : Shape := ⟨1, ![1024]⟩
abbrev S512x512 : Shape := ⟨2, ![512, 512]⟩
abbrev S5x637 : Shape := ⟨2, ![5, 637]⟩
abbrev S5 : Shape := ⟨1, ![5]⟩
abbrev S637x64 : Shape := ⟨2, ![637, 64]⟩
abbrev S40768 : Shape := ⟨1, ![40768]⟩
abbrev S_ : Shape := ⟨0, ![]⟩
abbrev S192 : Shape := ⟨1, ![192]⟩
abbrev S40960 : Shape := ⟨1, ![40960]⟩
abbrev S20480 : Shape := ⟨1, ![20480]⟩
abbrev S20480x1 : Shape := ⟨2, ![20480, 1]⟩
abbrev S20480x300 : Shape := ⟨2, ![20480, 300]⟩
abbrev S24x64 : Shape := ⟨2, ![24, 64]⟩
abbrev S1536 : Shape := ⟨1, ![1536]⟩
abbrev S1536x1 : Shape := ⟨2, ![1536, 1]⟩
abbrev S1536x300 : Shape := ⟨2, ![1536, 300]⟩
abbrev S300x1024 : Shape := ⟨2, ![300, 1024]⟩
abbrev S1x300x1024 : Shape := ⟨3, ![1, 300, 1024]⟩
abbrev S2x300x1024 : Shape := ⟨3, ![2, 300, 1024]⟩
abbrev S1x1024 : Shape := ⟨2, ![1, 1024]⟩
abbrev S2x1024 : Shape := ⟨2, ![2, 1024]⟩
abbrev S2x1x1024 : Shape := ⟨3, ![2, 1, 1024]⟩
abbrev S300x2048 : Shape := ⟨2, ![300, 2048]⟩
abbrev S2048 : Shape := ⟨1, ![2048]⟩
abbrev S1x2048 : Shape := ⟨2, ![1, 2048]⟩
abbrev S256x1024 : Shape := ⟨2, ![256, 1024]⟩
abbrev S1x256x1024 : Shape := ⟨3, ![1, 256, 1024]⟩
abbrev S2x256x1024 : Shape := ⟨3, ![2, 256, 1024]⟩
abbrev S5x3 : Shape := ⟨2, ![5, 3]⟩
abbrev S5x640 : Shape := ⟨2, ![5, 640]⟩
abbrev S640x64x1024 : Shape := ⟨3, ![640, 64, 1024]⟩
abbrev S2048x300 : Shape := ⟨2, ![2048, 300]⟩
abbrev S32x64x1024 : Shape := ⟨3, ![32, 64, 1024]⟩
abbrev S2048x1024 : Shape := ⟨2, ![2048, 1024]⟩
abbrev S1x1x1024 : Shape := ⟨3, ![1, 1, 1024]⟩
abbrev S64x512 : Shape := ⟨2, ![64, 512]⟩
abbrev S24x64x1024 : Shape := ⟨3, ![24, 64, 1024]⟩
abbrev S64x256 : Shape := ⟨2, ![64, 256]⟩
abbrev S1536x1024 : Shape := ⟨2, ![1536, 1024]⟩
abbrev S1x64x1024 : Shape := ⟨3, ![1, 64, 1024]⟩
abbrev S64x1024 : Shape := ⟨2, ![64, 1024]⟩
abbrev S64x300 : Shape := ⟨2, ![64, 300]⟩
abbrev S1x64x256 : Shape := ⟨3, ![1, 64, 256]⟩
abbrev S2x64x256 : Shape := ⟨3, ![2, 64, 256]⟩
abbrev S640x1x64 : Shape := ⟨3, ![640, 1, 64]⟩
abbrev S16x64x1024 : Shape := ⟨3, ![16, 64, 1024]⟩
abbrev S16x1x64 : Shape := ⟨3, ![16, 1, 64]⟩
abbrev S16x64x256 : Shape := ⟨3, ![16, 64, 256]⟩
abbrev S16x64 : Shape := ⟨2, ![16, 64]⟩
abbrev S5x1 : Shape := ⟨2, ![5, 1]⟩
abbrev S64x5 : Shape := ⟨2, ![64, 5]⟩
abbrev S640x64 : Shape := ⟨2, ![640, 64]⟩
abbrev S64 : Shape := ⟨1, ![64]⟩
abbrev S1x64 : Shape := ⟨2, ![1, 64]⟩
abbrev S5x64 : Shape := ⟨2, ![5, 64]⟩

abbrev nBuf : Space → Nat
  | .hbm => 95
  | .vmem => 47
  | .smem => 0
  | _ => 0

abbrev bufTy : (tb : Table) → Fin (tcTables nBuf tb) → BufTy
  | .hbm, ⟨0, _⟩ => ⟨S64x637, .i32⟩
  | .hbm, ⟨1, _⟩ => ⟨S64x24, .i32⟩
  | .hbm, ⟨2, _⟩ => ⟨S50000x300, .f32⟩
  | .hbm, ⟨3, _⟩ => ⟨S1024x300, .f32⟩
  | .hbm, ⟨4, _⟩ => ⟨S1024x256, .f32⟩
  | .hbm, ⟨5, _⟩ => ⟨S1024, .f32⟩
  | .hbm, ⟨6, _⟩ => ⟨S1024x300, .f32⟩
  | .hbm, ⟨7, _⟩ => ⟨S1024x256, .f32⟩
  | .hbm, ⟨8, _⟩ => ⟨S1024, .f32⟩
  | .hbm, ⟨9, _⟩ => ⟨S1024x300, .f32⟩
  | .hbm, ⟨10, _⟩ => ⟨S1024x256, .f32⟩
  | .hbm, ⟨11, _⟩ => ⟨S1024, .f32⟩
  | .hbm, ⟨12, _⟩ => ⟨S1024x300, .f32⟩
  | .hbm, ⟨13, _⟩ => ⟨S1024x256, .f32⟩
  | .hbm, ⟨14, _⟩ => ⟨S1024, .f32⟩
  | .hbm, ⟨15, _⟩ => ⟨S512x512, .f32⟩
  | .hbm, ⟨16, _⟩ => ⟨S5x637, .f32⟩
  | .hbm, ⟨17, _⟩ => ⟨S5, .f32⟩
  | .hbm, ⟨18, _⟩ => ⟨S637x64, .i32⟩
  | .hbm, ⟨19, _⟩ => ⟨S40768, .i32⟩
  | .hbm, ⟨20, _⟩ => ⟨S_, .i32⟩
  | .hbm, ⟨21, _⟩ => ⟨S192, .i32⟩
  | .hbm, ⟨22, _⟩ => ⟨S40960, .i32⟩
  | .hbm, ⟨23, _⟩ => ⟨S20480, .i32⟩
  | .hbm, ⟨24, _⟩ => ⟨S_, .i32⟩
  | .hbm, ⟨25, _⟩ => ⟨S20480, .i32⟩
  | .hbm, ⟨26, _⟩ => ⟨S20480, .i1⟩
  | .hbm, ⟨27, _⟩ => ⟨S_, .i32⟩
  | .hbm, ⟨28, _⟩ => ⟨S20480, .i32⟩
  | .hbm, ⟨29, _⟩ => ⟨S20480, .i32⟩
  | .hbm, ⟨30, _⟩ => ⟨S20480, .i32⟩
  | .hbm, ⟨31, _⟩ => ⟨S20480x1, .i32⟩
  | .hbm, ⟨32, _⟩ => ⟨S20480x300, .f32⟩
  | .hbm, ⟨33, _⟩ => ⟨S20480, .i32⟩
  | .hbm, ⟨34, _⟩ => ⟨S_, .i32⟩
  | .hbm, ⟨35, _⟩ => ⟨S20480, .i32⟩
  | .hbm, ⟨36, _⟩ => ⟨S20480, .i1⟩
  | .hbm, ⟨37, _⟩ => ⟨S_, .i32⟩
  | .hbm, ⟨38, _⟩ => ⟨S20480, .i32⟩
  | .hbm, ⟨39, _⟩ => ⟨S20480, .i32⟩
  | .hbm, ⟨40, _⟩ => ⟨S20480, .i32⟩
  | .hbm, ⟨41, _⟩ => ⟨S20480x1, .i32⟩
  | .hbm, ⟨42, _⟩ => ⟨S20480x300, .f32⟩
  | .hbm, ⟨43, _⟩ => ⟨S24x64, .i32⟩
  | .hbm, ⟨44, _⟩ => ⟨S1536, .i32⟩
  | .hbm, ⟨45, _⟩ => ⟨S_, .i32⟩
  | .hbm, ⟨46, _⟩ => ⟨S1536, .i32⟩
  | .hbm, ⟨47, _⟩ => ⟨S1536, .i1⟩
  | .hbm, ⟨48, _⟩ => ⟨S_, .i32⟩
  | .hbm, ⟨49, _⟩ => ⟨S1536, .i32⟩
  | .hbm, ⟨50, _⟩ => ⟨S1536, .i32⟩
  | .hbm, ⟨51, _⟩ => ⟨S1536, .i32⟩
  | .hbm, ⟨52, _⟩ => ⟨S1536x1, .i32⟩
  | .hbm, ⟨53, _⟩ => ⟨S1536x300, .f32⟩
  | .hbm, ⟨54, _⟩ => ⟨S300x1024, .f32⟩
  | .hbm, ⟨55, _⟩ => ⟨S300x1024, .bf16⟩
  | .hbm, ⟨56, _⟩ => ⟨S300x1024, .f32⟩
  | .hbm, ⟨57, _⟩ => ⟨S300x1024, .bf16⟩
  | .hbm, ⟨58, _⟩ => ⟨S1x300x1024, .bf16⟩
  | .hbm, ⟨59, _⟩ => ⟨S1x300x1024, .bf16⟩
  | .hbm, ⟨60, _⟩ => ⟨S2x300x1024, .bf16⟩
  | .hbm, ⟨61, _⟩ => ⟨S1x1024, .f32⟩
  | .hbm, ⟨62, _⟩ => ⟨S1x1024, .f32⟩
  | .hbm, ⟨63, _⟩ => ⟨S2x1024, .f32⟩
  | .hbm, ⟨64, _⟩ => ⟨S2x1x1024, .f32⟩
  | .hbm, ⟨65, _⟩ => ⟨S300x1024, .f32⟩
  | .hbm, ⟨66, _⟩ => ⟨S300x1024, .f32⟩
  | .hbm, ⟨67, _⟩ => ⟨S300x2048, .f32⟩
  | .hbm, ⟨68, _⟩ => ⟨S2048, .f32⟩
  | .hbm, ⟨69, _⟩ => ⟨S1x2048, .f32⟩
  | .hbm, ⟨70, _⟩ => ⟨S256x1024, .f32⟩
  | .hbm, ⟨71, _⟩ => ⟨S256x1024, .f32⟩
  | .hbm, ⟨72, _⟩ => ⟨S1x256x1024, .f32⟩
  | .hbm, ⟨73, _⟩ => ⟨S1x256x1024, .f32⟩
  | .hbm, ⟨74, _⟩ => ⟨S2x256x1024, .f32⟩
  | .hbm, ⟨75, _⟩ => ⟨S2x256x1024, .bf16⟩
  | .hbm, ⟨76, _⟩ => ⟨S_, .f32⟩
  | .hbm, ⟨77, _⟩ => ⟨S5x3, .f32⟩
  | .hbm, ⟨78, _⟩ => ⟨S5x640, .f32⟩
  | .hbm, ⟨79, _⟩ => ⟨S640x64x1024, .bf16⟩
  | .hbm, ⟨80, _⟩ => ⟨S640x64x1024, .bf16⟩
  | .hbm, ⟨81, _⟩ => ⟨S640x64x1024, .bf16⟩
  | .hbm, ⟨82, _⟩ => ⟨S640x64x1024, .bf16⟩
  | .hbm, ⟨83, _⟩ => ⟨S256x1024, .f32⟩
  | .hbm, ⟨84, _⟩ => ⟨S256x1024, .f32⟩
  | .hbm, ⟨85, _⟩ => ⟨S64x512, .f32⟩
  | .hbm, ⟨86, _⟩ => ⟨S64x256, .f32⟩
  | .hbm, ⟨87, _⟩ => ⟨S64x256, .f32⟩
  | .hbm, ⟨88, _⟩ => ⟨S1x64x256, .f32⟩
  | .hbm, ⟨89, _⟩ => ⟨S1x64x256, .f32⟩
  | .hbm, ⟨90, _⟩ => ⟨S2x64x256, .f32⟩
  | .hbm, ⟨91, _⟩ => ⟨S640x1x64, .f32⟩
  | .hbm, ⟨92, _⟩ => ⟨S640x1x64, .f32⟩
  | .hbm, ⟨93, _⟩ => ⟨S5x1, .f32⟩
  | .hbm, ⟨94, _⟩ => ⟨S64x5, .f32⟩
  | .local _ .vmem, ⟨0, _⟩ => ⟨S2048x300, .f32⟩
  | .local _ .vmem, ⟨1, _⟩ => ⟨S2048x300, .f32⟩
  | .local _ .vmem, ⟨2, _⟩ => ⟨S2x300x1024, .bf16⟩
  | .local _ .vmem, ⟨3, _⟩ => ⟨S2x1x1024, .f32⟩
  | .local _ .vmem, ⟨4, _⟩ => ⟨S32x64x1024, .bf16⟩
  | .local _ .vmem, ⟨5, _⟩ => ⟨S32x64x1024, .bf16⟩
  | .local _ .vmem, ⟨6, _⟩ => ⟨S32x64x1024, .bf16⟩
  | .local _ .vmem, ⟨7, _⟩ => ⟨S32x64x1024, .bf16⟩
  | .local _ .vmem, ⟨8, _⟩ => ⟨S2048x300, .f32⟩
  | .local _ .vmem, ⟨9, _⟩ => ⟨S2048x300, .f32⟩
  | .local _ .vmem, ⟨10, _⟩ => ⟨S2x300x1024, .bf16⟩
  | .local _ .vmem, ⟨11, _⟩ => ⟨S2x1x1024, .f32⟩
  | .local _ .vmem, ⟨12, _⟩ => ⟨S32x64x1024, .bf16⟩
  | .local _ .vmem, ⟨13, _⟩ => ⟨S32x64x1024, .bf16⟩
  | .local _ .vmem, ⟨14, _⟩ => ⟨S32x64x1024, .bf16⟩
  | .local _ .vmem, ⟨15, _⟩ => ⟨S32x64x1024, .bf16⟩
  | .local _ .vmem, ⟨16, _⟩ => ⟨S1536x300, .f32⟩
  | .local _ .vmem, ⟨17, _⟩ => ⟨S300x2048, .f32⟩
  | .local _ .vmem, ⟨18, _⟩ => ⟨S1x2048, .f32⟩
  | .local _ .vmem, ⟨19, _⟩ => ⟨S256x1024, .f32⟩
  | .local _ .vmem, ⟨20, _⟩ => ⟨S256x1024, .f32⟩
  | .local _ .vmem, ⟨21, _⟩ => ⟨S512x512, .f32⟩
  | .local _ .vmem, ⟨22, _⟩ => ⟨S64x512, .f32⟩
  | .local _ .vmem, ⟨23, _⟩ => ⟨S24x64x1024, .f32⟩
  | .local _ .vmem, ⟨24, _⟩ => ⟨S64x256, .f32⟩
  | .local _ .vmem, ⟨25, _⟩ => ⟨S64x256, .f32⟩
  | .local _ .vmem, ⟨26, _⟩ => ⟨S16x64x1024, .bf16⟩
  | .local _ .vmem, ⟨27, _⟩ => ⟨S16x64x1024, .bf16⟩
  | .local _ .vmem, ⟨28, _⟩ => ⟨S16x64x1024, .bf16⟩
  | .local _ .vmem, ⟨29, _⟩ => ⟨S16x64x1024, .bf16⟩
  | .local _ .vmem, ⟨30, _⟩ => ⟨S2x256x1024, .bf16⟩
  | .local _ .vmem, ⟨31, _⟩ => ⟨S2x64x256, .f32⟩
  | .local _ .vmem, ⟨32, _⟩ => ⟨S16x1x64, .f32⟩
  | .local _ .vmem, ⟨33, _⟩ => ⟨S16x1x64, .f32⟩
  | .local _ .vmem, ⟨34, _⟩ => ⟨S16x1x64, .f32⟩
  | .local _ .vmem, ⟨35, _⟩ => ⟨S16x1x64, .f32⟩
  | .local _ .vmem, ⟨36, _⟩ => ⟨S64x256, .f32⟩
  | .local _ .vmem, ⟨37, _⟩ => ⟨S64x256, .f32⟩
  | .local _ .vmem, ⟨38, _⟩ => ⟨S64x256, .f32⟩
  | .local _ .vmem, ⟨39, _⟩ => ⟨S64x256, .f32⟩
  | .local _ .vmem, ⟨40, _⟩ => ⟨S16x64x256, .f32⟩
  | .local _ .vmem, ⟨41, _⟩ => ⟨S16x64x256, .f32⟩
  | .local _ .vmem, ⟨42, _⟩ => ⟨S640x1x64, .f32⟩
  | .local _ .vmem, ⟨43, _⟩ => ⟨S640x1x64, .f32⟩
  | .local _ .vmem, ⟨44, _⟩ => ⟨S5x640, .f32⟩
  | .local _ .vmem, ⟨45, _⟩ => ⟨S5x1, .f32⟩
  | .local _ .vmem, ⟨46, _⟩ => ⟨S64x5, .f32⟩
  | _, _ => ⟨S64x637, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_c_0 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_c_3 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst : Ref sig .tc := ⟨.hbm, 76, rfl⟩
abbrev main_v51 : Ref sig .tc := ⟨.hbm, 77, rfl⟩
abbrev main_v52 : Ref sig .tc := ⟨.hbm, 78, rfl⟩
abbrev main_v53_0 : Ref sig .tc := ⟨.hbm, 79, rfl⟩
abbrev main_v53_1 : Ref sig .tc := ⟨.hbm, 80, rfl⟩
abbrev main_v54_0 : Ref sig .tc := ⟨.hbm, 81, rfl⟩
abbrev main_v54_1 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63_0 : Ref sig .tc := ⟨.hbm, 91, rfl⟩
abbrev main_v63_1 : Ref sig .tc := ⟨.hbm, 92, rfl⟩
abbrev main_v64 : Ref sig .tc := ⟨.hbm, 93, rfl⟩
abbrev main_v65 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_scratch0 : Ref sig .tc := ⟨.vmem, 23, rfl⟩
abbrev cc2_scratch1 : Ref sig .tc := ⟨.vmem, 24, rfl⟩
abbrev cc2_scratch2 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg5_1 : Ref sig .tc := ⟨.vmem, 35, rfl⟩
abbrev cc3_scratch0 : Ref sig .tc := ⟨.vmem, 36, rfl⟩
abbrev cc3_scratch1 : Ref sig .tc := ⟨.vmem, 37, rfl⟩
abbrev cc3_scratch2 : Ref sig .tc := ⟨.vmem, 38, rfl⟩
abbrev cc3_scratch3 : Ref sig .tc := ⟨.vmem, 39, rfl⟩
abbrev cc3_scratch4 : Ref sig .tc := ⟨.vmem, 40, rfl⟩
abbrev cc3_scratch5 : Ref sig .tc := ⟨.vmem, 41, rfl⟩
abbrev cc4_stg0_0 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem4_1 : DmaSem sig := 30
abbrev cc3_sem5_0 : DmaSem sig := 31
abbrev cc3_sem5_1 : DmaSem sig := 32
abbrev cc4_sem0_0 : DmaSem sig := 33
abbrev cc4_sem1_0 : DmaSem sig := 34
abbrev cc4_sem2_0 : DmaSem sig := 35
abbrev cc4_sem3_0 : DmaSem sig := 36
abbrev cc4_sem4_0 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x300x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c10_i32 : BitVec 32 := 10#32
  let v0 : BitVec 32 := Scalar.addi arg0 c10_i32
  let c0_i32 : BitVec 32 := 0#32
  let c0_i32_0 : BitVec 32 := 0#32
  let c0_i32_1 : BitVec 32 := 0#32
  ![v0.toNat, c0_i32.toNat, c0_i32_0.toNat]

def cc1_transform_6 (i : grid1.Coords) : Fin 3 → Nat :=
  let arg0 : BitVec 32 := BitVec.ofNat 32 (i 0).val
  let c10_i32 : BitVec 32 := 10#32
  let v0 : BitVec 32 := Scalar.addi arg0 c10_i32
  let c0_i32 : BitVec 32 := 0#32
  let c0_i32_0 : BitVec 32 := 0#32
  let c0_i32_1 : BitVec 32 := 0#32
  ![v0.toNat, c0_i32.toNat, c0_i32_0.toNat]

abbrev stage1_0 : Fin 2 → Memref sig .tc .vmem S2048x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x300x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S32x64x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S32x64x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := .none

@[reducible] def k2_t1_loop : Scf.Loop 32 :=
  let c0_i32 : BitVec 32 := 0#32
  let c24_i32 : BitVec 32 := 24#32
  let v21 : BitVec 32 := Scalar.addi c0_i32 c24_i32
  let c1_i32 : BitVec 32 := 1#32
  ⟨c0_i32, v21, c1_i32⟩
def k2_off1 (k2_t1 : Fin k2_t1_loop.trips) : Fin 3 → Nat :=
  let c0_i32 : BitVec 32 := 0#32
  let c1_i32 : BitVec 32 := 1#32
  let arg10 : BitVec 32 := Scf.iv c0_i32 c1_i32 k2_t1
  let v53 : Index := Scalar.indexCast arg10
  let c0_30 : Index := 0#32
  let c0_31 : Index := 0#32
  ![v53.toNat, 0, 0]
abbrev stage2_0 : Fin 1 → Memref sig .tc .vmem S1536x300 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S300x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S256x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S256x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S512x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S64x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev grid3 : Pipeline.Grid := ⟨1, ![40], ![false]⟩

@[reducible] def k3_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k3_off1 (k3_t1 : Fin k3_t1_loop.trips) : Fin 3 → Nat :=
  let c0_i32_1 : BitVec 32 := 0#32
  let c1_i32 : BitVec 32 := 1#32
  let arg13 : BitVec 32 := Scf.iv c0_i32_1 c1_i32 k3_t1
  let v22 : Index := Scalar.indexCast arg13
  let c0_20 : Index := 0#32
  let c0_21 : Index := 0#32
  ![v22.toNat, 0, 0]
def k3_off2 (k3_t1 : Fin k3_t1_loop.trips) : Fin 3 → Nat :=
  let c0_i32_1 : BitVec 32 := 0#32
  let c1_i32 : BitVec 32 := 1#32
  let arg13 : BitVec 32 := Scf.iv c0_i32_1 c1_i32 k3_t1
  let v53 : Index := Scalar.indexCast arg13
  let c0_34 : Index := 0#32
  let c0_35 : Index := 0#32
  ![v53.toNat, 0, 0]
def k3_off3 (k3_t1 : Fin k3_t1_loop.trips) : Fin 3 → Nat :=
  let c15_i32 : BitVec 32 := 15#32
  let c0_i32_1 : BitVec 32 := 0#32
  let c1_i32 : BitVec 32 := 1#32
  let arg13 : BitVec 32 := Scf.iv c0_i32_1 c1_i32 k3_t1
  let v57 : BitVec 32 := Scalar.subi c15_i32 arg13
  let v58 : Index := Scalar.indexCast v57
  let c0_36 : Index := 0#32
  let c0_37 : Index := 0#32
  ![v58.toNat, 0, 0]
def k3_off4 (k3_t1 : Fin k3_t1_loop.trips) : Fin 3 → Nat :=
  let c15_i32 : BitVec 32 := 15#32
  let c0_i32_1 : BitVec 32 := 0#32
  let c1_i32 : BitVec 32 := 1#32
  let arg13 : BitVec 32 := Scf.iv c0_i32_1 c1_i32 k3_t1
  let v57 : BitVec 32 := Scalar.subi c15_i32 arg13
  let v96 : Index := Scalar.indexCast v57
  let c0_55 : Index := 0#32
  let c0_56 : Index := 0#32
  ![v96.toNat, 0, 0]
def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c39_i32 : BitVec 32 := 39#32
  let v0 : BitVec 32 := Scalar.subi c39_i32 arg0
  let c0_i32 : BitVec 32 := 0#32
  let c0_i32_0 : BitVec 32 := 0#32
  let c0_i32_1 : BitVec 32 := 0#32
  ![v0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let c39_i32 : BitVec 32 := 39#32
  let v0 : BitVec 32 := Scalar.subi c39_i32 arg0
  let c0_i32 : BitVec 32 := 0#32
  let c0_i32_0 : BitVec 32 := 0#32
  let c0_i32_1 : BitVec 32 := 0#32
  ![v0.toNat, c0_i32.toNat, c0_i32_0.toNat]

abbrev stage3_0 : Fin 2 → Memref sig .tc .vmem S16x64x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S16x64x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S2x256x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2x64x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S16x1x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S16x1x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := .none

abbrev stage4_0 : Fin 1 → Memref sig .tc .vmem S640x1x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S640x1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S5x640 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S5x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S64x5 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S64x637 : Shape := ⟨2, ![64, 637]⟩
abbrev S64x24 : Shape := ⟨2, ![64, 24]⟩
abbrev S50000x300 : Shape := ⟨2, ![50000, 300]⟩
abbrev S1024x300 : Shape := ⟨2, ![1024, 300]⟩
abbrev S1024x256 : Shape := ⟨2, ![1024, 256]⟩
abbrev S1024 : Shape := ⟨1, ![1024]⟩
abbrev S512x512 : Shape := ⟨2, ![512, 512]⟩
abbrev S5x637 : Shape := ⟨2, ![5, 637]⟩
abbrev S5 : Shape := ⟨1, ![5]⟩
abbrev S_ : Shape := ⟨0, ![]⟩
abbrev S64x637x1 : Shape := ⟨3, ![64, 637, 1]⟩
abbrev S64x637x300 : Shape := ⟨3, ![64, 637, 300]⟩
abbrev S64x24x1 : Shape := ⟨3, ![64, 24, 1]⟩
abbrev S64x24x300 : Shape := ⟨3, ![64, 24, 300]⟩
abbrev S64x24x1024 : Shape := ⟨3, ![64, 24, 1024]⟩
abbrev S1x1x1024 : Shape := ⟨3, ![1, 1, 1024]⟩
abbrev S64x256 : Shape := ⟨2, ![64, 256]⟩
abbrev S24x64x1024 : Shape := ⟨3, ![24, 64, 1024]⟩
abbrev S24x64x256 : Shape := ⟨3, ![24, 64, 256]⟩
abbrev S1x64x1024 : Shape := ⟨3, ![1, 64, 1024]⟩
abbrev S64x1024 : Shape := ⟨2, ![64, 1024]⟩
abbrev S256x1024 : Shape := ⟨2, ![256, 1024]⟩
abbrev S1x64x256 : Shape := ⟨3, ![1, 64, 256]⟩
abbrev S64x24x256 : Shape := ⟨3, ![64, 24, 256]⟩
abbrev S64x24x512 : Shape := ⟨3, ![64, 24, 512]⟩
abbrev S64x637x1024 : Shape := ⟨3, ![64, 637, 1024]⟩
abbrev S637x64x1024 : Shape := ⟨3, ![637, 64, 1024]⟩
abbrev S637x64x256 : Shape := ⟨3, ![637, 64, 256]⟩
abbrev S64x637x256 : Shape := ⟨3, ![64, 637, 256]⟩
abbrev S64x637x512 : Shape := ⟨3, ![64, 637, 512]⟩
abbrev S64x1x512 : Shape := ⟨3, ![64, 1, 512]⟩
abbrev S64x512 : Shape := ⟨2, ![64, 512]⟩
abbrev S512x64 : Shape := ⟨2, ![512, 64]⟩
abbrev S64 : Shape := ⟨1, ![64]⟩
abbrev S64x1 : Shape := ⟨2, ![64, 1]⟩
abbrev S637x5 : Shape := ⟨2, ![637, 5]⟩
abbrev S64x5 : Shape := ⟨2, ![64, 5]⟩
abbrev S1x5 : Shape := ⟨2, ![1, 5]⟩

abbrev nBuf : Space → Nat
  | .hbm => 348
  | .vmem => 0
  | .smem => 0
  | _ => 0

abbrev hbmTy0_0 (i : Nat) : BufTy := match i % 128 with
  | 0 => ⟨S64x637, .i32⟩
  | 1 => ⟨S64x24, .i32⟩
  | 2 => ⟨S50000x300, .f32⟩
  | 3 => ⟨S1024x300, .f32⟩
  | 4 => ⟨S1024x256, .f32⟩
  | 5 => ⟨S1024, .f32⟩
  | 6 => ⟨S1024x300, .f32⟩
  | 7 => ⟨S1024x256, .f32⟩
  | 8 => ⟨S1024, .f32⟩
  | 9 => ⟨S1024x300, .f32⟩
  | 10 => ⟨S1024x256, .f32⟩
  | 11 => ⟨S1024, .f32⟩
  | 12 => ⟨S1024x300, .f32⟩
  | 13 => ⟨S1024x256, .f32⟩
  | 14 => ⟨S1024, .f32⟩
  | 15 => ⟨S512x512, .f32⟩
  | 16 => ⟨S5x637, .f32⟩
  | 17 => ⟨S5, .f32⟩
  | 18 => ⟨S_, .i32⟩
  | 19 => ⟨S64x637, .i32⟩
  | 20 => ⟨S64x637, .i1⟩
  | 21 => ⟨S_, .i32⟩
  | 22 => ⟨S64x637, .i32⟩
  | 23 => ⟨S64x637, .i32⟩
  | 24 => ⟨S64x637, .i32⟩
  | 25 => ⟨S64x637x1, .i32⟩
  | 26 => ⟨S64x637x300, .f32⟩
  | 27 => ⟨S_, .i32⟩
  | 28 => ⟨S64x24, .i32⟩
  | 29 => ⟨S64x24, .i1⟩
  | 30 => ⟨S_, .i32⟩
  | 31 => ⟨S64x24, .i32⟩
  | 32 => ⟨S64x24, .i32⟩
  | 33 => ⟨S64x24, .i32⟩
  | 34 => ⟨S64x24x1, .i32⟩
  | 35 => ⟨S64x24x300, .f32⟩
  | 36 => ⟨S64x24x1024, .f32⟩
  | 37 => ⟨S1x1x1024, .f32⟩
  | 38 => ⟨S64x24x1024, .f32⟩
  | 39 => ⟨S64x24x1024, .f32⟩
  | 40 => ⟨S_, .f32⟩
  | 41 => ⟨S64x256, .f32⟩
  | 42 => ⟨S24x64x1024, .f32⟩
  | 43 => ⟨S_, .f32⟩
  | 44 => ⟨S24x64x256, .f32⟩
  | 45 => ⟨S_, .i32⟩
  | 46 => ⟨S24x64x1024, .f32⟩
  | 47 => ⟨S1024x256, .f32⟩
  | 48 => ⟨S_, .i32⟩
  | 49 => ⟨S64x256, .f32⟩
  | 50 => ⟨S64x256, .f32⟩
  | 51 => ⟨S24x64x256, .f32⟩
  | 52 => ⟨S_, .i32⟩
  | 53 => ⟨S_, .i1⟩
  | 54 => ⟨S_, .i32⟩
  | 55 => ⟨S_, .i32⟩
  | 56 => ⟨S1x64x1024, .f32⟩
  | 57 => ⟨S64x1024, .f32⟩
  | 58 => ⟨S256x1024, .f32⟩
  | 59 => ⟨S64x1024, .f32⟩
  | 60 => ⟨S64x1024, .f32⟩
  | 61 => ⟨S64x256, .f32⟩
  | 62 => ⟨S64x256, .f32⟩
  | 63 => ⟨S64x256, .f32⟩
  | 64 => ⟨S64x256, .f32⟩
  | 65 => ⟨S64x256, .f32⟩
  | 66 => ⟨S64x256, .f32⟩
  | 67 => ⟨S_, .f32⟩
  | 68 => ⟨S64x256, .f32⟩
  | 69 => ⟨S64x256, .f32⟩
  | 70 => ⟨S_, .f32⟩
  | 71 => ⟨S64x256, .f32⟩
  | 72 => ⟨S64x256, .f32⟩
  | 73 => ⟨S64x256, .f32⟩
  | 74 => ⟨S64x256, .f32⟩
  | 75 => ⟨S64x256, .f32⟩
  | 76 => ⟨S_, .f32⟩
  | 77 => ⟨S64x256, .f32⟩
  | 78 => ⟨S64x256, .f32⟩
  | 79 => ⟨S_, .f32⟩
  | 80 => ⟨S64x256, .f32⟩
  | 81 => ⟨S64x256, .f32⟩
  | 82 => ⟨S64x256, .f32⟩
  | 83 => ⟨S64x256, .f32⟩
  | 84 => ⟨S64x256, .f32⟩
  | 85 => ⟨S64x256, .f32⟩
  | 86 => ⟨S64x256, .f32⟩
  | 87 => ⟨S_, .f32⟩
  | 88 => ⟨S64x256, .f32⟩
  | 89 => ⟨S64x256, .f32⟩
  | 90 => ⟨S_, .f32⟩
  | 91 => ⟨S64x256, .f32⟩
  | 92 => ⟨S64x256, .f32⟩
  | 93 => ⟨S64x256, .f32⟩
  | 94 => ⟨S64x256, .f32⟩
  | 95 => ⟨S1x64x256, .f32⟩
  | 96 => ⟨S_, .i32⟩
  | 97 => ⟨S_, .i32⟩
  | 98 => ⟨S24x64x256, .f32⟩
  | 99 => ⟨S_, .i32⟩
  | 100 => ⟨S_, .i32⟩
  | 101 => ⟨S64x24x256, .f32⟩
  | 102 => ⟨S64x24x1024, .f32⟩
  | 103 => ⟨S1x1x1024, .f32⟩
  | 104 => ⟨S64x24x1024, .f32⟩
  | 105 => ⟨S64x24x1024, .f32⟩
  | 106 => ⟨S_, .f32⟩
  | 107 => ⟨S64x256, .f32⟩
  | 108 => ⟨S24x64x1024, .f32⟩
  | 109 => ⟨S_, .f32⟩
  | 110 => ⟨S24x64x256, .f32⟩
  | 111 => ⟨S_, .i32⟩
  | 112 => ⟨S24x64x1024, .f32⟩
  | 113 => ⟨S1024x256, .f32⟩
  | 114 => ⟨S_, .i32⟩
  | 115 => ⟨S64x256, .f32⟩
  | 116 => ⟨S64x256, .f32⟩
  | 117 => ⟨S24x64x256, .f32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S1x64x1024, .f32⟩
  | 127 => ⟨S64x1024, .f32⟩
  | _ => ⟨S64x637, .i32⟩

abbrev hbmTy0_1 (i : Nat) : BufTy := match i % 128 with
  | 0 => ⟨S256x1024, .f32⟩
  | 1 => ⟨S64x1024, .f32⟩
  | 2 => ⟨S64x1024, .f32⟩
  | 3 => ⟨S64x256, .f32⟩
  | 4 => ⟨S64x256, .f32⟩
  | 5 => ⟨S64x256, .f32⟩
  | 6 => ⟨S64x256, .f32⟩
  | 7 => ⟨S64x256, .f32⟩
  | 8 => ⟨S64x256, .f32⟩
  | 9 => ⟨S_, .f32⟩
  | 10 => ⟨S64x256, .f32⟩
  | 11 => ⟨S64x256, .f32⟩
  | 12 => ⟨S_, .f32⟩
  | 13 => ⟨S64x256, .f32⟩
  | 14 => ⟨S64x256, .f32⟩
  | 15 => ⟨S64x256, .f32⟩
  | 16 => ⟨S64x256, .f32⟩
  | 17 => ⟨S64x256, .f32⟩
  | 18 => ⟨S_, .f32⟩
  | 19 => ⟨S64x256, .f32⟩
  | 20 => ⟨S64x256, .f32⟩
  | 21 => ⟨S_, .f32⟩
  | 22 => ⟨S64x256, .f32⟩
  | 23 => ⟨S64x256, .f32⟩
  | 24 => ⟨S64x256, .f32⟩
  | 25 => ⟨S64x256, .f32⟩
  | 26 => ⟨S64x256, .f32⟩
  | 27 => ⟨S64x256, .f32⟩
  | 28 => ⟨S64x256, .f32⟩
  | 29 => ⟨S_, .f32⟩
  | 30 => ⟨S64x256, .f32⟩
  | 31 => ⟨S64x256, .f32⟩
  | 32 => ⟨S_, .f32⟩
  | 33 => ⟨S64x256, .f32⟩
  | 34 => ⟨S64x256, .f32⟩
  | 35 => ⟨S64x256, .f32⟩
  | 36 => ⟨S64x256, .f32⟩
  | 37 => ⟨S1x64x256, .f32⟩
  | 38 => ⟨S_, .i32⟩
  | 39 => ⟨S_, .i32⟩
  | 40 => ⟨S24x64x256, .f32⟩
  | 41 => ⟨S_, .i32⟩
  | 42 => ⟨S_, .i32⟩
  | 43 => ⟨S64x24x256, .f32⟩
  | 44 => ⟨S64x24x512, .f32⟩
  | 45 => ⟨S64x637x1024, .f32⟩
  | 46 => ⟨S1x1x1024, .f32⟩
  | 47 => ⟨S64x637x1024, .f32⟩
  | 48 => ⟨S64x637x1024, .f32⟩
  | 49 => ⟨S_, .f32⟩
  | 50 => ⟨S64x256, .f32⟩
  | 51 => ⟨S637x64x1024, .f32⟩
  | 52 => ⟨S_, .f32⟩
  | 53 => ⟨S637x64x256, .f32⟩
  | 54 => ⟨S_, .i32⟩
  | 55 => ⟨S637x64x1024, .f32⟩
  | 56 => ⟨S1024x256, .f32⟩
  | 57 => ⟨S_, .i32⟩
  | 58 => ⟨S64x256, .f32⟩
  | 59 => ⟨S64x256, .f32⟩
  | 60 => ⟨S637x64x256, .f32⟩
  | 61 => ⟨S_, .i32⟩
  | 62 => ⟨S_, .i1⟩
  | 63 => ⟨S_, .i32⟩
  | 64 => ⟨S_, .i32⟩
  | 65 => ⟨S1x64x1024, .f32⟩
  | 66 => ⟨S64x1024, .f32⟩
  | 67 => ⟨S256x1024, .f32⟩
  | 68 => ⟨S64x1024, .f32⟩
  | 69 => ⟨S64x1024, .f32⟩
  | 70 => ⟨S64x256, .f32⟩
  | 71 => ⟨S64x256, .f32⟩
  | 72 => ⟨S64x256, .f32⟩
  | 73 => ⟨S64x256, .f32⟩
  | 74 => ⟨S64x256, .f32⟩
  | 75 => ⟨S64x256, .f32⟩
  | 76 => ⟨S_, .f32⟩
  | 77 => ⟨S64x256, .f32⟩
  | 78 => ⟨S64x256, .f32⟩
  | 79 => ⟨S_, .f32⟩
  | 80 => ⟨S64x256, .f32⟩
  | 81 => ⟨S64x256, .f32⟩
  | 82 => ⟨S64x256, .f32⟩
  | 83 => ⟨S64x256, .f32⟩
  | 84 => ⟨S64x256, .f32⟩
  | 85 => ⟨S_, .f32⟩
  | 86 => ⟨S64x256, .f32⟩
  | 87 => ⟨S64x256, .f32⟩
  | 88 => ⟨S_, .f32⟩
  | 89 => ⟨S64x256, .f32⟩
  | 90 => ⟨S64x256, .f32⟩
  | 91 => ⟨S64x256, .f32⟩
  | 92 => ⟨S64x256, .f32⟩
  | 93 => ⟨S64x256, .f32⟩
  | 94 => ⟨S64x256, .f32⟩
  | 95 => ⟨S64x256, .f32⟩
  | 96 => ⟨S_, .f32⟩
  | 97 => ⟨S64x256, .f32⟩
  | 98 => ⟨S64x256, .f32⟩
  | 99 => ⟨S_, .f32⟩
  | 100 => ⟨S64x256, .f32⟩
  | 101 => ⟨S64x256, .f32⟩
  | 102 => ⟨S64x256, .f32⟩
  | 103 => ⟨S64x256, .f32⟩
  | 104 => ⟨S1x64x256, .f32⟩
  | 105 => ⟨S_, .i32⟩
  | 106 => ⟨S_, .i32⟩
  | 107 => ⟨S637x64x256, .f32⟩
  | 108 => ⟨S_, .i32⟩
  | 109 => ⟨S_, .i32⟩
  | 110 => ⟨S64x637x256, .f32⟩
  | 111 => ⟨S64x637x1024, .f32⟩
  | 112 => ⟨S1x1x1024, .f32⟩
  | 113 => ⟨S64x637x1024, .f32⟩
  | 114 => ⟨S64x637x1024, .f32⟩
  | 115 => ⟨S_, .f32⟩
  | 116 => ⟨S64x256, .f32⟩
  | 117 => ⟨S637x64x1024, .f32⟩
  | 118 => ⟨S_, .f32⟩
  | 119 => ⟨S637x64x256, .f32⟩
  | 120 => ⟨S_, .i32⟩
  | 121 => ⟨S637x64x1024, .f32⟩
  | 122 => ⟨S1024x256, .f32⟩
  | 123 => ⟨S_, .i32⟩
  | 124 => ⟨S64x256, .f32⟩
  | 125 => ⟨S64x256, .f32⟩
  | 126 => ⟨S637x64x256, .f32⟩
  | 127 => ⟨S_, .i32⟩
  | _ => ⟨S64x637, .i32⟩

abbrev hbmTy0_2 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S1x64x1024, .f32⟩
  | 8 => ⟨S64x1024, .f32⟩
  | 9 => ⟨S256x1024, .f32⟩
  | 10 => ⟨S64x1024, .f32⟩
  | 11 => ⟨S64x1024, .f32⟩
  | 12 => ⟨S64x256, .f32⟩
  | 13 => ⟨S64x256, .f32⟩
  | 14 => ⟨S64x256, .f32⟩
  | 15 => ⟨S64x256, .f32⟩
  | 16 => ⟨S64x256, .f32⟩
  | 17 => ⟨S64x256, .f32⟩
  | 18 => ⟨S_, .f32⟩
  | 19 => ⟨S64x256, .f32⟩
  | 20 => ⟨S64x256, .f32⟩
  | 21 => ⟨S_, .f32⟩
  | 22 => ⟨S64x256, .f32⟩
  | 23 => ⟨S64x256, .f32⟩
  | 24 => ⟨S64x256, .f32⟩
  | 25 => ⟨S64x256, .f32⟩
  | 26 => ⟨S64x256, .f32⟩
  | 27 => ⟨S_, .f32⟩
  | 28 => ⟨S64x256, .f32⟩
  | 29 => ⟨S64x256, .f32⟩
  | 30 => ⟨S_, .f32⟩
  | 31 => ⟨S64x256, .f32⟩
  | 32 => ⟨S64x256, .f32⟩
  | 33 => ⟨S64x256, .f32⟩
  | 34 => ⟨S64x256, .f32⟩
  | 35 => ⟨S64x256, .f32⟩
  | 36 => ⟨S64x256, .f32⟩
  | 37 => ⟨S64x256, .f32⟩
  | 38 => ⟨S_, .f32⟩
  | 39 => ⟨S64x256, .f32⟩
  | 40 => ⟨S64x256, .f32⟩
  | 41 => ⟨S_, .f32⟩
  | 42 => ⟨S64x256, .f32⟩
  | 43 => ⟨S64x256, .f32⟩
  | 44 => ⟨S64x256, .f32⟩
  | 45 => ⟨S64x256, .f32⟩
  | 46 => ⟨S1x64x256, .f32⟩
  | 47 => ⟨S_, .i32⟩
  | 48 => ⟨S_, .i32⟩
  | 49 => ⟨S637x64x256, .f32⟩
  | 50 => ⟨S_, .i32⟩
  | 51 => ⟨S_, .i32⟩
  | 52 => ⟨S64x637x256, .f32⟩
  | 53 => ⟨S64x637x512, .f32⟩
  | 54 => ⟨S64x1x512, .f32⟩
  | 55 => ⟨S64x512, .f32⟩
  | 56 => ⟨S512x64, .f32⟩
  | 57 => ⟨S64x637, .f32⟩
  | 58 => ⟨S_, .f32⟩
  | 59 => ⟨S64, .f32⟩
  | 60 => ⟨S_, .f32⟩
  | 61 => ⟨S64, .f32⟩
  | 62 => ⟨S64, .f32⟩
  | 63 => ⟨S64x1, .f32⟩
  | 64 => ⟨S64x637, .f32⟩
  | 65 => ⟨S64x637, .f32⟩
  | 66 => ⟨S64x637, .f32⟩
  | 67 => ⟨S_, .f32⟩
  | 68 => ⟨S64, .f32⟩
  | 69 => ⟨S64x1, .f32⟩
  | 70 => ⟨S64x637, .f32⟩
  | 71 => ⟨S64x637, .f32⟩
  | 72 => ⟨S637x5, .f32⟩
  | 73 => ⟨S64x5, .f32⟩
  | 74 => ⟨S1x5, .f32⟩
  | 75 => ⟨S64x5, .f32⟩
  | 76 => ⟨S64x5, .f32⟩
  | 77 => ⟨S_, .f32⟩
  | 78 => ⟨S64, .f32⟩
  | 79 => ⟨S_, .f32⟩
  | 80 => ⟨S64, .f32⟩
  | 81 => ⟨S64, .f32⟩
  | 82 => ⟨S64x1, .f32⟩
  | 83 => ⟨S64x5, .f32⟩
  | 84 => ⟨S64x5, .f32⟩
  | 85 => ⟨S64x5, .f32⟩
  | 86 => ⟨S_, .f32⟩
  | 87 => ⟨S64, .f32⟩
  | 88 => ⟨S64x1, .f32⟩
  | 89 => ⟨S64x1, .f32⟩
  | 90 => ⟨S64x5, .f32⟩
  | 91 => ⟨S64x5, .f32⟩
  | _ => ⟨S64x637, .i32⟩

abbrev hbmTy (i : Nat) : BufTy := match i / 128 with
  | 0 => hbmTy0_0 i
  | 1 => hbmTy0_1 i
  | 2 => hbmTy0_2 i
  | _ => ⟨S64x637, .i32⟩

abbrev bufTy : (tb : Table) → Fin (tcTables nBuf tb) → BufTy
  | .hbm, ⟨i, _⟩ => hbmTy i
  | _, _ => ⟨S64x637, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst : Ref sig .tc := ⟨.hbm, 40, rfl⟩
abbrev main_v18 : Ref sig .tc := ⟨.hbm, 41, rfl⟩
abbrev main_v19 : Ref sig .tc := ⟨.hbm, 42, rfl⟩
abbrev main_cst_3 : Ref sig .tc := ⟨.hbm, 43, rfl⟩
abbrev main_v20 : Ref sig .tc := ⟨.hbm, 44, rfl⟩
abbrev main_c_4 : Ref sig .tc := ⟨.hbm, 45, rfl⟩
abbrev main_v21_0 : Ref sig .tc := ⟨.hbm, 46, rfl⟩
abbrev main_v21_1 : Ref sig .tc := ⟨.hbm, 47, rfl⟩
abbrev main_v21_2 : Ref sig .tc := ⟨.hbm, 48, rfl⟩
abbrev main_v21_3 : Ref sig .tc := ⟨.hbm, 49, rfl⟩
abbrev main_v21_4 : Ref sig .tc := ⟨.hbm, 50, rfl⟩
abbrev main_v21_5 : Ref sig .tc := ⟨.hbm, 51, rfl⟩
abbrev main_while0c_c_22 : Ref sig .tc := ⟨.hbm, 52, rfl⟩
abbrev main_while0c_v73 : Ref sig .tc := ⟨.hbm, 53, rfl⟩
abbrev main_while0b_call0_c : Ref sig .tc := ⟨.hbm, 54, rfl⟩
abbrev main_while0b_call0_c_0 : Ref sig .tc := ⟨.hbm, 55, rfl⟩
abbrev main_while0b_call0_v0 : Ref sig .tc := ⟨.hbm, 56, rfl⟩
abbrev main_while0b_v73 : Ref sig .tc := ⟨.hbm, 57, rfl⟩
abbrev main_while0b_v74 : Ref sig .tc := ⟨.hbm, 58, rfl⟩
abbrev main_while0b_v75 : Ref sig .tc := ⟨.hbm, 59, rfl⟩
abbrev main_while0b_v76 : Ref sig .tc := ⟨.hbm, 60, rfl⟩
abbrev main_while0b_v77 : Ref sig .tc := ⟨.hbm, 61, rfl⟩
abbrev main_while0b_v78 : Ref sig .tc := ⟨.hbm, 62, rfl⟩
abbrev main_while0b_v79 : Ref sig .tc := ⟨.hbm, 63, rfl⟩
abbrev main_while0b_v80 : Ref sig .tc := ⟨.hbm, 64, rfl⟩
abbrev main_while0b_v81 : Ref sig .tc := ⟨.hbm, 65, rfl⟩
abbrev main_while0b_v82 : Ref sig .tc := ⟨.hbm, 66, rfl⟩
abbrev main_while0b_cst_22 : Ref sig .tc := ⟨.hbm, 67, rfl⟩
abbrev main_while0b_v83 : Ref sig .tc := ⟨.hbm, 68, rfl⟩
abbrev main_while0b_v84 : Ref sig .tc := ⟨.hbm, 69, rfl⟩
abbrev main_while0b_cst_23 : Ref sig .tc := ⟨.hbm, 70, rfl⟩
abbrev main_while0b_v85 : Ref sig .tc := ⟨.hbm, 71, rfl⟩
abbrev main_while0b_v86 : Ref sig .tc := ⟨.hbm, 72, rfl⟩
abbrev main_while0b_v87 : Ref sig .tc := ⟨.hbm, 73, rfl⟩
abbrev main_while0b_v88 : Ref sig .tc := ⟨.hbm, 74, rfl⟩
abbrev main_while0b_v89 : Ref sig .tc := ⟨.hbm, 75, rfl⟩
abbrev main_while0b_cst_24 : Ref sig .tc := ⟨.hbm, 76, rfl⟩
abbrev main_while0b_v90 : Ref sig .tc := ⟨.hbm, 77, rfl⟩
abbrev main_while0b_v91 : Ref sig .tc := ⟨.hbm, 78, rfl⟩
abbrev main_while0b_cst_25 : Ref sig .tc := ⟨.hbm, 79, rfl⟩
abbrev main_while0b_v92 : Ref sig .tc := ⟨.hbm, 80, rfl⟩
abbrev main_while0b_v93 : Ref sig .tc := ⟨.hbm, 81, rfl⟩
abbrev main_while0b_v94 : Ref sig .tc := ⟨.hbm, 82, rfl⟩
abbrev main_while0b_v95 : Ref sig .tc := ⟨.hbm, 83, rfl⟩
abbrev main_while0b_v96 : Ref sig .tc := ⟨.hbm, 84, rfl⟩
abbrev main_while0b_v97 : Ref sig .tc := ⟨.hbm, 85, rfl⟩
abbrev main_while0b_v98 : Ref sig .tc := ⟨.hbm, 86, rfl⟩
abbrev main_while0b_cst_26 : Ref sig .tc := ⟨.hbm, 87, rfl⟩
abbrev main_while0b_v99 : Ref sig .tc := ⟨.hbm, 88, rfl⟩
abbrev main_while0b_v100 : Ref sig .tc := ⟨.hbm, 89, rfl⟩
abbrev main_while0b_cst_27 : Ref sig .tc := ⟨.hbm, 90, rfl⟩
abbrev main_while0b_v101 : Ref sig .tc := ⟨.hbm, 91, rfl⟩
abbrev main_while0b_v102 : Ref sig .tc := ⟨.hbm, 92, rfl⟩
abbrev main_while0b_v103 : Ref sig .tc := ⟨.hbm, 93, rfl⟩
abbrev main_while0b_v104 : Ref sig .tc := ⟨.hbm, 94, rfl⟩
abbrev main_while0b_call1_v0 : Ref sig .tc := ⟨.hbm, 95, rfl⟩
abbrev main_while0b_call1_c : Ref sig .tc := ⟨.hbm, 96, rfl⟩
abbrev main_while0b_call1_c_0 : Ref sig .tc := ⟨.hbm, 97, rfl⟩
abbrev main_while0b_v105 : Ref sig .tc := ⟨.hbm, 98, rfl⟩
abbrev main_while0b_c_28 : Ref sig .tc := ⟨.hbm, 99, rfl⟩
abbrev main_while0b_v106 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩
abbrev main_v25 : Ref sig .tc := ⟨.hbm, 104, rfl⟩
abbrev main_v26 : Ref sig .tc := ⟨.hbm, 105, rfl⟩
abbrev main_cst_5 : Ref sig .tc := ⟨.hbm, 106, rfl⟩
abbrev main_v27 : Ref sig .tc := ⟨.hbm, 107, rfl⟩
abbrev main_v28 : Ref sig .tc := ⟨.hbm, 108, rfl⟩
abbrev main_cst_6 : Ref sig .tc := ⟨.hbm, 109, rfl⟩
abbrev main_v29 : Ref sig .tc := ⟨.hbm, 110, rfl⟩
abbrev main_c_7 : Ref sig .tc := ⟨.hbm, 111, rfl⟩
abbrev main_v30_0 : Ref sig .tc := ⟨.hbm, 112, rfl⟩
abbrev main_v30_1 : Ref sig .tc := ⟨.hbm, 113, rfl⟩
abbrev main_v30_2 : Ref sig .tc := ⟨.hbm, 114, rfl⟩
abbrev main_v30_3 : Ref sig .tc := ⟨.hbm, 115, rfl⟩
abbrev main_v30_4 : Ref sig .tc := ⟨.hbm, 116, rfl⟩
abbrev main_v30_5 : Ref sig .tc := ⟨.hbm, 117, rfl⟩
abbrev main_while1c_c_22 : Ref sig .tc := ⟨.hbm, 118, rfl⟩
abbrev main_while1c_v73 : Ref sig .tc := ⟨.hbm, 119, rfl⟩
abbrev main_while1b_c_22 : Ref sig .tc := ⟨.hbm, 120, rfl⟩
abbrev main_while1b_v73 : Ref sig .tc := ⟨.hbm, 121, rfl⟩
abbrev main_while1b_c_23 : Ref sig .tc := ⟨.hbm, 122, rfl⟩
abbrev main_while1b_v74 : Ref sig .tc := ⟨.hbm, 123, rfl⟩
abbrev main_while1b_call2_c : Ref sig .tc := ⟨.hbm, 124, rfl⟩
abbrev main_while1b_call2_c_0 : Ref sig .tc := ⟨.hbm, 125, rfl⟩
abbrev main_while1b_call2_v0 : Ref sig .tc := ⟨.hbm, 126, rfl⟩
abbrev main_while1b_v75 : Ref sig .tc := ⟨.hbm, 127, rfl⟩
abbrev main_while1b_v76 : Ref sig .tc := ⟨.hbm, 128, rfl⟩
abbrev main_while1b_v77 : Ref sig .tc := ⟨.hbm, 129, rfl⟩
abbrev main_while1b_v78 : Ref sig .tc := ⟨.hbm, 130, rfl⟩
abbrev main_while1b_v79 : Ref sig .tc := ⟨.hbm, 131, rfl⟩
abbrev main_while1b_v80 : Ref sig .tc := ⟨.hbm, 132, rfl⟩
abbrev main_while1b_v81 : Ref sig .tc := ⟨.hbm, 133, rfl⟩
abbrev main_while1b_v82 : Ref sig .tc := ⟨.hbm, 134, rfl⟩
abbrev main_while1b_v83 : Ref sig .tc := ⟨.hbm, 135, rfl⟩
abbrev main_while1b_v84 : Ref sig .tc := ⟨.hbm, 136, rfl⟩
abbrev main_while1b_cst_24 : Ref sig .tc := ⟨.hbm, 137, rfl⟩
abbrev main_while1b_v85 : Ref sig .tc := ⟨.hbm, 138, rfl⟩
abbrev main_while1b_v86 : Ref sig .tc := ⟨.hbm, 139, rfl⟩
abbrev main_while1b_cst_25 : Ref sig .tc := ⟨.hbm, 140, rfl⟩
abbrev main_while1b_v87 : Ref sig .tc := ⟨.hbm, 141, rfl⟩
abbrev main_while1b_v88 : Ref sig .tc := ⟨.hbm, 142, rfl⟩
abbrev main_while1b_v89 : Ref sig .tc := ⟨.hbm, 143, rfl⟩
abbrev main_while1b_v90 : Ref sig .tc := ⟨.hbm, 144, rfl⟩
abbrev main_while1b_v91 : Ref sig .tc := ⟨.hbm, 145, rfl⟩
abbrev main_while1b_cst_26 : Ref sig .tc := ⟨.hbm, 146, rfl⟩
abbrev main_while1b_v92 : Ref sig .tc := ⟨.hbm, 147, rfl⟩
abbrev main_while1b_v93 : Ref sig .tc := ⟨.hbm, 148, rfl⟩
abbrev main_while1b_cst_27 : Ref sig .tc := ⟨.hbm, 149, rfl⟩
abbrev main_while1b_v94 : Ref sig .tc := ⟨.hbm, 150, rfl⟩
abbrev main_while1b_v95 : Ref sig .tc := ⟨.hbm, 151, rfl⟩
abbrev main_while1b_v96 : Ref sig .tc := ⟨.hbm, 152, rfl⟩
abbrev main_while1b_v97 : Ref sig .tc := ⟨.hbm, 153, rfl⟩
abbrev main_while1b_v98 : Ref sig .tc := ⟨.hbm, 154, rfl⟩
abbrev main_while1b_v99 : Ref sig .tc := ⟨.hbm, 155, rfl⟩
abbrev main_while1b_v100 : Ref sig .tc := ⟨.hbm, 156, rfl⟩
abbrev main_while1b_cst_28 : Ref sig .tc := ⟨.hbm, 157, rfl⟩
abbrev main_while1b_v101 : Ref sig .tc := ⟨.hbm, 158, rfl⟩
abbrev main_while1b_v102 : Ref sig .tc := ⟨.hbm, 159, rfl⟩
abbrev main_while1b_cst_29 : Ref sig .tc := ⟨.hbm, 160, rfl⟩
abbrev main_while1b_v103 : Ref sig .tc := ⟨.hbm, 161, rfl⟩
abbrev main_while1b_v104 : Ref sig .tc := ⟨.hbm, 162, rfl⟩
abbrev main_while1b_v105 : Ref sig .tc := ⟨.hbm, 163, rfl⟩
abbrev main_while1b_v106 : Ref sig .tc := ⟨.hbm, 164, rfl⟩
abbrev main_while1b_call3_v0 : Ref sig .tc := ⟨.hbm, 165, rfl⟩
abbrev main_while1b_call3_c : Ref sig .tc := ⟨.hbm, 166, rfl⟩
abbrev main_while1b_call3_c_0 : Ref sig .tc := ⟨.hbm, 167, rfl⟩
abbrev main_while1b_v107 : Ref sig .tc := ⟨.hbm, 168, rfl⟩
abbrev main_while1b_c_30 : Ref sig .tc := ⟨.hbm, 169, rfl⟩
abbrev main_while1b_v108 : Ref sig .tc := ⟨.hbm, 170, rfl⟩
abbrev main_v31 : Ref sig .tc := ⟨.hbm, 171, rfl⟩
abbrev main_v32 : Ref sig .tc := ⟨.hbm, 172, rfl⟩
abbrev main_v33 : Ref sig .tc := ⟨.hbm, 173, rfl⟩
abbrev main_v34 : Ref sig .tc := ⟨.hbm, 174, rfl⟩
abbrev main_v35 : Ref sig .tc := ⟨.hbm, 175, rfl⟩
abbrev main_v36 : Ref sig .tc := ⟨.hbm, 176, rfl⟩
abbrev main_cst_8 : Ref sig .tc := ⟨.hbm, 177, rfl⟩
abbrev main_v37 : Ref sig .tc := ⟨.hbm, 178, rfl⟩
abbrev main_v38 : Ref sig .tc := ⟨.hbm, 179, rfl⟩
abbrev main_cst_9 : Ref sig .tc := ⟨.hbm, 180, rfl⟩
abbrev main_v39 : Ref sig .tc := ⟨.hbm, 181, rfl⟩
abbrev main_c_10 : Ref sig .tc := ⟨.hbm, 182, rfl⟩
abbrev main_v40_0 : Ref sig .tc := ⟨.hbm, 183, rfl⟩
abbrev main_v40_1 : Ref sig .tc := ⟨.hbm, 184, rfl⟩
abbrev main_v40_2 : Ref sig .tc := ⟨.hbm, 185, rfl⟩
abbrev main_v40_3 : Ref sig .tc := ⟨.hbm, 186, rfl⟩
abbrev main_v40_4 : Ref sig .tc := ⟨.hbm, 187, rfl⟩
abbrev main_v40_5 : Ref sig .tc := ⟨.hbm, 188, rfl⟩
abbrev main_while2c_c_22 : Ref sig .tc := ⟨.hbm, 189, rfl⟩
abbrev main_while2c_v73 : Ref sig .tc := ⟨.hbm, 190, rfl⟩
abbrev main_while2b_call4_c : Ref sig .tc := ⟨.hbm, 191, rfl⟩
abbrev main_while2b_call4_c_0 : Ref sig .tc := ⟨.hbm, 192, rfl⟩
abbrev main_while2b_call4_v0 : Ref sig .tc := ⟨.hbm, 193, rfl⟩
abbrev main_while2b_v73 : Ref sig .tc := ⟨.hbm, 194, rfl⟩
abbrev main_while2b_v74 : Ref sig .tc := ⟨.hbm, 195, rfl⟩
abbrev main_while2b_v75 : Ref sig .tc := ⟨.hbm, 196, rfl⟩
abbrev main_while2b_v76 : Ref sig .tc := ⟨.hbm, 197, rfl⟩
abbrev main_while2b_v77 : Ref sig .tc := ⟨.hbm, 198, rfl⟩
abbrev main_while2b_v78 : Ref sig .tc := ⟨.hbm, 199, rfl⟩
abbrev main_while2b_v79 : Ref sig .tc := ⟨.hbm, 200, rfl⟩
abbrev main_while2b_v80 : Ref sig .tc := ⟨.hbm, 201, rfl⟩
abbrev main_while2b_v81 : Ref sig .tc := ⟨.hbm, 202, rfl⟩
abbrev main_while2b_v82 : Ref sig .tc := ⟨.hbm, 203, rfl⟩
abbrev main_while2b_cst_22 : Ref sig .tc := ⟨.hbm, 204, rfl⟩
abbrev main_while2b_v83 : Ref sig .tc := ⟨.hbm, 205, rfl⟩
abbrev main_while2b_v84 : Ref sig .tc := ⟨.hbm, 206, rfl⟩
abbrev main_while2b_cst_23 : Ref sig .tc := ⟨.hbm, 207, rfl⟩
abbrev main_while2b_v85 : Ref sig .tc := ⟨.hbm, 208, rfl⟩
abbrev main_while2b_v86 : Ref sig .tc := ⟨.hbm, 209, rfl⟩
abbrev main_while2b_v87 : Ref sig .tc := ⟨.hbm, 210, rfl⟩
abbrev main_while2b_v88 : Ref sig .tc := ⟨.hbm, 211, rfl⟩
abbrev main_while2b_v89 : Ref sig .tc := ⟨.hbm, 212, rfl⟩
abbrev main_while2b_cst_24 : Ref sig .tc := ⟨.hbm, 213, rfl⟩
abbrev main_while2b_v90 : Ref sig .tc := ⟨.hbm, 214, rfl⟩
abbrev main_while2b_v91 : Ref sig .tc := ⟨.hbm, 215, rfl⟩
abbrev main_while2b_cst_25 : Ref sig .tc := ⟨.hbm, 216, rfl⟩
abbrev main_while2b_v92 : Ref sig .tc := ⟨.hbm, 217, rfl⟩
abbrev main_while2b_v93 : Ref sig .tc := ⟨.hbm, 218, rfl⟩
abbrev main_while2b_v94 : Ref sig .tc := ⟨.hbm, 219, rfl⟩
abbrev main_while2b_v95 : Ref sig .tc := ⟨.hbm, 220, rfl⟩
abbrev main_while2b_v96 : Ref sig .tc := ⟨.hbm, 221, rfl⟩
abbrev main_while2b_v97 : Ref sig .tc := ⟨.hbm, 222, rfl⟩
abbrev main_while2b_v98 : Ref sig .tc := ⟨.hbm, 223, rfl⟩
abbrev main_while2b_cst_26 : Ref sig .tc := ⟨.hbm, 224, rfl⟩
abbrev main_while2b_v99 : Ref sig .tc := ⟨.hbm, 225, rfl⟩
abbrev main_while2b_v100 : Ref sig .tc := ⟨.hbm, 226, rfl⟩
abbrev main_while2b_cst_27 : Ref sig .tc := ⟨.hbm, 227, rfl⟩
abbrev main_while2b_v101 : Ref sig .tc := ⟨.hbm, 228, rfl⟩
abbrev main_while2b_v102 : Ref sig .tc := ⟨.hbm, 229, rfl⟩
abbrev main_while2b_v103 : Ref sig .tc := ⟨.hbm, 230, rfl⟩
abbrev main_while2b_v104 : Ref sig .tc := ⟨.hbm, 231, rfl⟩
abbrev main_while2b_call5_v0 : Ref sig .tc := ⟨.hbm, 232, rfl⟩
abbrev main_while2b_call5_c : Ref sig .tc := ⟨.hbm, 233, rfl⟩
abbrev main_while2b_call5_c_0 : Ref sig .tc := ⟨.hbm, 234, rfl⟩
abbrev main_while2b_v105 : Ref sig .tc := ⟨.hbm, 235, rfl⟩
abbrev main_while2b_c_28 : Ref sig .tc := ⟨.hbm, 236, rfl⟩
abbrev main_while2b_v106 : Ref sig .tc := ⟨.hbm, 237, rfl⟩
abbrev main_v41 : Ref sig .tc := ⟨.hbm, 238, rfl⟩
abbrev main_v42 : Ref sig .tc := ⟨.hbm, 239, rfl⟩
abbrev main_v43 : Ref sig .tc := ⟨.hbm, 240, rfl⟩
abbrev main_v44 : Ref sig .tc := ⟨.hbm, 241, rfl⟩
abbrev main_v45 : Ref sig .tc := ⟨.hbm, 242, rfl⟩
abbrev main_cst_11 : Ref sig .tc := ⟨.hbm, 243, rfl⟩
abbrev main_v46 : Ref sig .tc := ⟨.hbm, 244, rfl⟩
abbrev main_v47 : Ref sig .tc := ⟨.hbm, 245, rfl⟩
abbrev main_cst_12 : Ref sig .tc := ⟨.hbm, 246, rfl⟩
abbrev main_v48 : Ref sig .tc := ⟨.hbm, 247, rfl⟩
abbrev main_c_13 : Ref sig .tc := ⟨.hbm, 248, rfl⟩
abbrev main_v49_0 : Ref sig .tc := ⟨.hbm, 249, rfl⟩
abbrev main_v49_1 : Ref sig .tc := ⟨.hbm, 250, rfl⟩
abbrev main_v49_2 : Ref sig .tc := ⟨.hbm, 251, rfl⟩
abbrev main_v49_3 : Ref sig .tc := ⟨.hbm, 252, rfl⟩
abbrev main_v49_4 : Ref sig .tc := ⟨.hbm, 253, rfl⟩
abbrev main_v49_5 : Ref sig .tc := ⟨.hbm, 254, rfl⟩
abbrev main_while3c_c_22 : Ref sig .tc := ⟨.hbm, 255, rfl⟩
abbrev main_while3c_v73 : Ref sig .tc := ⟨.hbm, 256, rfl⟩
abbrev main_while3b_c_22 : Ref sig .tc := ⟨.hbm, 257, rfl⟩
abbrev main_while3b_v73 : Ref sig .tc := ⟨.hbm, 258, rfl⟩
abbrev main_while3b_c_23 : Ref sig .tc := ⟨.hbm, 259, rfl⟩
abbrev main_while3b_v74 : Ref sig .tc := ⟨.hbm, 260, rfl⟩
abbrev main_while3b_call6_c : Ref sig .tc := ⟨.hbm, 261, rfl⟩
abbrev main_while3b_call6_c_0 : Ref sig .tc := ⟨.hbm, 262, rfl⟩
abbrev main_while3b_call6_v0 : Ref sig .tc := ⟨.hbm, 263, rfl⟩
abbrev main_while3b_v75 : Ref sig .tc := ⟨.hbm, 264, rfl⟩
abbrev main_while3b_v76 : Ref sig .tc := ⟨.hbm, 265, rfl⟩
abbrev main_while3b_v77 : Ref sig .tc := ⟨.hbm, 266, rfl⟩
abbrev main_while3b_v78 : Ref sig .tc := ⟨.hbm, 267, rfl⟩
abbrev main_while3b_v79 : Ref sig .tc := ⟨.hbm, 268, rfl⟩
abbrev main_while3b_v80 : Ref sig .tc := ⟨.hbm, 269, rfl⟩
abbrev main_while3b_v81 : Ref sig .tc := ⟨.hbm, 270, rfl⟩
abbrev main_while3b_v82 : Ref sig .tc := ⟨.hbm, 271, rfl⟩
abbrev main_while3b_v83 : Ref sig .tc := ⟨.hbm, 272, rfl⟩
abbrev main_while3b_v84 : Ref sig .tc := ⟨.hbm, 273, rfl⟩
abbrev main_while3b_cst_24 : Ref sig .tc := ⟨.hbm, 274, rfl⟩
abbrev main_while3b_v85 : Ref sig .tc := ⟨.hbm, 275, rfl⟩
abbrev main_while3b_v86 : Ref sig .tc := ⟨.hbm, 276, rfl⟩
abbrev main_while3b_cst_25 : Ref sig .tc := ⟨.hbm, 277, rfl⟩
abbrev main_while3b_v87 : Ref sig .tc := ⟨.hbm, 278, rfl⟩
abbrev main_while3b_v88 : Ref sig .tc := ⟨.hbm, 279, rfl⟩
abbrev main_while3b_v89 : Ref sig .tc := ⟨.hbm, 280, rfl⟩
abbrev main_while3b_v90 : Ref sig .tc := ⟨.hbm, 281, rfl⟩
abbrev main_while3b_v91 : Ref sig .tc := ⟨.hbm, 282, rfl⟩
abbrev main_while3b_cst_26 : Ref sig .tc := ⟨.hbm, 283, rfl⟩
abbrev main_while3b_v92 : Ref sig .tc := ⟨.hbm, 284, rfl⟩
abbrev main_while3b_v93 : Ref sig .tc := ⟨.hbm, 285, rfl⟩
abbrev main_while3b_cst_27 : Ref sig .tc := ⟨.hbm, 286, rfl⟩
abbrev main_while3b_v94 : Ref sig .tc := ⟨.hbm, 287, rfl⟩
abbrev main_while3b_v95 : Ref sig .tc := ⟨.hbm, 288, rfl⟩
abbrev main_while3b_v96 : Ref sig .tc := ⟨.hbm, 289, rfl⟩
abbrev main_while3b_v97 : Ref sig .tc := ⟨.hbm, 290, rfl⟩
abbrev main_while3b_v98 : Ref sig .tc := ⟨.hbm, 291, rfl⟩
abbrev main_while3b_v99 : Ref sig .tc := ⟨.hbm, 292, rfl⟩
abbrev main_while3b_v100 : Ref sig .tc := ⟨.hbm, 293, rfl⟩
abbrev main_while3b_cst_28 : Ref sig .tc := ⟨.hbm, 294, rfl⟩
abbrev main_while3b_v101 : Ref sig .tc := ⟨.hbm, 295, rfl⟩
abbrev main_while3b_v102 : Ref sig .tc := ⟨.hbm, 296, rfl⟩
abbrev main_while3b_cst_29 : Ref sig .tc := ⟨.hbm, 297, rfl⟩
abbrev main_while3b_v103 : Ref sig .tc := ⟨.hbm, 298, rfl⟩
abbrev main_while3b_v104 : Ref sig .tc := ⟨.hbm, 299, rfl⟩
abbrev main_while3b_v105 : Ref sig .tc := ⟨.hbm, 300, rfl⟩
abbrev main_while3b_v106 : Ref sig .tc := ⟨.hbm, 301, rfl⟩
abbrev main_while3b_call7_v0 : Ref sig .tc := ⟨.hbm, 302, rfl⟩
abbrev main_while3b_call7_c : Ref sig .tc := ⟨.hbm, 303, rfl⟩
abbrev main_while3b_call7_c_0 : Ref sig .tc := ⟨.hbm, 304, rfl⟩
abbrev main_while3b_v107 : Ref sig .tc := ⟨.hbm, 305, rfl⟩
abbrev main_while3b_c_30 : Ref sig .tc := ⟨.hbm, 306, rfl⟩
abbrev main_while3b_v108 : Ref sig .tc := ⟨.hbm, 307, rfl⟩
abbrev main_v50 : Ref sig .tc := ⟨.hbm, 308, rfl⟩
abbrev main_v51 : Ref sig .tc := ⟨.hbm, 309, rfl⟩
abbrev main_v52 : Ref sig .tc := ⟨.hbm, 310, rfl⟩
abbrev main_v53 : Ref sig .tc := ⟨.hbm, 311, rfl⟩
abbrev main_v54 : Ref sig .tc := ⟨.hbm, 312, rfl⟩
abbrev main_v55 : Ref sig .tc := ⟨.hbm, 313, rfl⟩
abbrev main_cst_14 : Ref sig .tc := ⟨.hbm, 314, rfl⟩
abbrev main_v56 : Ref sig .tc := ⟨.hbm, 315, rfl⟩
abbrev main_cst_15 : Ref sig .tc := ⟨.hbm, 316, rfl⟩
abbrev main_v57 : Ref sig .tc := ⟨.hbm, 317, rfl⟩
abbrev main_v58 : Ref sig .tc := ⟨.hbm, 318, rfl⟩
abbrev main_v59 : Ref sig .tc := ⟨.hbm, 319, rfl⟩
abbrev main_v60 : Ref sig .tc := ⟨.hbm, 320, rfl⟩
abbrev main_v61 : Ref sig .tc := ⟨.hbm, 321, rfl⟩
abbrev main_v62 : Ref sig .tc := ⟨.hbm, 322, rfl⟩
abbrev main_cst_16 : Ref sig .tc := ⟨.hbm, 323, rfl⟩
abbrev main_v63 : Ref sig .tc := ⟨.hbm, 324, rfl⟩
abbrev main_v64 : Ref sig .tc := ⟨.hbm, 325, rfl⟩
abbrev main_v65 : Ref sig .tc := ⟨.hbm, 326, rfl⟩
abbrev main_v66 : Ref sig .tc := ⟨.hbm, 327, rfl⟩
abbrev main_v67 : Ref sig .tc := ⟨.hbm, 328, rfl⟩
abbrev main_v68 : Ref sig .tc := ⟨.hbm, 329, rfl⟩
abbrev main_v69 : Ref sig .tc := ⟨.hbm, 330, rfl⟩
abbrev main_v70 : Ref sig .tc := ⟨.hbm, 331, rfl⟩
abbrev main_v71 : Ref sig .tc := ⟨.hbm, 332, rfl⟩
abbrev main_call8_cst : Ref sig .tc := ⟨.hbm, 333, rfl⟩
abbrev main_call8_v0 : Ref sig .tc := ⟨.hbm, 334, rfl⟩
abbrev main_call8_cst_0 : Ref sig .tc := ⟨.hbm, 335, rfl⟩
abbrev main_call8_v1 : Ref sig .tc := ⟨.hbm, 336, rfl⟩
abbrev main_call8_v2 : Ref sig .tc := ⟨.hbm, 337, rfl⟩
abbrev main_call8_v3 : Ref sig .tc := ⟨.hbm, 338, rfl⟩
abbrev main_call8_v4 : Ref sig .tc := ⟨.hbm, 339, rfl⟩
abbrev main_call8_v5 : Ref sig .tc := ⟨.hbm, 340, rfl⟩
abbrev main_call8_v6 : Ref sig .tc := ⟨.hbm, 341, rfl⟩
abbrev main_call8_cst_1 : Ref sig .tc := ⟨.hbm, 342, rfl⟩
abbrev main_call8_v7 : Ref sig .tc := ⟨.hbm, 343, rfl⟩
abbrev main_call8_v8 : Ref sig .tc := ⟨.hbm, 344, rfl⟩
abbrev main_call8_v9 : Ref sig .tc := ⟨.hbm, 345, rfl⟩
abbrev main_call8_v10 : Ref sig .tc := ⟨.hbm, 346, rfl⟩
abbrev main_v72 : Ref sig .tc := ⟨.hbm, 347, rfl⟩

abbrev nD : Nat := 1
abbrev τ : Topo := Topo.v7x

variable {F : FTy → Type} [FloatOps F]

abbrev main_while0_count : Scf.Loop 32 := ⟨0#32, 24#32, 1#32⟩

abbrev main_while1_count : Scf.Loop 32 := ⟨0#32, 24#32, 1#32⟩

abbrev main_while2_count : Scf.Loop 32 := ⟨0#32, 637#32, 1#32⟩

abbrev main_while3_count : Scf.Loop 32 := ⟨0#32, 637#32, 1#32⟩
-- ==== Proof.KernelIdeal.Proj0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp
public import Idealize.ShloMosaic.Lib.WritesUnit
public import Idealize.ShloMosaic.Lib.Pointwise.Index

@[expose] public section

set_option maxRecDepth 16384

noncomputable section

namespace Cert.KernelIdeal.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Call 0: `cc0_content_proj` -/

/-- What the body leaves in output window 3's buffer, from the input blocks. -/
def out0_3 (x0 : Vec F S2048x300 .f32) (x1 : Vec F S2x300x1024 .bf16) (x2 : Vec F S2x1x1024 .f32) : Vec F S32x64x1024 .bf16 :=
  k0_pay2 x0 (View.ld x1 (Rect.unit (s := S2x300x1024) ![0, 0, 0] S1x300x1024.size inb_S2x300x1024_S1x300x1024_0_0_0)) (View.ld x2 (Rect.unit (s := S2x1x1024) ![0, 0, 0] S1x1x1024.size inb_S2x1x1024_S1x1x1024_0_0_0))

/-- What the body leaves in output window 4's buffer, from the input blocks. -/
def out0_4 (x0 : Vec F S2048x300 .f32) (x1 : Vec F S2x300x1024 .bf16) (x2 : Vec F S2x1x1024 .f32) : Vec F S32x64x1024 .bf16 :=
  k0_pay3 x0 (View.ld x1 (Rect.unit (s := S2x300x1024) ![1, 0, 0] S1x300x1024.size inb_S2x300x1024_S1x300x1024_1_0_0)) (View.ld x2 (Rect.unit (s := S2x1x1024) ![1, 0, 0] S1x1x1024.size inb_S2x1x1024_S1x1x1024_1_0_0))

set_option maxHeartbeats 1000000 in
/-- The body on whole memrefs: the inputs keep their contents, each output ends at its value of them. -/
theorem sound_kernel0 (c : Dev nD) (E : Set ℕ) (i : grid0.Coords) (arg1 : Memref sig .tc .vmem S2048x300 .f32) (harg1 : arg1.IsWhole) (arg2 : Memref sig .tc .vmem S2x300x1024 .bf16) (harg2 : arg2.IsWhole) (arg3 : Memref sig .tc .vmem S2x1x1024 .f32) (harg3 : arg3.IsWhole) (arg4 : Memref sig .tc .vmem S32x64x1024 .bf16) (harg4 : arg4.IsWhole) (arg5 : Memref sig .tc .vmem S32x64x1024 .bf16) (harg5 : arg5.IsWhole) (x0 : Vec F S2048x300 .f32) (x1 : Vec F S2x300x1024 .bf16) (x2 : Vec F S2x1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0_content_proj i arg1 harg1 arg2 harg2 arg3 harg3 arg4 harg4 arg5 harg5) K := by
  simp only [cc0_content_proj_eq_skeleton]; unfold cc0_content_proj_skel
  unfold owns
  iintro ⟨⟨%f0, %h0, H0⟩, ⟨%f1, %h1, H1⟩, ⟨%f2, %h2, H2⟩, ⟨%d3, %f3, -, H3⟩, ⟨%d4, %f4, -, H4⟩, Hk⟩
  sl_exec
  sl_step
  iapply Hk
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists _; isplitr
    swap; · iexact H3
    ipureintro
    sl_unfold_run_names
    rw [View.read_writes_full]
    simp only [View.readAt_eq_ld, h0, h1, h2]
    repeat rw [View.ld_unit_zero (by decide)]
    try rfl
  iexists _; isplitr
  swap; · iexact H4
  ipureintro
  sl_unfold_run_names
  rw [View.read_writes_full]
  simp only [View.readAt_eq_ld, h0, h1, h2]
  repeat rw [View.ld_unit_zero (by decide)]
  try rfl

variable (V : (c : Dev nD) → (b : Ref sig .tc) → Buf (Elt F) ((c : Thread nD τ).loc b))

/-- The block of window `w` at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block when the body starts. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's buffer holds its block when the body starts. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's buffer holds its block when the body starts. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The call's proof data: the arrays as it finds them, each input's buffer left at its block, each output's at its value. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ n := Pipeline.ΦA spec0 c
  q _ := fullShare
  owed _ := 0

/-- The proof data's arrays. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

/-! What each input buffer holds when the body starts. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 1200000 in
/-- The body at any point takes what it is called with to what it returns. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t` is the body there. -/
theorem defs₀_row0 (t : Fin cfg0.N) :
    defs₀ (F := F) .tc cfg0.body (cfg0.bodyArgs t (cfg0.slots t)) = bodyAt0 t := by
  unfold defs₀; rw [Defs.onTc_tc]

/-- The body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.K

end
-- ==== Proof.KernelIdeal.Proj1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp
public import Idealize.ShloMosaic.Lib.WritesUnit
public import Idealize.ShloMosaic.Lib.Pointwise.Index

@[expose] public section

set_option maxRecDepth 16384

noncomputable section

namespace Cert.KernelIdeal.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Call 1: `cc1_content_proj_b` -/

/-- What the body leaves in output window 3's buffer, from the input blocks. -/
def out1_3 (x0 : Vec F S2048x300 .f32) (x1 : Vec F S2x300x1024 .bf16) (x2 : Vec F S2x1x1024 .f32) : Vec F S32x64x1024 .bf16 :=
  k1_pay2 x0 (View.ld x1 (Rect.unit (s := S2x300x1024) ![0, 0, 0] S1x300x1024.size inb_S2x300x1024_S1x300x1024_0_0_0)) (View.ld x2 (Rect.unit (s := S2x1x1024) ![0, 0, 0] S1x1x1024.size inb_S2x1x1024_S1x1x1024_0_0_0))

/-- What the body leaves in output window 4's buffer, from the input blocks. -/
def out1_4 (x0 : Vec F S2048x300 .f32) (x1 : Vec F S2x300x1024 .bf16) (x2 : Vec F S2x1x1024 .f32) : Vec F S32x64x1024 .bf16 :=
  k1_pay3 x0 (View.ld x1 (Rect.unit (s := S2x300x1024) ![1, 0, 0] S1x300x1024.size inb_S2x300x1024_S1x300x1024_1_0_0)) (View.ld x2 (Rect.unit (s := S2x1x1024) ![1, 0, 0] S1x1x1024.size inb_S2x1x1024_S1x1x1024_1_0_0))

set_option maxHeartbeats 1000000 in
/-- The body on whole memrefs: the inputs keep their contents, each output ends at its value of them. -/
theorem sound_kernel1 (c : Dev nD) (E : Set ℕ) (i : grid1.Coords) (arg1 : Memref sig .tc .vmem S2048x300 .f32) (harg1 : arg1.IsWhole) (arg2 : Memref sig .tc .hbm S640x64x1024 .bf16) (harg2 : arg2.IsWhole) (arg3 : Memref sig .tc .hbm S640x64x1024 .bf16) (harg3 : arg3.IsWhole) (arg4 : Memref sig .tc .vmem S2x300x1024 .bf16) (harg4 : arg4.IsWhole) (arg5 : Memref sig .tc .vmem S2x1x1024 .f32) (harg5 : arg5.IsWhole) (arg6 : Memref sig .tc .vmem S32x64x1024 .bf16) (harg6 : arg6.IsWhole) (arg7 : Memref sig .tc .vmem S32x64x1024 .bf16) (harg7 : arg7.IsWhole) (x0 : Vec F S2048x300 .f32) (x1 : Vec F S2x300x1024 .bf16) (x2 : Vec F S2x1x1024 .f32) (K : PUnit → sProp 𝕄) :
    iprop(owns (c : Thread nD τ) arg1 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (iprop(owns (c : Thread nD τ) arg1 fullShare x0 ∗ owns (c : Thread nD τ) arg4 fullShare x1 ∗ owns (c : Thread nD τ) arg5 fullShare x2 ∗ owns (c : Thread nD τ) arg6 fullShare (out1_3 x0 x1 x2) ∗ owns (c : Thread nD τ) arg7 fullShare (out1_4 x0 x1 x2)) -∗ K ⟨⟩))
      ⊢ wp frame (wpE (defs₀ (F := F)) Variants.none c none) E (cc1_content_proj_b i arg1 harg1 arg2 harg2 arg3 harg3 arg4 harg4 arg5 harg5 arg6 harg6 arg7 harg7) K := by
  simp only [cc1_content_proj_b_eq_skeleton]; unfold cc1_content_proj_b_skel
  unfold owns
  iintro ⟨⟨%f0, %h0, H0⟩, ⟨%f1, %h1, H1⟩, ⟨%f2, %h2, H2⟩, ⟨%d3, %f3, -, H3⟩, ⟨%d4, %f4, -, H4⟩, Hk⟩
  sl_exec
  sl_step
  iapply Hk
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists _; isplitr
    swap; · iexact H3
    ipureintro
    sl_unfold_run_names
    rw [View.read_writes_full]
    simp only [View.readAt_eq_ld, h0, h1, h2]
    repeat rw [View.ld_unit_zero (by decide)]
    try rfl
  iexists _; isplitr
  swap; · iexact H4
  ipureintro
  sl_unfold_run_names
  rw [View.read_writes_full]
  simp only [View.readAt_eq_ld, h0, h1, h2]
  repeat rw [View.ld_unit_zero (by decide)]
  try rfl

variable (V : (c : Dev nD) → (b : Ref sig .tc) → Buf (Elt F) ((c : Thread nD τ).loc b))

/-- The block of window `w` at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's buffer holds its block when the body starts. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's buffer holds its block when the body starts. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's buffer holds its block when the body starts. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The call's proof data: the arrays as it finds them, each input's buffer left at its block, each output's at its value. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ n := Pipeline.ΦA spec1 c
  q _ := fullShare
  owed _ := 0

/-- The proof data's arrays. -/
theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

/-! What each input buffer holds when the body starts. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 1200000 in
/-- The body at any point takes what it is called with to what it returns. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t` is the body there. -/
theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.K

end
-- ==== Proof.KernelIdeal.Title.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp
public import Idealize.ShloMosaic.Lib.WritesUnit
public import Idealize.ShloMosaic.Lib.Pointwise.Index

@[expose] public section

set_option maxRecDepth 16384

noncomputable section

namespace Cert.KernelIdeal.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Call 2: `cc2_title_q` -/

/-! # The title call's loop: the state after each trip, and one trip -/

/-- The whole of a hidden or cell state, of a weight, and the rows of the gate buffer trip `k` reads. -/
abbrev rs2 : Rect S64x256 := Rect.unit (s := S64x256) ![0, 0] S64x256.size inb_S64x256_S64x256_0_0
abbrev rw2 : Rect S256x1024 := Rect.unit (s := S256x1024) ![0, 0] S256x1024.size inb_S256x1024_S256x1024_0_0
abbrev rp2 (k : Fin k2_t1_loop.trips) : Rect S24x64x1024 := Rect.unit (s := S24x64x1024) (k2_off1 k) S1x64x1024.size (k2_off1_inb k)

/-- One step of the recurrence: hidden and cell state from the gates' input part `p`, the state and the weights. -/
def tStep (pre : Vec F S24x64x1024 .f32) (w : Vec F S256x1024 .f32) (k : Fin k2_t1_loop.trips)
    (s : Vec F S64x256 .f32 × Vec F S64x256 .f32) : Vec F S64x256 .f32 × Vec F S64x256 .f32 :=
  (k2_pay8 (View.ld pre (rp2 k)) s.1 s.2 w, k2_pay9 (View.ld pre (rp2 k)) s.1 s.2 w)

/-- Hidden and cell state before trip `k`, from the zero state. -/
def tSt (pre : Vec F S24x64x1024 .f32) (w : Vec F S256x1024 .f32) : ℕ → Vec F S64x256 .f32 × Vec F S64x256 .f32
  | 0 => (k2_pay4, k2_pay5)
  | k + 1 => if h : k < k2_t1_loop.trips then tStep pre w ⟨k, h⟩ (tSt pre w k) else tSt pre w k

theorem tSt_succ (pre : Vec F S24x64x1024 .f32) (w : Vec F S256x1024 .f32) (k : Fin k2_t1_loop.trips) :
    tSt pre w (k.val + 1) = tStep pre w k (tSt pre w k.val) := by
  show (if h : k.val < k2_t1_loop.trips then tStep pre w ⟨k.val, h⟩ (tSt pre w k.val) else _) = _
  rw [dif_pos k.isLt]

/-- What the loop holds before trip `k`: the gate buffer and the weights at their contents, the two states at `tSt`. -/
def tInv (c : Dev nD) (arg0 : Memref sig .tc .vmem S1536x300 .f32) (harg0 : arg0.IsWhole) (arg1 : Memref sig .tc .vmem S300x2048 .f32) (harg1 : arg1.IsWhole) (arg2 : Memref sig .tc .vmem S1x2048 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S512x512 .f32) (harg5 : arg5.IsWhole) (arg6 : Memref sig .tc .vmem S64x512 .f32) (harg6 : arg6.IsWhole) (arg7 : Memref sig .tc .vmem S24x64x1024 .f32) (harg7 : arg7.IsWhole) (arg8 : Memref sig .tc .vmem S64x256 .f32) (harg8 : arg8.IsWhole) (arg9 : Memref sig .tc .vmem S64x256 .f32) (harg9 : arg9.IsWhole)
    (pre : Vec F S24x64x1024 .f32) (w : Vec F S256x1024 .f32) (k : ℕ) : sProp 𝕄 :=
  iprop(owns (c : Thread nD τ) arg3 fullShare w ∗ owns (c : Thread nD τ) arg7 fullShare pre
    ∗ owns (c : Thread nD τ) arg8 fullShare (tSt pre w k).1 ∗ owns (c : Thread nD τ) arg9 fullShare (tSt pre w k).2)

set_option maxHeartbeats 1000000 in
/-- One trip takes the invariant from `k` to `k + 1`. -/
theorem tTrip (c : Dev nD) (E : Set ℕ) (arg0 : Memref sig .tc .vmem S1536x300 .f32) (harg0 : arg0.IsWhole) (arg1 : Memref sig .tc .vmem S300x2048 .f32) (harg1 : arg1.IsWhole) (arg2 : Memref sig .tc .vmem S1x2048 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S512x512 .f32) (harg5 : arg5.IsWhole) (arg6 : Memref sig .tc .vmem S64x512 .f32) (harg6 : arg6.IsWhole) (arg7 : Memref sig .tc .vmem S24x64x1024 .f32) (harg7 : arg7.IsWhole) (arg8 : Memref sig .tc .vmem S64x256 .f32) (harg8 : arg8.IsWhole) (arg9 : Memref sig .tc .vmem S64x256 .f32) (harg9 : arg9.IsWhole)
    (pre : Vec F S24x64x1024 .f32) (w : Vec F S256x1024 .f32) (k : Fin k2_t1_loop.trips) (acc : Unit) :
    tInv c arg0 harg0 arg1 harg1 arg2 harg2 arg3 harg3 arg4 harg4 arg5 harg5 arg6 harg6 arg7 harg7 arg8 harg8 arg9 harg9 pre w k.val ⊢ wp frame (wpE (defs₀ (F := F)) Variants.none c none) E
      (k2_t1_body arg0 harg0 arg1 harg1 arg2 harg2 arg3 harg3 arg4 harg4 arg5 harg5 arg6 harg6 arg7 harg7 arg8 harg8 arg9 harg9 k acc) (fun _ => tInv c arg0 harg0 arg1 harg1 arg2 harg2 arg3 harg3 arg4 harg4 arg5 harg5 arg6 harg6 arg7 harg7 arg8 harg8 arg9 harg9 pre w (k.val + 1)) := by
  unfold tInv
  rw [tSt_succ]
  generalize tSt pre w k.val = s
  unfold owns
  iintro ⟨⟨%f3, %h3, H3⟩, ⟨%f7, %h7, H7⟩, ⟨%f8, %h8, H8⟩, ⟨%f9, %h9, H9⟩⟩
  unfold k2_t1_body
  sl_exec
  sl_step
  isplitl [H3]
  · iexists f3; isplitr; · ipureintro; exact h3
    iexact H3
  isplitl [H7]
  · iexists f7; isplitr; · ipureintro; exact h7
    iexact H7
  isplitl [H8]
  · iexists _; isplitr
    swap; · iexact H8
    ipureintro
    rw [View.read_writes_full]
    sl_unfold_run_names
    simp only [View.readAt_eq_ld, h3, h7, h8, h9]
    rw [View.ld_unit_zero (by decide), View.ld_unit_zero (by decide), View.ld_unit_zero (by decide)]
    rfl
  · iexists _; isplitr
    swap; · iexact H9
    ipureintro
    rw [View.read_writes_full]
    sl_unfold_run_names
    simp only [View.readAt_eq_ld, h3, h7, h8, h9]
    rw [View.ld_unit_zero (by decide), View.ld_unit_zero (by decide), View.ld_unit_zero (by decide)]
    rfl

/-- The forward gates' input parts, of all steps at once. -/
def pre2 (x0 : Vec F S1536x300 .f32) (x1 : Vec F S300x2048 .f32) (x2 : Vec F S1x2048 .f32) : Vec F S24x64x1024 .f32 :=
  k2_pay3 x0 (View.ld x1 (Rect.unit (s := S300x2048) ![0, 0] S300x1024.size inb_S300x2048_S300x1024_0_0))
    (View.ld x2 (Rect.unit (s := S1x2048) ![0, 0] S1x1024.size inb_S1x2048_S1x1024_0_0))

/-- What the title call leaves in its output, from its operands. -/
def out2_6 (x0 : Vec F S1536x300 .f32) (x1 : Vec F S300x2048 .f32) (x2 : Vec F S1x2048 .f32) (x3 : Vec F S256x1024 .f32) (x4 : Vec F S256x1024 .f32) (x5 : Vec F S512x512 .f32) : Vec F S64x512 .f32 :=
  k2_pay1 (k2_pay10 x0 (View.ld x1 (Rect.unit (s := S300x2048) ![0, 1024] S300x1024.size inb_S300x2048_S300x1024_0_1024))
      (View.ld x2 (Rect.unit (s := S1x2048) ![0, 1024] S1x1024.size inb_S1x2048_S1x1024_0_1024)))
    (Scalar.ofBits .f32 0x00000000#32) x4 (tSt (pre2 x0 x1 x2) x3 k2_t1_loop.trips).1 x5

set_option maxHeartbeats 1000000 in
/-- The title call's body on whole memrefs: the inputs keep their contents, the output ends at `out2_6` of them. -/
theorem sound_kernel2 (c : Dev nD) (E : Set ℕ) (arg0 : Memref sig .tc .vmem S1536x300 .f32) (harg0 : arg0.IsWhole) (arg1 : Memref sig .tc .vmem S300x2048 .f32) (harg1 : arg1.IsWhole) (arg2 : Memref sig .tc .vmem S1x2048 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S512x512 .f32) (harg5 : arg5.IsWhole) (arg6 : Memref sig .tc .vmem S64x512 .f32) (harg6 : arg6.IsWhole) (arg7 : Memref sig .tc .vmem S24x64x1024 .f32) (harg7 : arg7.IsWhole) (arg8 : Memref sig .tc .vmem S64x256 .f32) (harg8 : arg8.IsWhole) (arg9 : Memref sig .tc .vmem S64x256 .f32) (harg9 : arg9.IsWhole) (x0 : Vec F S1536x300 .f32) (x1 : Vec F S300x2048 .f32) (x2 : Vec F S1x2048 .f32) (x3 : Vec F S256x1024 .f32) (x4 : Vec F S256x1024 .f32) (x5 : Vec F S512x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out2_6 x0 x1 x2 x3 x4 x5) ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc2_title_q arg0 harg0 arg1 harg1 arg2 harg2 arg3 harg3 arg4 harg4 arg5 harg5 arg6 harg6 arg7 harg7 arg8 harg8 arg9 harg9) K := by
  simp only [cc2_title_q_eq_skeleton]; unfold cc2_title_q_skel
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%d6, %f6, -, H6⟩, ⟨%d7, %f7, -, H7⟩, ⟨%d8, %f8, -, H8⟩, ⟨%d9, %f9, -, H9⟩, Hk⟩
  sl_exec
  sl_for (fun k _ => tInv c arg0 harg0 arg1 harg1 arg2 harg2 arg3 harg3 arg4 harg4 arg5 harg5 arg6 harg6 arg7 harg7 arg8 harg8 arg9 harg9 (pre2 x0 x1 x2) x3 k) $$ [H3 H7 H8 H9]
  · intro k acc; exact tTrip c E arg0 harg0 arg1 harg1 arg2 harg2 arg3 harg3 arg4 harg4 arg5 harg5 arg6 harg6 arg7 harg7 arg8 harg8 arg9 harg9 _ _ k acc
  · unfold tInv owns
    isplitl [H3]
    · iexists f3; isplitr; · ipureintro; exact h3
      iexact H3
    isplitl [H7]
    · iexists _; isplitr
      swap; · iexact H7
      ipureintro
      sl_unfold_run_names
      rw [View.read_writes_full]
      simp only [View.readAt_eq_ld, h0, h1, h2]
      rw [View.ld_unit_zero (by decide)]
      rfl
    isplitl [H8]
    · iexists _; isplitr
      swap; · iexact H8
      ipureintro; sl_unfold_run_names; exact View.read_writes_full _ _ _ _ _
    · iexists _; isplitr
      swap; · iexact H9
      ipureintro; sl_unfold_run_names; exact View.read_writes_full _ _ _ _ _
  iintro %acc HI
  unfold tInv owns
  icases HI with ⟨⟨%g3, %e3, H3⟩, ⟨%g7, %e7, H7⟩, ⟨%g8, %e8, H8⟩, ⟨%g9, %e9, H9⟩⟩
  sl_exec
  sl_step
  iapply Hk
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists g3; isplitr; · ipureintro; exact e3
    iexact H3
  isplitl [H4]
  · iexists f4; isplitr; · ipureintro; exact h4
    iexact H4
  isplitl [H5]
  · iexists f5; isplitr; · ipureintro; exact h5
    iexact H5
  isplitl [H6]
  · iexists _; isplitr
    swap; · iexact H6
    ipureintro
    sl_unfold_run_names
    rw [View.read_writes_full]
    simp only [View.readAt_eq_ld, h0, h1, h2, h4, h5, e8]
    rw [View.ld_unit_zero (by decide), View.ld_unit_zero (by decide), View.ld_unit_zero (by decide), View.ld_unit_zero (by decide)]
    rfl
  isplitl [H7]
  · iexists _, _; isplitr; swap; · iexact H7
    ipureintro; rfl
  isplitl [H8]
  · iexists _, _; isplitr; swap; · iexact H8
    ipureintro; rfl
  iexists _, _; isplitr; swap; · iexact H9
  ipureintro; rfl

variable (V : (c : Dev nD) → (b : Ref sig .tc) → Buf (Elt F) ((c : Thread nD τ).loc b))

/-! The call's scratch buffers. -/
abbrev scM2_0 : Memref sig .tc .vmem S24x64x1024 .f32 := Memref.whole cc2_scratch0
abbrev scM2_1 : Memref sig .tc .vmem S64x256 .f32 := Memref.whole cc2_scratch1
abbrev scM2_2 : Memref sig .tc .vmem S64x256 .f32 := Memref.whole cc2_scratch2

/-- The buffers a region leaves alone, as one chain: the call's own scratch, then every other one. -/
theorem scopedRest2_flat (c : Dev nD) :
    (Pipeline.scopedRest spec2 c : sProp 𝕄)
      = iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ (∃ f : Buf (Elt F) ((c : Thread nD τ).loc cc2_scratch2), ((c : Thread nD τ).loc cc2_scratch2) ↦{fullShare} f) ∗ Pipeline.scopedRestBut spec2 c [cc2_scratch0, cc2_scratch1, cc2_scratch2]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest2_split, assoc, assoc]

/-- The invariant between points, its scratch as memrefs owned at some contents. -/
theorem PhiA2_eq (c : Dev nD) :
    (Pipeline.ΦA spec2 c : sProp 𝕄)
      = iprop(iprop((∃ d, owns (c : Thread nD τ) scM2_0 fullShare d) ∗ (∃ d, owns (c : Thread nD τ) scM2_1 fullShare d) ∗ (∃ d, owns (c : Thread nD τ) scM2_2 fullShare d) ∗ Pipeline.scopedRestBut spec2 c [cc2_scratch0, cc2_scratch1, cc2_scratch2]) ∗ (∃ r, prngReg c r)) := by
  unfold Pipeline.ΦA; rw [scopedRest2_flat]; simp only [scM2_0, scM2_1, scM2_2, owns_whole]; try rfl

/-- The block of window `w` at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's buffer holds its block when the body starts. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's buffer holds its block when the body starts. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's buffer holds its block when the body starts. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's buffer holds its block when the body starts. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's buffer holds its block when the body starts. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's buffer holds its block when the body starts. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The call's proof data: the arrays as it finds them, each input's buffer left at its block, each output's at its value. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ n := Pipeline.ΦA spec2 c
  q _ := fullShare
  owed _ := 0

/-- The proof data's arrays. -/
theorem A_eq2 (c : Dev nD) (w : Fin cfg2.W) : (dat2 V c).A w = V c (Pipeline.arrRef spec2 w) := by
  dsimp only [dat2]

/-! What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-! What each input buffer holds when the body starts. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

set_option maxHeartbeats 1200000 in
/-- The body at any point takes what it is called with to what it returns. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  rw [show (dat2 V c).Φ t.castSucc = Pipeline.ΦA spec2 c from rfl, PhiA2_eq]
  iintro ⟨⟨⟨HS0, HS1, HS2, HR⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨H0, H1, H2, H3, H4, H5, H6, HS0, HS1, HS2⟩
  isplitl [HS0 HS1 HS2 HR Hg]
  · isplitl [HS0 HS1 HS2 HR]
    · isplitl [HS0]; · iexact HS0
      isplitl [HS1]; · iexact HS1
      isplitl [HS2]; · iexact HS2
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t` is the body there. -/
theorem defs₀_row2 (t : Fin cfg2.N) :
    defs₀ (F := F) .tc cfg2.body (cfg2.bodyArgs t (cfg2.slots t)) = bodyAt2 t := by
  unfold defs₀; rw [Defs.onTc_tc]

/-- The body obligation, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.K

end
-- ==== Proof.KernelIdeal.Scan.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp
public import Idealize.ShloMosaic.Lib.WritesUnit
public import Idealize.ShloMosaic.Lib.Pointwise.Index

@[expose] public section

set_option maxRecDepth 16384

noncomputable section

namespace Cert.KernelIdeal.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Call 3: `cc3_content_scan` -/

/-! # The scan call's loop: the state after each trip, the rows it leaves, and one trip -/

/-- Forward hidden and cell state, backward hidden and cell state. -/
abbrev St (F : FTy → Type) [FloatOps F] : Type := Vec F S64x256 .f32 × Vec F S64x256 .f32 × Vec F S64x256 .f32 × Vec F S64x256 .f32

/-- The rows of the gates trip `k` reads, forward and backward, and the two recurrent weights. -/
abbrev rgf (k : Fin k3_t1_loop.trips) : Rect S16x64x1024 := Rect.unit (s := S16x64x1024) (k3_off1 k) S1x64x1024.size (k3_off1_inb k)
abbrev rgb (k : Fin k3_t1_loop.trips) : Rect S16x64x1024 := Rect.unit (s := S16x64x1024) (k3_off3 k) S1x64x1024.size (k3_off3_inb k)
abbrev rwf : Rect S2x256x1024 := Rect.unit (s := S2x256x1024) ![0, 0, 0] S1x256x1024.size inb_S2x256x1024_S1x256x1024_0_0_0
abbrev rwb : Rect S2x256x1024 := Rect.unit (s := S2x256x1024) ![1, 0, 0] S1x256x1024.size inb_S2x256x1024_S1x256x1024_1_0_0
abbrev rqf : Rect S2x64x256 := Rect.unit (s := S2x64x256) ![0, 0, 0] S1x64x256.size inb_S2x64x256_S1x64x256_0_0_0
abbrev rqb : Rect S2x64x256 := Rect.unit (s := S2x64x256) ![1, 0, 0] S1x64x256.size inb_S2x64x256_S1x64x256_1_0_0

/-- The row of the block the backward recurrence takes at trip `k`. -/
abbrev jrev (k : Fin k3_t1_loop.trips) : BitVec 32 := Scalar.subi 15#32 (Scf.iv 0#32 1#32 k)

/-- One trip on the state, at the point whose grid coordinate is `a`. -/
def sStep (a : BitVec 32) (x0 x1 : Vec F S16x64x1024 .bf16) (x2 : Vec F S2x256x1024 .bf16) (k : Fin k3_t1_loop.trips) (s : St F) : St F :=
  (k3_pay12 (View.ld x0 (rgf k)) s.1 s.2.1 (View.ld x2 rwf),
   k3_pay13 (View.ld x0 (rgf k)) s.1 s.2.1 (View.ld x2 rwf),
   k3_pay18 a (jrev k) (View.ld x1 (rgb k)) s.2.2.1 s.2.2.2 (View.ld x2 rwb) s.2.2.1,
   k3_pay19 a (jrev k) (View.ld x1 (rgb k)) s.2.2.1 s.2.2.2 (View.ld x2 rwb) s.2.2.2)

/-- The state before trip `k` of a point entered at `s`. -/
def sSt (a : BitVec 32) (x0 x1 : Vec F S16x64x1024 .bf16) (x2 : Vec F S2x256x1024 .bf16) (s : St F) : ℕ → St F
  | 0 => s
  | k + 1 => if h : k < k3_t1_loop.trips then sStep a x0 x1 x2 ⟨k, h⟩ (sSt a x0 x1 x2 s k) else sSt a x0 x1 x2 s k

theorem sSt_succ (a : BitVec 32) (x0 x1 : Vec F S16x64x1024 .bf16) (x2 : Vec F S2x256x1024 .bf16) (s : St F) (k : Fin k3_t1_loop.trips) :
    sSt a x0 x1 x2 s (k.val + 1) = sStep a x0 x1 x2 k (sSt a x0 x1 x2 s k.val) := by
  show (if h : k.val < k3_t1_loop.trips then sStep a x0 x1 x2 ⟨k.val, h⟩ (sSt a x0 x1 x2 s k.val) else _) = _
  rw [dif_pos k.isLt]

theorem trips3 : k3_t1_loop.trips = 16 := by decide

/-- The trip that writes forward row `n`, and the one that writes backward row `n`. -/
abbrev tripF (n : Fin 16) : Fin k3_t1_loop.trips := ⟨n.val, by rw [trips3]; exact n.isLt⟩
abbrev tripB (n : Fin 16) : Fin k3_t1_loop.trips := ⟨15 - n.val, by rw [trips3]; omega⟩

/-- What trip `k` writes to the forward rows, and to the backward ones. -/
def rowF (x0 x1 : Vec F S16x64x1024 .bf16) (x2 : Vec F S2x256x1024 .bf16) (k : Fin k3_t1_loop.trips) (s : St F) : Vec F S1x64x256 .f32 :=
  k3_pay14 (View.ld x0 (rgf k)) s.1 s.2.1 (View.ld x2 rwf)
def rowB (a : BitVec 32) (x0 x1 : Vec F S16x64x1024 .bf16) (x2 : Vec F S2x256x1024 .bf16) (k : Fin k3_t1_loop.trips) (s : St F) : Vec F S1x64x256 .f32 :=
  k3_pay6 (k3_pay20 a (jrev k) (View.ld x1 (rgb k)) s.2.2.1 s.2.2.2 (View.ld x2 rwb) s.2.2.1)

/-- All forward rows and all backward rows of a point entered at `s`. -/
def allF (a : BitVec 32) (x0 x1 : Vec F S16x64x1024 .bf16) (x2 : Vec F S2x256x1024 .bf16) (s : St F) : Vec F S16x64x256 .f32 :=
  fun y => rowF x0 x1 x2 (tripF (y 0)) (sSt a x0 x1 x2 s (y 0).val) (ix3 (n0 := 1) 0 (y 1) (y 2))
def allB (a : BitVec 32) (x0 x1 : Vec F S16x64x1024 .bf16) (x2 : Vec F S2x256x1024 .bf16) (s : St F) : Vec F S16x64x256 .f32 :=
  fun y => rowB a x0 x1 x2 (tripB (y 0)) (sSt a x0 x1 x2 s (15 - (y 0).val)) (ix3 (n0 := 1) 0 (y 1) (y 2))

/-- What the loop holds before trip `k`: the blocks at their contents, the state at `sSt`, and the rows written so far. -/
def sInv (c : Dev nD) (i : grid3.Coords) (arg1 : Memref sig .tc .vmem S16x64x1024 .bf16) (harg1 : arg1.IsWhole) (arg2 : Memref sig .tc .vmem S16x64x1024 .bf16) (harg2 : arg2.IsWhole) (arg3 : Memref sig .tc .vmem S2x256x1024 .bf16) (harg3 : arg3.IsWhole) (arg4 : Memref sig .tc .vmem S2x64x256 .f32) (harg4 : arg4.IsWhole) (arg5 : Memref sig .tc .vmem S16x1x64 .f32) (harg5 : arg5.IsWhole) (arg6 : Memref sig .tc .vmem S16x1x64 .f32) (harg6 : arg6.IsWhole) (arg7 : Memref sig .tc .vmem S64x256 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S64x256 .f32) (harg10 : arg10.IsWhole) (arg11 : Memref sig .tc .vmem S16x64x256 .f32) (harg11 : arg11.IsWhole) (arg12 : Memref sig .tc .vmem S16x64x256 .f32) (harg12 : arg12.IsWhole) (a : BitVec 32)
    (x0 x1 : Vec F S16x64x1024 .bf16) (x2 : Vec F S2x256x1024 .bf16) (s : St F) (k : ℕ) : sProp 𝕄 :=
  iprop(owns (c : Thread nD τ) arg1 fullShare x0 ∗ owns (c : Thread nD τ) arg2 fullShare x1 ∗ owns (c : Thread nD τ) arg3 fullShare x2
    ∗ owns (c : Thread nD τ) arg7 fullShare (sSt a x0 x1 x2 s k).1 ∗ owns (c : Thread nD τ) arg8 fullShare (sSt a x0 x1 x2 s k).2.1
    ∗ owns (c : Thread nD τ) arg9 fullShare (sSt a x0 x1 x2 s k).2.2.1 ∗ owns (c : Thread nD τ) arg10 fullShare (sSt a x0 x1 x2 s k).2.2.2
    ∗ (∃ g : Vec F S16x64x256 .f32, ⌜∀ y : S16x64x256.Idx, (y 0).val < k → g y = allF a x0 x1 x2 s y⌝ ∗ owns (c : Thread nD τ) arg11 fullShare g)
    ∗ (∃ g : Vec F S16x64x256 .f32, ⌜∀ y : S16x64x256.Idx, 15 < (y 0).val + k → g y = allB a x0 x1 x2 s y⌝ ∗ owns (c : Thread nD τ) arg12 fullShare g))

set_option maxHeartbeats 2000000 in
/-- One trip takes the invariant from `k` to `k + 1`. -/
theorem sTrip (c : Dev nD) (E : Set ℕ) (i : grid3.Coords) (arg1 : Memref sig .tc .vmem S16x64x1024 .bf16) (harg1 : arg1.IsWhole) (arg2 : Memref sig .tc .vmem S16x64x1024 .bf16) (harg2 : arg2.IsWhole) (arg3 : Memref sig .tc .vmem S2x256x1024 .bf16) (harg3 : arg3.IsWhole) (arg4 : Memref sig .tc .vmem S2x64x256 .f32) (harg4 : arg4.IsWhole) (arg5 : Memref sig .tc .vmem S16x1x64 .f32) (harg5 : arg5.IsWhole) (arg6 : Memref sig .tc .vmem S16x1x64 .f32) (harg6 : arg6.IsWhole) (arg7 : Memref sig .tc .vmem S64x256 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S64x256 .f32) (harg10 : arg10.IsWhole) (arg11 : Memref sig .tc .vmem S16x64x256 .f32) (harg11 : arg11.IsWhole) (arg12 : Memref sig .tc .vmem S16x64x256 .f32) (harg12 : arg12.IsWhole)
    (a : BitVec 32) (x0 x1 : Vec F S16x64x1024 .bf16) (x2 : Vec F S2x256x1024 .bf16) (s : St F) (k : Fin k3_t1_loop.trips) (acc : Unit) :
    sInv c i arg1 harg1 arg2 harg2 arg3 harg3 arg4 harg4 arg5 harg5 arg6 harg6 arg7 harg7 arg8 harg8 arg9 harg9 arg10 harg10 arg11 harg11 arg12 harg12 a x0 x1 x2 s k.val ⊢ wp frame (wpE (defs₀ (F := F)) Variants.none c none) E
      (k3_t1_body i arg1 harg1 arg2 harg2 arg3 harg3 arg4 harg4 arg5 harg5 arg6 harg6 arg7 harg7 arg8 harg8 arg9 harg9 arg10 harg10 arg11 harg11 arg12 harg12 a k acc) (fun _ => sInv c i arg1 harg1 arg2 harg2 arg3 harg3 arg4 harg4 arg5 harg5 arg6 harg6 arg7 harg7 arg8 harg8 arg9 harg9 arg10 harg10 arg11 harg11 arg12 harg12 a x0 x1 x2 s (k.val + 1)) := by
  unfold sInv
  rw [sSt_succ]
  have hF : ∀ y : S16x64x256.Idx, (y 0).val = k.val →
      allF a x0 x1 x2 s y = rowF x0 x1 x2 k (sSt a x0 x1 x2 s k.val) (ix3 (n0 := 1) 0 (y 1) (y 2)) := fun y h => by
    unfold allF; rw [show tripF (y 0) = k from Fin.ext h, h]
  have hB : ∀ y : S16x64x256.Idx, (y 0).val = 15 - k.val →
      allB a x0 x1 x2 s y = rowB a x0 x1 x2 k (sSt a x0 x1 x2 s k.val) (ix3 (n0 := 1) 0 (y 1) (y 2)) := fun y h => by
    have hk : k.val < 16 := trips3 ▸ k.isLt
    have hh : 15 - (y 0).val = k.val := by omega
    unfold allB; rw [show tripB (y 0) = k from Fin.ext hh, hh]
  revert hF hB
  generalize sSt a x0 x1 x2 s k.val = t
  intro hF hB
  unfold owns
  iintro ⟨⟨%f1, %h1, H1⟩, ⟨%f2, %h2, H2⟩, ⟨%f3, %h3, H3⟩, ⟨%f7, %h7, H7⟩, ⟨%f8, %h8, H8⟩, ⟨%f9, %h9, H9⟩, ⟨%f10, %h10, H10⟩, ⟨%g11, %e11, ⟨%f11, %h11, H11⟩⟩, ⟨%g12, %e12, ⟨%f12, %h12, H12⟩⟩⟩
  subst h11 h12
  unfold k3_t1_body
  simp only [k3_part1_eq_skeleton, k3_part2_eq_skeleton]; unfold k3_part1_skel k3_part2_skel
  sl_exec
  sl_step
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H7]
  · iexists _; isplitr
    swap; · iexact H7
    ipureintro
    sl_unfold_run_names
    rw [View.read_writes_full]
    simp only [View.readAt_eq_ld, h1, h2, h3, h7, h8, h9, h10]
    repeat rw [View.ld_unit_zero (by decide)]
    rfl
  isplitl [H8]
  · iexists _; isplitr
    swap; · iexact H8
    ipureintro
    sl_unfold_run_names
    rw [View.read_writes_full]
    simp only [View.readAt_eq_ld, h1, h2, h3, h7, h8, h9, h10]
    repeat rw [View.ld_unit_zero (by decide)]
    rfl
  isplitl [H9]
  · iexists _; isplitr
    swap; · iexact H9
    ipureintro
    sl_unfold_run_names
    rw [View.read_writes_full]
    simp only [View.readAt_eq_ld, h1, h2, h3, h7, h8, h9, h10]
    repeat rw [View.ld_unit_zero (by decide)]
    rfl
  isplitl [H10]
  · iexists _; isplitr
    swap; · iexact H10
    ipureintro
    sl_unfold_run_names
    rw [View.read_writes_full]
    simp only [View.readAt_eq_ld, h1, h2, h3, h7, h8, h9, h10]
    repeat rw [View.ld_unit_zero (by decide)]
    rfl
  isplitl [H11]
  · iexists _; isplitr
    swap
    · iexists _; isplitr
      swap; · iexact H11
      ipureintro; rfl
    ipureintro
    intro y hy
    sl_unfold_run_names
    by_cases hk : (y 0).val = k.val
    · rw [hF y hk]
      refine (View.read_writes_cons_unit_of_mem _ _ _ _ _ y (ix3 (n0 := 1) 0 (y 1) (y 2)) (k3_off2_eq k) ?_).trans ?_
      · intro b
        match b with
        | ⟨0, _⟩ => exact hk
        | ⟨1, _⟩ => exact (Nat.zero_add _).symm
        | ⟨2, _⟩ => exact (Nat.zero_add _).symm
      · unfold rowF
        simp only [View.readAt_eq_ld, h1, h2, h3, h7, h8, h9, h10]
        repeat rw [View.ld_unit_zero (by decide)]
        try rfl
    · refine (View.read_writes_cons_unit_of_not_mem _ _ _ _ _ y (k3_off2_eq k) 0 (.inl ?_)).trans ?_
      · show (y 0).val < k.val
        omega
      · exact e11 y (by omega)
  · iexists _; isplitr
    swap
    · iexists _; isplitr
      swap; · iexact H12
      ipureintro; rfl
    ipureintro
    intro y hy
    have hk16 : k.val < 16 := trips3 ▸ k.isLt
    sl_unfold_run_names
    by_cases hk : (y 0).val = 15 - k.val
    · rw [hB y hk]
      refine (View.read_writes_cons_unit_of_mem _ _ _ _ _ y (ix3 (n0 := 1) 0 (y 1) (y 2)) (k3_off4_eq k) ?_).trans ?_
      · intro b
        match b with
        | ⟨0, _⟩ => exact hk
        | ⟨1, _⟩ => exact (Nat.zero_add _).symm
        | ⟨2, _⟩ => exact (Nat.zero_add _).symm
      · unfold rowB
        simp only [View.readAt_eq_ld, h1, h2, h3, h7, h8, h9, h10]
        repeat rw [View.ld_unit_zero (by decide)]
        try rfl
    · refine (View.read_writes_cons_unit_of_not_mem _ _ _ _ _ y (k3_off4_eq k) 0 (.inr ?_)).trans ?_
      · show 15 - k.val + 1 ≤ (y 0).val
        omega
      · exact e12 y (by omega)

/-- The grid coordinate as the kernel reads it, and the state a point starts its trips from. -/
abbrev coord3 (i : grid3.Coords) : BitVec 32 := BitVec.ofNat 32 (i 0).val
abbrev first3 (i : grid3.Coords) : Prop :=
  Scalar.cmpi .ne (Scalar.extui (Scalar.cmpi .eq (coord3 i) 0#32) : BitVec 32) 0#32 = 1#1
def zeroSt : St F := (k3_pay2, k3_pay3, k3_pay4, k3_pay5)
def start3 (i : grid3.Coords) (s : St F) : St F := if first3 i then zeroSt else s

/-- The scores a point leaves, forward and backward, from its blocks, the query and the state its trips start from. -/
def out3_4 (a : BitVec 32) (x0 x1 : Vec F S16x64x1024 .bf16) (x2 : Vec F S2x256x1024 .bf16) (x3 : Vec F S2x64x256 .f32) (s : St F) : Vec F S16x1x64 .f32 :=
  k3_pay7 (allF a x0 x1 x2 s) (View.ld x3 rqf)
def out3_5 (a : BitVec 32) (x0 x1 : Vec F S16x64x1024 .bf16) (x2 : Vec F S2x256x1024 .bf16) (x3 : Vec F S2x64x256 .f32) (s : St F) : Vec F S16x1x64 .f32 :=
  k3_pay8 (allB a x0 x1 x2 s) (View.ld x3 rqb)

/-- The state a point leaves. -/
def next3 (a : BitVec 32) (x0 x1 : Vec F S16x64x1024 .bf16) (x2 : Vec F S2x256x1024 .bf16) (s : St F) : St F := sSt a x0 x1 x2 s k3_t1_loop.trips

set_option maxHeartbeats 4000000 in
/-- The scan call's body on whole memrefs, entered with the state `s` in its scratch: the inputs keep their contents, the
    two outputs end at the scores, the state at the next one. -/
theorem sound_kernel3 (c : Dev nD) (E : Set ℕ) (i : grid3.Coords) (arg1 : Memref sig .tc .vmem S16x64x1024 .bf16) (harg1 : arg1.IsWhole) (arg2 : Memref sig .tc .vmem S16x64x1024 .bf16) (harg2 : arg2.IsWhole) (arg3 : Memref sig .tc .vmem S2x256x1024 .bf16) (harg3 : arg3.IsWhole) (arg4 : Memref sig .tc .vmem S2x64x256 .f32) (harg4 : arg4.IsWhole) (arg5 : Memref sig .tc .vmem S16x1x64 .f32) (harg5 : arg5.IsWhole) (arg6 : Memref sig .tc .vmem S16x1x64 .f32) (harg6 : arg6.IsWhole) (arg7 : Memref sig .tc .vmem S64x256 .f32) (harg7 : arg7.IsWhole) (arg8 : Memref sig .tc .vmem S64x256 .f32) (harg8 : arg8.IsWhole) (arg9 : Memref sig .tc .vmem S64x256 .f32) (harg9 : arg9.IsWhole) (arg10 : Memref sig .tc .vmem S64x256 .f32) (harg10 : arg10.IsWhole) (arg11 : Memref sig .tc .vmem S16x64x256 .f32) (harg11 : arg11.IsWhole) (arg12 : Memref sig .tc .vmem S16x64x256 .f32) (harg12 : arg12.IsWhole) (x0 x1 : Vec F S16x64x1024 .bf16) (x2 : Vec F S2x256x1024 .bf16) (x3 : Vec F S2x64x256 .f32) (s : St F) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
      ∗ owns (c : Thread nD τ) arg7 fullShare s.1 ∗ owns (c : Thread nD τ) arg8 fullShare s.2.1 ∗ owns (c : Thread nD τ) arg9 fullShare s.2.2.1 ∗ owns (c : Thread nD τ) arg10 fullShare s.2.2.2 ∗ (∃ d, owns (c : Thread nD τ) arg11 fullShare d) ∗ (∃ d, owns (c : Thread nD τ) arg12 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare (out3_4 (coord3 i) x0 x1 x2 x3 (start3 i s)) ∗ owns (c : Thread nD τ) arg6 fullShare (out3_5 (coord3 i) x0 x1 x2 x3 (start3 i s))
          ∗ owns (c : Thread nD τ) arg7 fullShare (next3 (coord3 i) x0 x1 x2 (start3 i s)).1 ∗ owns (c : Thread nD τ) arg8 fullShare (next3 (coord3 i) x0 x1 x2 (start3 i s)).2.1
          ∗ owns (c : Thread nD τ) arg9 fullShare (next3 (coord3 i) x0 x1 x2 (start3 i s)).2.2.1 ∗ owns (c : Thread nD τ) arg10 fullShare (next3 (coord3 i) x0 x1 x2 (start3 i s)).2.2.2
          ∗ (∃ d, owns (c : Thread nD τ) arg11 fullShare d) ∗ (∃ d, owns (c : Thread nD τ) arg12 fullShare d)) -∗ K ⟨⟩))
      ⊢ wp frame (wpE (defs₀ (F := F)) Variants.none c none) E (cc3_content_scan i arg1 harg1 arg2 harg2 arg3 harg3 arg4 harg4 arg5 harg5 arg6 harg6 arg7 harg7 arg8 harg8 arg9 harg9 arg10 harg10 arg11 harg11 arg12 harg12) K := by
  simp only [cc3_content_scan_eq_skeleton]; unfold cc3_content_scan_skel
  unfold owns
  iintro ⟨⟨%f1, %h1, H1⟩, ⟨%f2, %h2, H2⟩, ⟨%f3, %h3, H3⟩, ⟨%f4, %h4, H4⟩, ⟨%d5, %f5, -, H5⟩, ⟨%d6, %f6, -, H6⟩, ⟨%f7, %h7, H7⟩, ⟨%f8, %h8, H8⟩, ⟨%f9, %h9, H9⟩, ⟨%f10, %h10, H10⟩, ⟨%d11, %f11, -, H11⟩, ⟨%d12, %f12, -, H12⟩, Hk⟩
  · sl_exec
    sl_for (fun k _ => sInv c i arg1 harg1 arg2 harg2 arg3 harg3 arg4 harg4 arg5 harg5 arg6 harg6 arg7 harg7 arg8 harg8 arg9 harg9 arg10 harg10 arg11 harg11 arg12 harg12 (coord3 i) x0 x1 x2 (start3 i s) k) $$ [H1 H2 H3 H7 H8 H9 H10 H11 H12]
    · intro k acc; exact sTrip c E i arg1 harg1 arg2 harg2 arg3 harg3 arg4 harg4 arg5 harg5 arg6 harg6 arg7 harg7 arg8 harg8 arg9 harg9 arg10 harg10 arg11 harg11 arg12 harg12 _ _ _ _ _ k acc
    · unfold sInv owns
      simp only [sSt, start3, zeroSt]
      isplitl [H1]
      · iexists f1; isplitr; · ipureintro; exact h1
        iexact H1
      isplitl [H2]
      · iexists f2; isplitr; · ipureintro; exact h2
        iexact H2
      isplitl [H3]
      · iexists f3; isplitr; · ipureintro; exact h3
        iexact H3
      isplitl [H7]
      · iexists _; isplitr
        swap; · iexact H7
        ipureintro
        by_cases hc : first3 i
        · rw [if_pos hc]
          refine (congrArg _ (dif_pos hc)).trans ?_
          sl_unfold_run_names
          exact View.read_writes_full _ _ _ _ _
        · rw [if_neg hc]
          exact (congrArg _ (dif_neg hc)).trans h7
      isplitl [H8]
      · iexists _; isplitr
        swap; · iexact H8
        ipureintro
        by_cases hc : first3 i
        · rw [if_pos hc]
          refine (congrArg _ (dif_pos hc)).trans ?_
          sl_unfold_run_names
          exact View.read_writes_full _ _ _ _ _
        · rw [if_neg hc]
          exact (congrArg _ (dif_neg hc)).trans h8
      isplitl [H9]
      · iexists _; isplitr
        swap; · iexact H9
        ipureintro
        by_cases hc : first3 i
        · rw [if_pos hc]
          refine (congrArg _ (dif_pos hc)).trans ?_
          sl_unfold_run_names
          exact View.read_writes_full _ _ _ _ _
        · rw [if_neg hc]
          exact (congrArg _ (dif_neg hc)).trans h9
      isplitl [H10]
      · iexists _; isplitr
        swap; · iexact H10
        ipureintro
        by_cases hc : first3 i
        · rw [if_pos hc]
          refine (congrArg _ (dif_pos hc)).trans ?_
          sl_unfold_run_names
          exact View.read_writes_full _ _ _ _ _
        · rw [if_neg hc]
          exact (congrArg _ (dif_neg hc)).trans h10
      isplitl [H11]
      · iexists _; isplitr
        swap
        · iexists _; isplitr
          swap; · iexact H11
          ipureintro; rfl
        ipureintro
        intro y hy
        exact absurd hy (Nat.not_lt_zero _)
      · iexists _; isplitr
        swap
        · iexists _; isplitr
          swap; · iexact H12
          ipureintro; rfl
        ipureintro
        intro y hy
        have := (y 0).isLt
        exact absurd this (Nat.not_lt.2 hy)
    iintro %acc HI
    unfold sInv owns
    icases HI with ⟨⟨%u1, %w1, H1⟩, ⟨%u2, %w2, H2⟩, ⟨%u3, %w3, H3⟩, ⟨%u7, %w7, H7⟩, ⟨%u8, %w8, H8⟩, ⟨%u9, %w9, H9⟩, ⟨%u10, %w10, H10⟩, ⟨%g11, %e11, ⟨%u11, %w11, H11⟩⟩, ⟨%g12, %e12, ⟨%u12, %w12, H12⟩⟩⟩
    have E11 : g11 = allF (coord3 i) x0 x1 x2 (start3 i s) := funext fun y => e11 y (by have h3 := trips3; have h0 : (y 0).val < 16 := (y 0).isLt; change (y 0).val < k3_t1_loop.trips; omega)
    have E12 : g12 = allB (coord3 i) x0 x1 x2 (start3 i s) := funext fun y => e12 y (by have := trips3; change k3_t1_loop.trips = 16 at this; change 15 < (y 0).val + k3_t1_loop.trips; omega)
    subst E11 E12
    sl_exec
    sl_step
    iapply Hk
    isplitl [H1]
    · iexists u1; isplitr; · ipureintro; exact w1
      iexact H1
    isplitl [H2]
    · iexists u2; isplitr; · ipureintro; exact w2
      iexact H2
    isplitl [H3]
    · iexists u3; isplitr; · ipureintro; exact w3
      iexact H3
    isplitl [H4]
    · iexists f4; isplitr; · ipureintro; exact h4
      iexact H4
    isplitl [H5]
    · iexists _; isplitr
      swap; · iexact H5
      ipureintro
      sl_unfold_run_names
      rw [View.read_writes_full]
      simp only [View.readAt_eq_ld, h4, w11]
      rw [View.ld_unit_zero (by decide)]
      rfl
    isplitl [H6]
    · iexists _; isplitr
      swap; · iexact H6
      ipureintro
      sl_unfold_run_names
      rw [View.read_writes_full]
      simp only [View.readAt_eq_ld, h4, w12]
      rw [View.ld_unit_zero (by decide)]
      rfl
    isplitl [H7]
    · iexists u7; isplitr; · ipureintro; exact w7
      iexact H7
    isplitl [H8]
    · iexists u8; isplitr; · ipureintro; exact w8
      iexact H8
    isplitl [H9]
    · iexists u9; isplitr; · ipureintro; exact w9
      iexact H9
    isplitl [H10]
    · iexists u10; isplitr; · ipureintro; exact w10
      iexact H10
    isplitl [H11]
    · iexists _, _; isplitr; swap; · iexact H11
      ipureintro; rfl
    iexists _, _; isplitr; swap; · iexact H12
    ipureintro; rfl

variable (V : (c : Dev nD) → (b : Ref sig .tc) → Buf (Elt F) ((c : Thread nD τ).loc b))

/-! The call's scratch buffers. -/
abbrev scM3_0 : Memref sig .tc .vmem S64x256 .f32 := Memref.whole cc3_scratch0
abbrev scM3_1 : Memref sig .tc .vmem S64x256 .f32 := Memref.whole cc3_scratch1
abbrev scM3_2 : Memref sig .tc .vmem S64x256 .f32 := Memref.whole cc3_scratch2
abbrev scM3_3 : Memref sig .tc .vmem S64x256 .f32 := Memref.whole cc3_scratch3
abbrev scM3_4 : Memref sig .tc .vmem S16x64x256 .f32 := Memref.whole cc3_scratch4
abbrev scM3_5 : Memref sig .tc .vmem S16x64x256 .f32 := Memref.whole cc3_scratch5

/-- The buffers a region leaves alone, as one chain: the call's own scratch, then every other one. -/
theorem scopedRest3_flat (c : Dev nD) :
    (Pipeline.scopedRest spec3 c : sProp 𝕄)
      = iprop((∃ f : Buf (Elt F) ((c : Thread nD τ).loc cc3_scratch0), ((c : Thread nD τ).loc cc3_scratch0) ↦{fullShare} f) ∗ (∃ f : Buf (Elt F) ((c : Thread nD τ).loc cc3_scratch1), ((c : Thread nD τ).loc cc3_scratch1) ↦{fullShare} f) ∗ (∃ f : Buf (Elt F) ((c : Thread nD τ).loc cc3_scratch2), ((c : Thread nD τ).loc cc3_scratch2) ↦{fullShare} f) ∗ (∃ f : Buf (Elt F) ((c : Thread nD τ).loc cc3_scratch3), ((c : Thread nD τ).loc cc3_scratch3) ↦{fullShare} f) ∗ (∃ f : Buf (Elt F) ((c : Thread nD τ).loc cc3_scratch4), ((c : Thread nD τ).loc cc3_scratch4) ↦{fullShare} f) ∗ (∃ f : Buf (Elt F) ((c : Thread nD τ).loc cc3_scratch5), ((c : Thread nD τ).loc cc3_scratch5) ↦{fullShare} f) ∗ Pipeline.scopedRestBut spec3 c [cc3_scratch0, cc3_scratch1, cc3_scratch2, cc3_scratch3, cc3_scratch4, cc3_scratch5]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest3_split, assoc, assoc, assoc, assoc, assoc]

/-- The invariant between points, its scratch as memrefs owned at some contents. -/
theorem PhiA3_eq (c : Dev nD) :
    (Pipeline.ΦA spec3 c : sProp 𝕄)
      = iprop(iprop((∃ d, owns (c : Thread nD τ) scM3_0 fullShare d) ∗ (∃ d, owns (c : Thread nD τ) scM3_1 fullShare d) ∗ (∃ d, owns (c : Thread nD τ) scM3_2 fullShare d) ∗ (∃ d, owns (c : Thread nD τ) scM3_3 fullShare d) ∗ (∃ d, owns (c : Thread nD τ) scM3_4 fullShare d) ∗ (∃ d, owns (c : Thread nD τ) scM3_5 fullShare d) ∗ Pipeline.scopedRestBut spec3 c [cc3_scratch0, cc3_scratch1, cc3_scratch2, cc3_scratch3, cc3_scratch4, cc3_scratch5]) ∗ (∃ r, prngReg c r)) := by
  unfold Pipeline.ΦA; rw [scopedRest3_flat]; simp only [scM3_0, scM3_1, scM3_2, scM3_3, scM3_4, scM3_5, owns_whole]; try rfl

/-- The block of window `w` at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's buffer holds its block when the body starts. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's buffer holds its block when the body starts. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's buffer holds its block when the body starts. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's buffer holds its block when the body starts. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The state the scan starts point `n` from: zero at the first, then what the point before left. -/
def stN (c : Dev nD) : ℕ → St F
  | 0 => zeroSt
  | n + 1 => if h : n < cfg3.N then
      next3 (coord3 (grid3.coords ⟨n, h⟩)) (iblk3 V c 0 ⟨n, h⟩) (iblk3 V c 1 ⟨n, h⟩) (iblk3 V c 2 ⟨n, h⟩) (stN c n) else stN c n

theorem stN_succ (c : Dev nD) (t : Fin cfg3.N) :
    stN V c (t.val + 1) = next3 (coord3 (grid3.coords t)) (iblk3 V c 0 t) (iblk3 V c 1 t) (iblk3 V c 2 t) (stN V c t.val) := by
  show (if h : t.val < cfg3.N then
      next3 (coord3 (grid3.coords ⟨t.val, h⟩)) (iblk3 V c 0 ⟨t.val, h⟩) (iblk3 V c 1 ⟨t.val, h⟩) (iblk3 V c 2 ⟨t.val, h⟩) (stN V c t.val) else _) = _
  rw [dif_pos t.isLt]

/-- Only the first point is the first. -/
theorem first3_iff : ∀ t : Fin cfg3.N, first3 (grid3.coords t) ↔ t.val = 0 :=
  (by decide +kernel : ∀ t : Fin grid3.N, first3 (grid3.coords t) ↔ t.val = 0)

/-- Whatever the scratch holds at the first point, and the state so far at a later one, the trips start from `stN`. -/
theorem start3_eq (c : Dev nD) (t : Fin cfg3.N) (s : St F) (h : t.val ≠ 0 → s = stN V c t.val) :
    start3 (grid3.coords t) s = stN V c t.val := by
  unfold start3
  by_cases h0 : t.val = 0
  · rw [if_pos ((first3_iff t).2 h0), h0]; rfl
  · rw [if_neg fun h' => h0 ((first3_iff t).1 h')]; exact h h0

/-- What the scan holds between points: the state in its scratch, the other scratch at anything. -/
def Phi3 (c : Dev nD) (n : ℕ) : sProp 𝕄 :=
  iprop(iprop((∃ s : St F, ⌜n ≠ 0 → s = stN V c n⌝ ∗ owns (c : Thread nD τ) scM3_0 fullShare s.1 ∗ owns (c : Thread nD τ) scM3_1 fullShare s.2.1
        ∗ owns (c : Thread nD τ) scM3_2 fullShare s.2.2.1 ∗ owns (c : Thread nD τ) scM3_3 fullShare s.2.2.2)
      ∗ (∃ d, owns (c : Thread nD τ) scM3_4 fullShare d) ∗ (∃ d, owns (c : Thread nD τ) scM3_5 fullShare d)
      ∗ Pipeline.scopedRestBut spec3 c [cc3_scratch0, cc3_scratch1, cc3_scratch2, cc3_scratch3, cc3_scratch4, cc3_scratch5]) ∗ (∃ r, prngReg c r))

/-- The launch gives what the first point needs. -/
theorem Phi3_in (c : Dev nD) : (Pipeline.ΦA spec3 c : sProp 𝕄) ⊢ Phi3 V c 0 := by
  rw [PhiA3_eq]; unfold Phi3
  iintro ⟨⟨⟨%s0, H0⟩, ⟨%s1, H1⟩, ⟨%s2, H2⟩, ⟨%s3, H3⟩, H4, H5, HR⟩, Hg⟩
  isplitl [H0 H1 H2 H3 H4 H5 HR]
  · isplitl [H0 H1 H2 H3]
    · iexists ((s0, s1, s2, s3) : St F)
      isplitr
      · ipureintro; intro h; exact absurd rfl h
      isplitl [H0]; · iexact H0
      isplitl [H1]; · iexact H1
      isplitl [H2]; · iexact H2
      iexact H3
    isplitl [H4]; · iexact H4
    isplitl [H5]; · iexact H5
    iexact HR
  iexact Hg

/-- The last point gives the scratch back. -/
theorem Phi3_out (c : Dev nD) (n : ℕ) : Phi3 V c n ⊢ (Pipeline.ΦA spec3 c : sProp 𝕄) := by
  rw [PhiA3_eq]; unfold Phi3
  iintro ⟨⟨⟨%s, -, H0, H1, H2, H3⟩, H4, H5, HR⟩, Hg⟩
  isplitl [H0 H1 H2 H3 H4 H5 HR]
  · isplitl [H0]; · iexists _; iexact H0
    isplitl [H1]; · iexists _; iexact H1
    isplitl [H2]; · iexists _; iexact H2
    isplitl [H3]; · iexists _; iexact H3
    isplitl [H4]; · iexact H4
    isplitl [H5]; · iexact H5
    iexact HR
  iexact Hg

/-- The call's proof data: the arrays as it finds them, each input's buffer left at its block, each output's at its value. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (coord3 (grid3.coords t)) (iblk3 V c 0 t) (iblk3 V c 1 t) (iblk3 V c 2 t) (iblk3 V c 3 t) (stN V c t.val)
    | ⟨5, _⟩ => out3_5 (coord3 (grid3.coords t)) (iblk3 V c 0 t) (iblk3 V c 1 t) (iblk3 V c 2 t) (iblk3 V c 3 t) (stN V c t.val)
  Φ n := Phi3 V c n.val
  q _ := fullShare
  owed _ := 0

/-- The proof data's arrays. -/
theorem A_eq3 (c : Dev nD) (w : Fin cfg3.W) : (dat3 V c).A w = V c (Pipeline.arrRef spec3 w) := by
  dsimp only [dat3]

/-! What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (coord3 (grid3.coords t)) (iblk3 V c 0 t) (iblk3 V c 1 t) (iblk3 V c 2 t) (iblk3 V c 3 t) (stN V c t.val) := by dsimp only [dat3]
theorem after3_5 (c : Dev nD) (t : Fin cfg3.N) : (dat3 V c).after 5 t = out3_5 (coord3 (grid3.coords t)) (iblk3 V c 0 t) (iblk3 V c 1 t) (iblk3 V c 2 t) (iblk3 V c 3 t) (stN V c t.val) := by dsimp only [dat3]

/-! What each input buffer holds when the body starts. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

set_option maxHeartbeats 1200000 in
/-- The body at any point takes what it is called with to what it returns. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = Phi3 V c (t.val + 1) from rfl, show (dat3 V c).Φ t.castSucc = Phi3 V c t.val from rfl,
    show (dat3 V c).owesAt () t.succ = (dat3 V c).owesAt () t.castSucc from rfl,
    after3_0, after3_1, after3_2, after3_3, after3_4, after3_5]
  unfold Phi3
  iintro ⟨⟨⟨⟨%s, %hs, HS0, HS1, HS2, HS3⟩, HS4, HS5, HR⟩, Hg⟩, Ho, ⟨%d0, H0⟩, ⟨%d1, H1⟩, ⟨%d2, H2⟩, ⟨%d3, H3⟩, ⟨%d4, H4⟩, ⟨%d5, H5⟩⟩
  rw [stN_succ, ← start3_eq V c t s hs]
  iapply (sound_kernel3 c Set.univ _ _ _ _ _ _ _ _ _ _ _ _ _ _ _ _ _ _ _ _ _ _ _ _ _ (iblk3 V c 0 t) (iblk3 V c 1 t) (iblk3 V c 2 t) (iblk3 V c 3 t) s _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, HS0, HS1, HS2, HS3, HS4, HS5⟩
  isplitl [HS0 HS1 HS2 HS3 HS4 HS5 HR Hg]
  · isplitl [HS0 HS1 HS2 HS3 HS4 HS5 HR]
    · isplitl [HS0 HS1 HS2 HS3]
      · iexists _
        isplitr
        · ipureintro; intro _; rfl
        isplitl [HS0]; · iexact HS0
        isplitl [HS1]; · iexact HS1
        isplitl [HS2]; · iexact HS2
        iexact HS3
      isplitl [HS4]; · iexact HS4
      isplitl [HS5]; · iexact HS5
      iexact HR
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t` is the body there. -/
theorem defs₀_row3 (t : Fin cfg3.N) :
    defs₀ (F := F) .tc cfg3.body (cfg3.bodyArgs t (cfg3.slots t)) = bodyAt3 t := by
  unfold defs₀; rw [Defs.onTc_tc]

/-- The body obligation, at every point. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.K

end
-- ==== Proof.KernelIdeal.Final.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp
public import Idealize.ShloMosaic.Lib.WritesUnit
public import Idealize.ShloMosaic.Lib.Pointwise.Index

@[expose] public section

set_option maxRecDepth 16384

noncomputable section

namespace Cert.KernelIdeal.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # Call 4: `cc4_final` -/

/-- What the body leaves in output window 4's buffer, from the input blocks. -/
def out4_4 (x0 : Vec F S640x1x64 .f32) (x1 : Vec F S640x1x64 .f32) (x2 : Vec F S5x640 .f32) (x3 : Vec F S5x1 .f32) : Vec F S64x5 .f32 :=
  k4_pay1 x0 x1 x2 x3

set_option maxHeartbeats 1000000 in
/-- The body on whole memrefs: the inputs keep their contents, each output ends at its value of them. -/
theorem sound_kernel4 (c : Dev nD) (E : Set ℕ) (arg0 : Memref sig .tc .vmem S640x1x64 .f32) (harg0 : arg0.IsWhole) (arg1 : Memref sig .tc .vmem S640x1x64 .f32) (harg1 : arg1.IsWhole) (arg2 : Memref sig .tc .vmem S5x640 .f32) (harg2 : arg2.IsWhole) (arg3 : Memref sig .tc .vmem S5x1 .f32) (harg3 : arg3.IsWhole) (arg4 : Memref sig .tc .vmem S64x5 .f32) (harg4 : arg4.IsWhole) (x0 : Vec F S640x1x64 .f32) (x1 : Vec F S640x1x64 .f32) (x2 : Vec F S5x640 .f32) (x3 : Vec F S5x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out4_4 x0 x1 x2 x3)) -∗ K ⟨⟩))
      ⊢ wp frame (wpE (defs₀ (F := F)) Variants.none c none) E (cc4_final arg0 harg0 arg1 harg1 arg2 harg2 arg3 harg3 arg4 harg4) K := by
  simp only [cc4_final_eq_skeleton]; unfold cc4_final_skel
  simp only [k4_part1_eq_skeleton]
  unfold owns
  iintro ⟨⟨%f0, %h0, H0⟩, ⟨%f1, %h1, H1⟩, ⟨%f2, %h2, H2⟩, ⟨%f3, %h3, H3⟩, ⟨%d4, %f4, -, H4⟩, Hk⟩
  sl_exec
  sl_step
  iapply Hk
  isplitl [H0]
  · iexists f0; isplitr; · ipureintro; exact h0
    iexact H0
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  iexists _; isplitr
  swap; · iexact H4
  ipureintro
  sl_unfold_run_names
  rw [View.read_writes_full]
  simp only [View.readAt_eq_ld, h0, h1, h2, h3]
  repeat rw [View.ld_unit_zero (by decide)]
  try rfl

variable (V : (c : Dev nD) → (b : Ref sig .tc) → Buf (Elt F) ((c : Thread nD τ).loc b))

/-- The block of window `w` at point `t`, read off its array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's buffer holds its block when the body starts. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's buffer holds its block when the body starts. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's buffer holds its block when the body starts. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's buffer holds its block when the body starts. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- The call's proof data: the arrays as it finds them, each input's buffer left at its block, each output's at its value. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ n := Pipeline.ΦA spec4 c
  q _ := fullShare
  owed _ := 0

/-- The proof data's arrays. -/
theorem A_eq4 (c : Dev nD) (w : Fin cfg4.W) : (dat4 V c).A w = V c (Pipeline.arrRef spec4 w) := by
  dsimp only [dat4]

/-! What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

/-! What each input buffer holds when the body starts. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point `t`. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- What it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

set_option maxHeartbeats 1200000 in
/-- The body at any point takes what it is called with to what it returns. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t` is the body there. -/
theorem defs₀_row4 (t : Fin cfg4.N) :
    defs₀ (F := F) .tc cfg4.body (cfg4.bodyArgs t (cfg4.slots t)) = bodyAt4 t := by
  unfold defs₀; rw [Defs.onTc_tc]

/-- The body obligation, at every point. -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Cert.KernelIdeal.K

end
-- ==== Proof.KernelIdeal.Run.lean ====
module

public import proofs.«01_k».proof.Proof.KernelIdeal.Proj0
public import proofs.«01_k».proof.Proof.KernelIdeal.Proj1
public import proofs.«01_k».proof.Proof.KernelIdeal.Title
public import proofs.«01_k».proof.Proof.KernelIdeal.Scan
public import proofs.«01_k».proof.Proof.KernelIdeal.Final

@[expose] public section

set_option maxRecDepth 16384

noncomputable section

namespace Cert.KernelIdeal.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_c, main_v2, main_v3, main_v4, main_c_0, main_v5, main_v6, main_c_1, main_v7, main_v8, main_v9, main_v10, main_v11, main_v12, main_c_2, main_v13, main_v14, main_c_3, main_v15, main_v16, main_v17, main_v18, main_v19, main_v20, main_v21, main_c_4, main_v22, main_v23, main_c_5, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_cst, main_v51, main_v52]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v54_0, main_v54_1]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v55, main_v56]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v58, main_v59, main_v60, main_v61, main_v62]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v64]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, each output's write-backs
    folded: `Dat.arrAt … N`), every other buffer as entered (Lib/Pipeline/FrameSuffix.lean `withArrays`). -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- A reference that is none of region 3's OUTPUT arrays keeps its entry contents across it: an input window's
    array is never written back (`Dat.arrAt_in`, `A_eq3`); any other buffer is left as is. -/
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (V7 m ρ) c).arrAt_in w (h w rfl) _).trans (A_eq3 (V7 m ρ) c w))
  · exact W8_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn3 a ha)).trans (W7_args m ρ c a ha)
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4` (region 4's entry). -/
abbrev W9 : Dev nD → Valuation τ sig (Elt F) := fun c => StableHlo.after hostOps4 (W8 m ρ c)
/-- A reference `hostOps4` does not write keeps its contents across it. -/
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h
theorem W9_args (c : Dev nD) : ∀ a ∈ argRefs, W9 m ρ c (Proc.devRef .tc a) = m ((c : Thread nD τ).loc a) :=
  fun a ha => (W9_of m ρ c a (hostOps4_args a ha)).trans (W8_args m ρ c a ha)
/-- The same read at the TensorCore's references (what region 4's proof data take). -/
abbrev V9 : (c : Dev nD) → (b : Ref sig .tc) → Buf (Elt F) ((c : Thread nD τ).loc b) := fun c b => W9 m ρ c b
/-- At region 4's exit: its arrays at what the pipeline leaves (the inputs as entered, each output's write-backs
    folded: `Dat.arrAt … N`), every other buffer as entered (Lib/Pipeline/FrameSuffix.lean `withArrays`). -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- A reference that is none of region 4's OUTPUT arrays keeps its entry contents across it: an input window's
    array is never written back (`Dat.arrAt_in`, `A_eq4`); any other buffer is left as is. -/
theorem W10_of (c : Dev nD) (r : Ref sig .tc) (h : ∀ w : Fin cfg4.W, Pipeline.arrRef spec4 w = r → (cfg4.win w).isOut = false) :
    W10 m ρ c (Proc.devRef .tc r) = W9 m ρ c (Proc.devRef .tc r) := by
  by_cases hw : ∃ w : Fin cfg4.W, Pipeline.arrRef spec4 w = r
  · obtain ⟨w, rfl⟩ := hw
    exact (W10_arr m ρ c w).trans (((dat4 (V9 m ρ) c).arrAt_in w (h w rfl) _).trans (A_eq4 (V9 m ρ) c w))
  · exact W10_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn4 a ha)).trans (W9_args m ρ c a ha)
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves (`hF4`) and every other buffer what it
    held at entry (`hrest4`): the two hypotheses of Lib/Pipeline/RegionsLoop.lean `unscopedBufs_of_arrays`. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-! ### The arguments end as launched: no host stretch writes one and no region may change one (a region reads it
    through an input window or bypasses it) -/

theorem W10_main_arg0 (c : Dev nD) : W10 m ρ c (Proc.devRef .tc main_arg0) = m ((c : Thread nD τ).loc main_arg0) :=
  W10_args m ρ c main_arg0 (by decide)
theorem W10_main_arg1 (c : Dev nD) : W10 m ρ c (Proc.devRef .tc main_arg1) = m ((c : Thread nD τ).loc main_arg1) :=
  W10_args m ρ c main_arg1 (by decide)
theorem W10_main_arg2 (c : Dev nD) : W10 m ρ c (Proc.devRef .tc main_arg2) = m ((c : Thread nD τ).loc main_arg2) :=
  W10_args m ρ c main_arg2 (by decide)
theorem W10_main_arg3 (c : Dev nD) : W10 m ρ c (Proc.devRef .tc main_arg3) = m ((c : Thread nD τ).loc main_arg3) :=
  W10_args m ρ c main_arg3 (by decide)
theorem W10_main_arg4 (c : Dev nD) : W10 m ρ c (Proc.devRef .tc main_arg4) = m ((c : Thread nD τ).loc main_arg4) :=
  W10_args m ρ c main_arg4 (by decide)
theorem W10_main_arg5 (c : Dev nD) : W10 m ρ c (Proc.devRef .tc main_arg5) = m ((c : Thread nD τ).loc main_arg5) :=
  W10_args m ρ c main_arg5 (by decide)
theorem W10_main_arg6 (c : Dev nD) : W10 m ρ c (Proc.devRef .tc main_arg6) = m ((c : Thread nD τ).loc main_arg6) :=
  W10_args m ρ c main_arg6 (by decide)
theorem W10_main_arg7 (c : Dev nD) : W10 m ρ c (Proc.devRef .tc main_arg7) = m ((c : Thread nD τ).loc main_arg7) :=
  W10_args m ρ c main_arg7 (by decide)
theorem W10_main_arg8 (c : Dev nD) : W10 m ρ c (Proc.devRef .tc main_arg8) = m ((c : Thread nD τ).loc main_arg8) :=
  W10_args m ρ c main_arg8 (by decide)
theorem W10_main_arg9 (c : Dev nD) : W10 m ρ c (Proc.devRef .tc main_arg9) = m ((c : Thread nD τ).loc main_arg9) :=
  W10_args m ρ c main_arg9 (by decide)
theorem W10_main_arg10 (c : Dev nD) : W10 m ρ c (Proc.devRef .tc main_arg10) = m ((c : Thread nD τ).loc main_arg10) :=
  W10_args m ρ c main_arg10 (by decide)
theorem W10_main_arg11 (c : Dev nD) : W10 m ρ c (Proc.devRef .tc main_arg11) = m ((c : Thread nD τ).loc main_arg11) :=
  W10_args m ρ c main_arg11 (by decide)
theorem W10_main_arg12 (c : Dev nD) : W10 m ρ c (Proc.devRef .tc main_arg12) = m ((c : Thread nD τ).loc main_arg12) :=
  W10_args m ρ c main_arg12 (by decide)
theorem W10_main_arg13 (c : Dev nD) : W10 m ρ c (Proc.devRef .tc main_arg13) = m ((c : Thread nD τ).loc main_arg13) :=
  W10_args m ρ c main_arg13 (by decide)
theorem W10_main_arg14 (c : Dev nD) : W10 m ρ c (Proc.devRef .tc main_arg14) = m ((c : Thread nD τ).loc main_arg14) :=
  W10_args m ρ c main_arg14 (by decide)
theorem W10_main_arg15 (c : Dev nD) : W10 m ρ c (Proc.devRef .tc main_arg15) = m ((c : Thread nD τ).loc main_arg15) :=
  W10_args m ρ c main_arg15 (by decide)
theorem W10_main_arg16 (c : Dev nD) : W10 m ρ c (Proc.devRef .tc main_arg16) = m ((c : Thread nD τ).loc main_arg16) :=
  W10_args m ρ c main_arg16 (by decide)
theorem W10_main_arg17 (c : Dev nD) : W10 m ρ c (Proc.devRef .tc main_arg17) = m ((c : Thread nD τ).loc main_arg17) :=
  W10_args m ρ c main_arg17 (by decide)

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W10`, the generator register at some state. -/
abbrev Tₙ (c : Dev nD) : sProp 𝕄 := iprop(StableHlo.held (c : Thread nD τ) (Pipeline.ucRefs τ sig) (W10 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Phi3 (V7 m ρ) c 0 from rfl]
    have h := Phi3_in (V7 m ρ) c
    unfold Pipeline.ΦA at h
    iintro ⟨Hp, -, Hr⟩
    iapply h
    isplitl [Hr]; · iexact Hr
    iexact Hp
  hout c := by
    rw [Pipeline.ownSems0_none, show (pdats m ρ 3 c).Φ (Fin.last _) = Phi3 (V7 m ρ) c cfg3.N from rfl]
    have h := Phi3_out (V7 m ρ) c cfg3.N
    unfold Pipeline.ΦA at h
    iintro H
    ihave H2 := h $$ H
    icases H2 with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 4 (custom_call 4) over the thread state: entered from every unscoped buffer at `W9`, left at `W10`
    (what the launch reads at the end). Its arrays split out of the unscoped buffers
    (`arrays_of_unscopedBufs`) and put back at the exit contents (`unscopedBufs_of_arrays`); the generator register into the
    class invariant `ΦA` and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) (A_eq4 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 10 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The run: every weakly fair execution from zero counters ends, nothing faulting, with every unscoped buffer at the last
    boundary's contents and every counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W10 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨h, funext fun g => hz g (.inr (no_unscoped g.2))⟩)

/-- The argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ h => ⟨fun c =>
    ⟨(h.1 c _ (mem_uc main_arg0 (by decide))).trans (W10_main_arg0 m ρ c),
     (h.1 c _ (mem_uc main_arg1 (by decide))).trans (W10_main_arg1 m ρ c),
     (h.1 c _ (mem_uc main_arg2 (by decide))).trans (W10_main_arg2 m ρ c),
     (h.1 c _ (mem_uc main_arg3 (by decide))).trans (W10_main_arg3 m ρ c),
     (h.1 c _ (mem_uc main_arg4 (by decide))).trans (W10_main_arg4 m ρ c),
     (h.1 c _ (mem_uc main_arg5 (by decide))).trans (W10_main_arg5 m ρ c),
     (h.1 c _ (mem_uc main_arg6 (by decide))).trans (W10_main_arg6 m ρ c),
     (h.1 c _ (mem_uc main_arg7 (by decide))).trans (W10_main_arg7 m ρ c),
     (h.1 c _ (mem_uc main_arg8 (by decide))).trans (W10_main_arg8 m ρ c),
     (h.1 c _ (mem_uc main_arg9 (by decide))).trans (W10_main_arg9 m ρ c),
     (h.1 c _ (mem_uc main_arg10 (by decide))).trans (W10_main_arg10 m ρ c),
     (h.1 c _ (mem_uc main_arg11 (by decide))).trans (W10_main_arg11 m ρ c),
     (h.1 c _ (mem_uc main_arg12 (by decide))).trans (W10_main_arg12 m ρ c),
     (h.1 c _ (mem_uc main_arg13 (by decide))).trans (W10_main_arg13 m ρ c),
     (h.1 c _ (mem_uc main_arg14 (by decide))).trans (W10_main_arg14 m ρ c),
     (h.1 c _ (mem_uc main_arg15 (by decide))).trans (W10_main_arg15 m ρ c),
     (h.1 c _ (mem_uc main_arg16 (by decide))).trans (W10_main_arg16 m ρ c),
     (h.1 c _ (mem_uc main_arg17 (by decide))).trans (W10_main_arg17 m ρ c)⟩, h.2⟩) (run m ρ)

end Cert.KernelIdeal.K

end
-- ==== Proof.ReferenceIdeal.Ops.lean ====
module

public import proofs.«01_k».proof.Proof.Gen.ReferenceIdeal
public import Idealize.ShloMosaic.Lib.StableHlo.RunLoop
public import Idealize.ShloMosaic.Lib.Pipeline.Frame

@[expose] public section

set_option maxRecDepth 16384

noncomputable section

namespace Cert.ReferenceIdeal.K

open Cert.ReferenceIdeal Cert.ReferenceIdeal.Gen
open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg Ticket PCfg ucRefs sub_ucRefs)

variable {F : FTy → Type} [FloatOps F]

/-! ## The stretches of host operations, as lists -/

/-- @main's operations before loop 0. -/
abbrev ops0 : List (HloOp τ sig (Elt F)) :=
  [ StableHlo.nullary main_c (constantI S_ 32 0#32),
    StableHlo.unary main_c main_v0 (broadcastInDim S64x637 ![] bcast_S_S64x637 : (⟨S_, .i32⟩ : BufTy).Contents (Elt F) → (⟨S64x637, .i32⟩ : BufTy).Contents (Elt F)),
    StableHlo.binary main_arg0 main_v0 main_v1 (cmpi .slt : (⟨S64x637, .i32⟩ : BufTy).Contents (Elt F) → (⟨S64x637, .i32⟩ : BufTy).Contents (Elt F) → (⟨S64x637, .i1⟩ : BufTy).Contents (Elt F)),
    StableHlo.nullary main_c_0 (constantI S_ 32 50000#32),
    StableHlo.unary main_c_0 main_v2 (broadcastInDim S64x637 ![] bcast_S_S64x637 : (⟨S_, .i32⟩ : BufTy).Contents (Elt F) → (⟨S64x637, .i32⟩ : BufTy).Contents (Elt F)),
    StableHlo.binary main_arg0 main_v2 main_v3 (addi : (⟨S64x637, .i32⟩ : BufTy).Contents (Elt F) → (⟨S64x637, .i32⟩ : BufTy).Contents (Elt F) → (⟨S64x637, .i32⟩ : BufTy).Contents (Elt F)),
    StableHlo.ternary main_v1 main_v3 main_arg0 main_v4 (select : (⟨S64x637, .i1⟩ : BufTy).Contents (Elt F) → (⟨S64x637, .i32⟩ : BufTy).Contents (Elt F) → (⟨S64x637, .i32⟩ : BufTy).Contents (Elt F) → (⟨S64x637, .i32⟩ : BufTy).Contents (Elt F)),
    StableHlo.unary main_v4 main_v5 (broadcastInDim S64x637x1 ![0, 1] bcast_S64x637_S64x637x1_0_1 : (⟨S64x637, .i32⟩ : BufTy).Contents (Elt F) → (⟨S64x637x1, .i32⟩ : BufTy).Contents (Elt F)),
    StableHlo.binary main_arg2 main_v5 main_v6 ((fun x i => Host.gather gather_S50000x300_S64x637x1_S64x637x300_2_0_n_n_0_2_1300 x i) : (⟨S50000x300, .f32⟩ : BufTy).Contents (Elt F) → (⟨S64x637x1, .i32⟩ : BufTy).Contents (Elt F) → (⟨S64x637x300, .f32⟩ : BufTy).Contents (Elt F)),
    StableHlo.nullary main_c_1 (constantI S_ 32 0#32),
    StableHlo.unary main_c_1 main_v7 (broadcastInDim S64x24 ![] bcast_S_S64x24 : (⟨S_, .i32⟩ : BufTy).Contents (Elt F) → (⟨S64x24, .i32⟩ : BufTy).Contents (Elt F)),
    StableHlo.binary main_arg1 main_v7 main_v8 (cmpi .slt : (⟨S64x24, .i32⟩ : BufTy).Contents (Elt F) → (⟨S64x24, .i32⟩ : BufTy).Contents (Elt F) → (⟨S64x24, .i1⟩ : BufTy).Contents (Elt F)),
    StableHlo.nullary main_c_2 (constantI S_ 32 50000#32),
    StableHlo.unary main_c_2 main_v9 (broadcastInDim S64x24 ![] bcast_S_S64x24 : (⟨S_, .i32⟩ : BufTy).Contents (Elt F) → (⟨S64x24, .i32⟩ : BufTy).Contents (Elt F)),
    StableHlo.binary main_arg1 main_v9 main_v10 (addi : (⟨S64x24, .i32⟩ : BufTy).Contents (Elt F) → (⟨S64x24, .i32⟩ : BufTy).Contents (Elt F) → (⟨S64x24, .i32⟩ : BufTy).Contents (Elt F)),
    StableHlo.ternary main_v8 main_v10 main_arg1 main_v11 (select : (⟨S64x24, .i1⟩ : BufTy).Contents (Elt F) → (⟨S64x24, .i32⟩ : BufTy).Contents (Elt F) → (⟨S64x24, .i32⟩ : BufTy).Contents (Elt F) → (⟨S64x24, .i32⟩ : BufTy).Contents (Elt F)),
    StableHlo.unary main_v11 main_v12 (broadcastInDim S64x24x1 ![0, 1] bcast_S64x24_S64x24x1_0_1 : (⟨S64x24, .i32⟩ : BufTy).Contents (Elt F) → (⟨S64x24x1, .i32⟩ : BufTy).Contents (Elt F)),
    StableHlo.binary main_arg2 main_v12 main_v13 ((fun x i => Host.gather gather_S50000x300_S64x24x1_S64x24x300_2_0_n_n_0_2_1300 x i) : (⟨S50000x300, .f32⟩ : BufTy).Contents (Elt F) → (⟨S64x24x1, .i32⟩ : BufTy).Contents (Elt F) → (⟨S64x24x300, .f32⟩ : BufTy).Contents (Elt F)),
    StableHlo.binary main_v13 main_arg3 main_v14 ((fun l r => Host.dotGeneral dot_S64x24x300_S1024x300_S64x24x1024_2_1_01_0_n_n none l r) : (⟨S64x24x300, .f32⟩ : BufTy).Contents (Elt F) → (⟨S1024x300, .f32⟩ : BufTy).Contents (Elt F) → (⟨S64x24x1024, .f32⟩ : BufTy).Contents (Elt F)),
    StableHlo.unary main_arg5 main_v15 (broadcastInDim S1x1x1024 ![2] bcast_S1024_S1x1x1024_2 : (⟨S1024, .f32⟩ : BufTy).Contents (Elt F) → (⟨S1x1x1024, .f32⟩ : BufTy).Contents (Elt F)),
    StableHlo.unary main_v15 main_v16 (broadcastInDim S64x24x1024 ![0, 1, 2] bcast_S1x1x1024_S64x24x1024_0_1_2 : (⟨S1x1x1024, .f32⟩ : BufTy).Contents (Elt F) → (⟨S64x24x1024, .f32⟩ : BufTy).Contents (Elt F)),
    StableHlo.binary main_v14 main_v16 main_v17 (addf : (⟨S64x24x1024, .f32⟩ : BufTy).Contents (Elt F) → (⟨S64x24x1024, .f32⟩ : BufTy).Contents (Elt F) → (⟨S64x24x1024, .f32⟩ : BufTy).Contents (Elt F)),
    StableHlo.nullary main_cst (constant S_ .f32 0x00000000#32),
    StableHlo.unary main_cst main_v18 (broadcastInDim S64x256 ![] bcast_S_S64x256 : (⟨S_, .f32⟩ : BufTy).Contents (Elt F) → (⟨S64x256, .f32⟩ : BufTy).Contents (Elt F)),
    StableHlo.unary main_v17 main_v19 ((transpose S24x64x1024 [1, 0, 2] · transposes_S64x24x1024_S24x64x1024_1_0_2) : (⟨S64x24x1024, .f32⟩ : BufTy).Contents (Elt F) → (⟨S24x64x1024, .f32⟩ : BufTy).Contents (Elt F)),
    StableHlo.nullary main_cst_3 (constant S_ .f32 0x00000000#32),
    StableHlo.unary main_cst_3 main_v20 (broadcastInDim S24x64x256 ![] bcast_S_S24x64x256 : (⟨S_, .f32⟩ : BufTy).Contents (Elt F) → (⟨S24x64x256, .f32⟩ : BufTy).Contents (Elt F)),
    StableHlo.nullary main_c_4 (constantI S_ 32 0#32),
    StableHlo.unary main_v19 main_v21_0 id,
    StableHlo.unary main_arg4 main_v21_1 id,
    StableHlo.unary main_c_4 main_v21_2 id,
    StableHlo.unary main_v18 main_v21_3 id,
    StableHlo.unary main_v18 main_v21_4 id,
    StableHlo.unary main_v20 main_v21_5 id ]
theorem ops0_sub : (ops0 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The references `ops0` writes, in order. -/
abbrev ops0_W : List (Ref sig .tc) := [main_c, main_v0, main_v1, main_c_0, main_v2, main_v3, main_v4, main_v5, main_v6, main_c_1, main_v7, main_v8, main_c_2, main_v9, main_v10, main_v11, main_v12, main_v13, main_v14, main_v15, main_v16, main_v17, main_cst, main_v18, main_v19, main_cst_3, main_v20, main_c_4, main_v21_0, main_v21_1, main_v21_2, main_v21_3, main_v21_4, main_v21_5]
theorem ops0_writes : (ops0 : List (HloOp τ sig (Elt F))).Forall fun op => op.writes ⊆ (ops0_W.map (Proc.devRef (τ := τ) .tc)).toFinset :=
  StableHlo.forall_writes_sub_of_map rfl

/-- @main's operations after loop 0 and before loop 1. -/
abbrev ops1 : List (HloOp τ sig (Elt F)) :=
  [ StableHlo.unary main_v21_5 main_v22 ((transpose S64x24x256 [1, 0, 2] · transposes_S24x64x256_S64x24x256_1_0_2) : (⟨S24x64x256, .f32⟩ : BufTy).Contents (Elt F) → (⟨S64x24x256, .f32⟩ : BufTy).Contents (Elt F)),
    StableHlo.binary main_v13 main_arg6 main_v23 ((fun l r => Host.dotGeneral dot_S64x24x300_S1024x300_S64x24x1024_2_1_01_0_n_n none l r) : (⟨S64x24x300, .f32⟩ : BufTy).Contents (Elt F) → (⟨S1024x300, .f32⟩ : BufTy).Contents (Elt F) → (⟨S64x24x1024, .f32⟩ : BufTy).Contents (Elt F)),
    StableHlo.unary main_arg8 main_v24 (broadcastInDim S1x1x1024 ![2] bcast_S1024_S1x1x1024_2 : (⟨S1024, .f32⟩ : BufTy).Contents (Elt F) → (⟨S1x1x1024, .f32⟩ : BufTy).Contents (Elt F)),
    StableHlo.unary main_v24 main_v25 (broadcastInDim S64x24x1024 ![0, 1, 2] bcast_S1x1x1024_S64x24x1024_0_1_2 : (⟨S1x1x1024, .f32⟩ : BufTy).Contents (Elt F) → (⟨S64x24x1024, .f32⟩ : BufTy).Contents (Elt F)),
    StableHlo.binary main_v23 main_v25 main_v26 (addf : (⟨S64x24x1024, .f32⟩ : BufTy).Contents (Elt F) → (⟨S64x24x1024, .f32⟩ : BufTy).Contents (Elt F) → (⟨S64x24x1024, .f32⟩ : BufTy).Contents (Elt F)),
    StableHlo.nullary main_cst_5 (constant S_ .f32 0x00000000#32),
    StableHlo.unary main_cst_5 main_v27 (broadcastInDim S64x256 ![] bcast_S_S64x256 : (⟨S_, .f32⟩ : BufTy).Contents (Elt F) → (⟨S64x256, .f32⟩ : BufTy).Contents (Elt F)),
    StableHlo.unary main_v26 main_v28 ((transpose S24x64x1024 [1, 0, 2] · transposes_S64x24x1024_S24x64x1024_1_0_2) : (⟨S64x24x1024, .f32⟩ : BufTy).Contents (Elt F) → (⟨S24x64x1024, .f32⟩ : BufTy).Contents (Elt F)),
    StableHlo.nullary main_cst_6 (constant S_ .f32 0x00000000#32),
    StableHlo.unary main_cst_6 main_v29 (broadcastInDim S24x64x256 ![] bcast_S_S24x64x256 : (⟨S_, .f32⟩ : BufTy).Contents (Elt F) → (⟨S24x64x256, .f32⟩ : BufTy).Contents (Elt F)),
    StableHlo.nullary main_c_7 (constantI S_ 32 0#32),
    StableHlo.unary main_v28 main_v30_0 id,
    StableHlo.unary main_arg7 main_v30_1 id,
    StableHlo.unary main_c_7 main_v30_2 id,
    StableHlo.unary main_v27 main_v30_3 id,
    StableHlo.unary main_v27 main_v30_4 id,
    StableHlo.unary main_v29 main_v30_5 id ]
theorem ops1_sub : (ops1 : List (HloOp τ sig (Elt F))).Forall fun op => op.bufs ⊆ tcRefs τ sig :=
  ⟨StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl⟩
/-- The references `ops1` writes, in order. -/
abbrev ops1_W : List (Ref sig .tc) := [main_v22, main_v23, main_v24, main_v25, main_v26, main_cst_5, main_v27, main_v28, main_cst_6, main_v29, main_c_7, main_v30_0, main_v30_1, main_v30_2, main_v30_3, main_v30_4, main_v30_5]
theorem ops1_writes : (ops1 : List (HloOp τ sig (Elt F))).Forall fun op => op.writes ⊆ (ops1_W.map (Proc.devRef (τ := τ) .tc)).toFinset :=
  StableHlo.forall_writes_sub_of_map rfl

/-- @main's operations after loop 1 and before loop 2. -/
abbrev ops2 : List (HloOp τ sig (Elt F)) :=
  [ StableHlo.unary main_v30_5 main_v31 ((transpose S64x24x256 [1, 0, 2] · transposes_S24x64x256_S64x24x256_1_0_2) : (⟨S24x64x256, .f32⟩ : BufTy).Contents (Elt F) → (⟨S64x24x256, .f32⟩ : BufTy).Contents (Elt F)),
    StableHlo.binary main_v22 main_v31 main_v32 ((fun a b => concatenate S64x24x512 2 [⟨S64x24x256, a⟩, ⟨S64x24x256, b⟩] concatenates_S64x24x256_S64x24x256_S64x24x512_d2) : (⟨S64x24x256, .f32⟩ : BufTy).Contents (Elt F) → (⟨S64x24x256, .f32⟩ : BufTy).Contents (Elt F) → (⟨S64x24x512, .f32⟩ : BufTy).Contents (Elt F)),
    StableHlo.binary main_v6 main_arg9 main_v33 ((fun l r => Host.dotGeneral dot_S64x637x300_S1024x300_S64x637x1024_2_1_01_0_n_n none l r) : (⟨S64x637x300, .f32⟩ : BufTy).Contents (Elt F) → (⟨S1024x300, .f32⟩ : BufTy).Contents (Elt F) → (⟨S64x637x1024, .f32⟩ : BufTy).Contents (Elt F)),
    StableHlo.unary main_arg11 main_v34 (broadcastInDim S1x1x1024 ![2] bcast_S1024_S1x1x1024_2 : (⟨S1024, .f32⟩ : BufTy).Contents (Elt F) → (⟨S1x1x1024, .f32⟩ : BufTy).Contents (Elt F)),
    StableHlo.unary main_v34 main_v35 (broadcastInDim S64x637x1024 ![0, 1, 2] bcast_S1x1x1024_S64x637x1024_0_1_2 : (⟨S1x1x1024, .f32⟩ : BufTy).Contents (Elt F) → (⟨S64x637x1024, .f32⟩ : BufTy).Contents (Elt F)),
    StableHlo.binary main_v33 main_v35 main_v36 (addf : (⟨S64x637x1024, .f32⟩ : BufTy).Contents (Elt F) → (⟨S64x637x1024, .f32⟩ : BufTy).Contents (Elt F) → (⟨S64x637x1024, .f32⟩ : BufTy).Contents (Elt F)),
    StableHlo.nullary main_cst_8 (constant S_ .f32 0x00000000#32),
    StableHlo.unary main_cst_8 main_v37 (broadcastInDim S64x256 ![] bcast_S_S64x256 : (⟨S_, .f32⟩ : BufTy).Contents (Elt F) → (⟨S64x256, .f32⟩ : BufTy).Contents (Elt F)),
    StableHlo.unary main_v36 main_v38 ((transpose S637x64x1024 [1, 0, 2] · transposes_S64x637x1024_S637x64x1024_1_0_2) : (⟨S64x637x1024, .f32⟩ : BufTy).Contents (Elt F) → (⟨S637x64x1024, .f32⟩ : BufTy).Contents (Elt F)),
    StableHlo.nullary main_cst_9 (constant S_ .f32 0x00000000#32),
    StableHlo.unary main_cst_9 main_v39 (broadcastInDim S637x64x256 ![] bcast_S_S637x64x256 : (⟨S_, .f32⟩ : BufTy).Contents (Elt F) → (⟨S637x64x256, .f32⟩ : BufTy).Contents (Elt F)),
    StableHlo.nullary main_c_10 (constantI S_ 32 0#32),
    StableHlo.unary main_v38 main_v40_0 id,
    StableHlo.unary main_arg10 main_v40_1 id,
    StableHlo.unary main_c_10 main_v40_2 id,
    StableHlo.unary main_v37 main_v40_3 id,
    StableHlo.unary main_v37 main_v40_4 id,
    StableHlo.unary main_v39 main_v40_5 id ]
theorem ops2_sub : (ops2 : List (HloOp τ sig (Elt F))).Forall fun op => op.bufs ⊆ tcRefs τ sig :=
  ⟨StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl⟩
/-- The references `ops2` writes, in order. -/
abbrev ops2_W : List (Ref sig .tc) := [main_v31, main_v32, main_v33, main_v34, main_v35, main_v36, main_cst_8, main_v37, main_v38, main_cst_9, main_v39, main_c_10, main_v40_0, main_v40_1, main_v40_2, main_v40_3, main_v40_4, main_v40_5]
theorem ops2_writes : (ops2 : List (HloOp τ sig (Elt F))).Forall fun op => op.writes ⊆ (ops2_W.map (Proc.devRef (τ := τ) .tc)).toFinset :=
  StableHlo.forall_writes_sub_of_map rfl

/-- @main's operations after loop 2 and before loop 3. -/
abbrev ops3 : List (HloOp τ sig (Elt F)) :=
  [ StableHlo.unary main_v40_5 main_v41 ((transpose S64x637x256 [1, 0, 2] · transposes_S637x64x256_S64x637x256_1_0_2) : (⟨S637x64x256, .f32⟩ : BufTy).Contents (Elt F) → (⟨S64x637x256, .f32⟩ : BufTy).Contents (Elt F)),
    StableHlo.binary main_v6 main_arg12 main_v42 ((fun l r => Host.dotGeneral dot_S64x637x300_S1024x300_S64x637x1024_2_1_01_0_n_n none l r) : (⟨S64x637x300, .f32⟩ : BufTy).Contents (Elt F) → (⟨S1024x300, .f32⟩ : BufTy).Contents (Elt F) → (⟨S64x637x1024, .f32⟩ : BufTy).Contents (Elt F)),
    StableHlo.unary main_arg14 main_v43 (broadcastInDim S1x1x1024 ![2] bcast_S1024_S1x1x1024_2 : (⟨S1024, .f32⟩ : BufTy).Contents (Elt F) → (⟨S1x1x1024, .f32⟩ : BufTy).Contents (Elt F)),
    StableHlo.unary main_v43 main_v44 (broadcastInDim S64x637x1024 ![0, 1, 2] bcast_S1x1x1024_S64x637x1024_0_1_2 : (⟨S1x1x1024, .f32⟩ : BufTy).Contents (Elt F) → (⟨S64x637x1024, .f32⟩ : BufTy).Contents (Elt F)),
    StableHlo.binary main_v42 main_v44 main_v45 (addf : (⟨S64x637x1024, .f32⟩ : BufTy).Contents (Elt F) → (⟨S64x637x1024, .f32⟩ : BufTy).Contents (Elt F) → (⟨S64x637x1024, .f32⟩ : BufTy).Contents (Elt F)),
    StableHlo.nullary main_cst_11 (constant S_ .f32 0x00000000#32),
    StableHlo.unary main_cst_11 main_v46 (broadcastInDim S64x256 ![] bcast_S_S64x256 : (⟨S_, .f32⟩ : BufTy).Contents (Elt F) → (⟨S64x256, .f32⟩ : BufTy).Contents (Elt F)),
    StableHlo.unary main_v45 main_v47 ((transpose S637x64x1024 [1, 0, 2] · transposes_S64x637x1024_S637x64x1024_1_0_2) : (⟨S64x637x1024, .f32⟩ : BufTy).Contents (Elt F) → (⟨S637x64x1024, .f32⟩ : BufTy).Contents (Elt F)),
    StableHlo.nullary main_cst_12 (constant S_ .f32 0x00000000#32),
    StableHlo.unary main_cst_12 main_v48 (broadcastInDim S637x64x256 ![] bcast_S_S637x64x256 : (⟨S_, .f32⟩ : BufTy).Contents (Elt F) → (⟨S637x64x256, .f32⟩ : BufTy).Contents (Elt F)),
    StableHlo.nullary main_c_13 (constantI S_ 32 0#32),
    StableHlo.unary main_v47 main_v49_0 id,
    StableHlo.unary main_arg13 main_v49_1 id,
    StableHlo.unary main_c_13 main_v49_2 id,
    StableHlo.unary main_v46 main_v49_3 id,
    StableHlo.unary main_v46 main_v49_4 id,
    StableHlo.unary main_v48 main_v49_5 id ]
theorem ops3_sub : (ops3 : List (HloOp τ sig (Elt F))).Forall fun op => op.bufs ⊆ tcRefs τ sig :=
  ⟨StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl⟩
/-- The references `ops3` writes, in order. -/
abbrev ops3_W : List (Ref sig .tc) := [main_v41, main_v42, main_v43, main_v44, main_v45, main_cst_11, main_v46, main_v47, main_cst_12, main_v48, main_c_13, main_v49_0, main_v49_1, main_v49_2, main_v49_3, main_v49_4, main_v49_5]
theorem ops3_writes : (ops3 : List (HloOp τ sig (Elt F))).Forall fun op => op.writes ⊆ (ops3_W.map (Proc.devRef (τ := τ) .tc)).toFinset :=
  StableHlo.forall_writes_sub_of_map rfl

/-- @main's operations after loop 3. -/
abbrev ops4 : List (HloOp τ sig (Elt F)) :=
  [ StableHlo.unary main_v49_5 main_v50 ((transpose S64x637x256 [1, 0, 2] · transposes_S637x64x256_S64x637x256_1_0_2) : (⟨S637x64x256, .f32⟩ : BufTy).Contents (Elt F) → (⟨S64x637x256, .f32⟩ : BufTy).Contents (Elt F)),
    StableHlo.binary main_v41 main_v50 main_v51 ((fun a b => concatenate S64x637x512 2 [⟨S64x637x256, a⟩, ⟨S64x637x256, b⟩] concatenates_S64x637x256_S64x637x256_S64x637x512_d2) : (⟨S64x637x256, .f32⟩ : BufTy).Contents (Elt F) → (⟨S64x637x256, .f32⟩ : BufTy).Contents (Elt F) → (⟨S64x637x512, .f32⟩ : BufTy).Contents (Elt F)),
    StableHlo.unary main_v32 main_v52 ((extractStridedSlice S64x1x512 ![0, 23, 0] · slices_S64x24x512_S64x1x512_0_23_0) : (⟨S64x24x512, .f32⟩ : BufTy).Contents (Elt F) → (⟨S64x1x512, .f32⟩ : BufTy).Contents (Elt F)),
    StableHlo.reshape main_v52 main_v53 (rfl : (.f32 : EltTy) = .f32) shapeCasts_S64x1x512_S64x512,
    StableHlo.binary main_arg15 main_v53 main_v54 ((fun l r => Host.dotGeneral dot_S512x512_S64x512_S512x64_0_1_1_0_n_n none l r) : (⟨S512x512, .f32⟩ : BufTy).Contents (Elt F) → (⟨S64x512, .f32⟩ : BufTy).Contents (Elt F) → (⟨S512x64, .f32⟩ : BufTy).Contents (Elt F)),
    StableHlo.binary main_v51 main_v54 main_v55 ((fun l r => Host.dotGeneral dot_S64x637x512_S512x64_S64x637_2_0_1_n_0_1 none l r) : (⟨S64x637x512, .f32⟩ : BufTy).Contents (Elt F) → (⟨S512x64, .f32⟩ : BufTy).Contents (Elt F) → (⟨S64x637, .f32⟩ : BufTy).Contents (Elt F)),
    StableHlo.nullary main_cst_14 (constant S_ .f32 0xFF800000#32),
    StableHlo.binary main_v55 main_cst_14 main_v56 ((fun x v => Host.reduce FloatOps.maximumf x v reducesTo_S64x637_S64_d1 h_S_) : (⟨S64x637, .f32⟩ : BufTy).Contents (Elt F) → (⟨S_, .f32⟩ : BufTy).Contents (Elt F) → (⟨S64, .f32⟩ : BufTy).Contents (Elt F)),
    StableHlo.nullary main_cst_15 (constant S_ .f32 0xFF800000#32),
    StableHlo.unary main_cst_15 main_v57 (broadcastInDim S64 ![] bcast_S_S64 : (⟨S_, .f32⟩ : BufTy).Contents (Elt F) → (⟨S64, .f32⟩ : BufTy).Contents (Elt F)),
    StableHlo.binary main_v57 main_v56 main_v58 (maximumf : (⟨S64, .f32⟩ : BufTy).Contents (Elt F) → (⟨S64, .f32⟩ : BufTy).Contents (Elt F) → (⟨S64, .f32⟩ : BufTy).Contents (Elt F)),
    StableHlo.unary main_v58 main_v59 (broadcastInDim S64x1 ![0] bcast_S64_S64x1_0 : (⟨S64, .f32⟩ : BufTy).Contents (Elt F) → (⟨S64x1, .f32⟩ : BufTy).Contents (Elt F)),
    StableHlo.unary main_v59 main_v60 (broadcastInDim S64x637 ![0, 1] bcast_S64x1_S64x637_0_1 : (⟨S64x1, .f32⟩ : BufTy).Contents (Elt F) → (⟨S64x637, .f32⟩ : BufTy).Contents (Elt F)),
    StableHlo.binary main_v55 main_v60 main_v61 (subf : (⟨S64x637, .f32⟩ : BufTy).Contents (Elt F) → (⟨S64x637, .f32⟩ : BufTy).Contents (Elt F) → (⟨S64x637, .f32⟩ : BufTy).Contents (Elt F)),
    StableHlo.unary main_v61 main_v62 (Host.exp : (⟨S64x637, .f32⟩ : BufTy).Contents (Elt F) → (⟨S64x637, .f32⟩ : BufTy).Contents (Elt F)),
    StableHlo.nullary main_cst_16 (constant S_ .f32 0x00000000#32),
    StableHlo.binary main_v62 main_cst_16 main_v63 ((fun x v => Host.reduceAdd x v reducesTo_S64x637_S64_d1 h_S_) : (⟨S64x637, .f32⟩ : BufTy).Contents (Elt F) → (⟨S_, .f32⟩ : BufTy).Contents (Elt F) → (⟨S64, .f32⟩ : BufTy).Contents (Elt F)),
    StableHlo.unary main_v63 main_v64 (broadcastInDim S64x1 ![0] bcast_S64_S64x1_0 : (⟨S64, .f32⟩ : BufTy).Contents (Elt F) → (⟨S64x1, .f32⟩ : BufTy).Contents (Elt F)),
    StableHlo.unary main_v64 main_v65 (broadcastInDim S64x637 ![0, 1] bcast_S64x1_S64x637_0_1 : (⟨S64x1, .f32⟩ : BufTy).Contents (Elt F) → (⟨S64x637, .f32⟩ : BufTy).Contents (Elt F)),
    StableHlo.binary main_v62 main_v65 main_v66 (Host.divf : (⟨S64x637, .f32⟩ : BufTy).Contents (Elt F) → (⟨S64x637, .f32⟩ : BufTy).Contents (Elt F) → (⟨S64x637, .f32⟩ : BufTy).Contents (Elt F)),
    StableHlo.unary main_arg16 main_v67 ((transpose S637x5 [1, 0] · transposes_S5x637_S637x5_1_0) : (⟨S5x637, .f32⟩ : BufTy).Contents (Elt F) → (⟨S637x5, .f32⟩ : BufTy).Contents (Elt F)),
    StableHlo.binary main_v66 main_v67 main_v68 ((fun l r => Host.dotGeneral dot_S64x637_S637x5_S64x5_1_0_0_1_n_n none l r) : (⟨S64x637, .f32⟩ : BufTy).Contents (Elt F) → (⟨S637x5, .f32⟩ : BufTy).Contents (Elt F) → (⟨S64x5, .f32⟩ : BufTy).Contents (Elt F)),
    StableHlo.unary main_arg17 main_v69 (broadcastInDim S1x5 ![1] bcast_S5_S1x5_1 : (⟨S5, .f32⟩ : BufTy).Contents (Elt F) → (⟨S1x5, .f32⟩ : BufTy).Contents (Elt F)),
    StableHlo.unary main_v69 main_v70 (broadcastInDim S64x5 ![0, 1] bcast_S1x5_S64x5_0_1 : (⟨S1x5, .f32⟩ : BufTy).Contents (Elt F) → (⟨S64x5, .f32⟩ : BufTy).Contents (Elt F)),
    StableHlo.binary main_v68 main_v70 main_v71 (addf : (⟨S64x5, .f32⟩ : BufTy).Contents (Elt F) → (⟨S64x5, .f32⟩ : BufTy).Contents (Elt F) → (⟨S64x5, .f32⟩ : BufTy).Contents (Elt F)),
    StableHlo.nullary main_call8_cst (constant S_ .f32 0xFF800000#32),
    StableHlo.binary main_v71 main_call8_cst main_call8_v0 ((fun x v => Host.reduce FloatOps.maximumf x v reducesTo_S64x5_S64_d1 h_S_) : (⟨S64x5, .f32⟩ : BufTy).Contents (Elt F) → (⟨S_, .f32⟩ : BufTy).Contents (Elt F) → (⟨S64, .f32⟩ : BufTy).Contents (Elt F)),
    StableHlo.nullary main_call8_cst_0 (constant S_ .f32 0xFF800000#32),
    StableHlo.unary main_call8_cst_0 main_call8_v1 ((broadcastInDim S64 ![] bcast_S_S64) : (⟨S_, .f32⟩ : BufTy).Contents (Elt F) → (⟨S64, .f32⟩ : BufTy).Contents (Elt F)),
    StableHlo.binary main_call8_v1 main_call8_v0 main_call8_v2 (maximumf : (⟨S64, .f32⟩ : BufTy).Contents (Elt F) → (⟨S64, .f32⟩ : BufTy).Contents (Elt F) → (⟨S64, .f32⟩ : BufTy).Contents (Elt F)),
    StableHlo.unary main_call8_v2 main_call8_v3 ((broadcastInDim S64x1 ![0] bcast_S64_S64x1_0) : (⟨S64, .f32⟩ : BufTy).Contents (Elt F) → (⟨S64x1, .f32⟩ : BufTy).Contents (Elt F)),
    StableHlo.unary main_call8_v3 main_call8_v4 ((broadcastInDim S64x5 ![0, 1] bcast_S64x1_S64x5_0_1) : (⟨S64x1, .f32⟩ : BufTy).Contents (Elt F) → (⟨S64x5, .f32⟩ : BufTy).Contents (Elt F)),
    StableHlo.binary main_v71 main_call8_v4 main_call8_v5 (subf : (⟨S64x5, .f32⟩ : BufTy).Contents (Elt F) → (⟨S64x5, .f32⟩ : BufTy).Contents (Elt F) → (⟨S64x5, .f32⟩ : BufTy).Contents (Elt F)),
    StableHlo.unary main_call8_v5 main_call8_v6 (Host.exp : (⟨S64x5, .f32⟩ : BufTy).Contents (Elt F) → (⟨S64x5, .f32⟩ : BufTy).Contents (Elt F)),
    StableHlo.nullary main_call8_cst_1 (constant S_ .f32 0x00000000#32),
    StableHlo.binary main_call8_v6 main_call8_cst_1 main_call8_v7 ((fun x v => Host.reduceAdd x v reducesTo_S64x5_S64_d1 h_S_) : (⟨S64x5, .f32⟩ : BufTy).Contents (Elt F) → (⟨S_, .f32⟩ : BufTy).Contents (Elt F) → (⟨S64, .f32⟩ : BufTy).Contents (Elt F)),
    StableHlo.unary main_call8_v7 main_call8_v8 ((broadcastInDim S64x1 ![0] bcast_S64_S64x1_0) : (⟨S64, .f32⟩ : BufTy).Contents (Elt F) → (⟨S64x1, .f32⟩ : BufTy).Contents (Elt F)),
    StableHlo.unary main_call8_v8 main_call8_v9 (Host.log : (⟨S64x1, .f32⟩ : BufTy).Contents (Elt F) → (⟨S64x1, .f32⟩ : BufTy).Contents (Elt F)),
    StableHlo.unary main_call8_v9 main_call8_v10 ((broadcastInDim S64x5 ![0, 1] bcast_S64x1_S64x5_0_1) : (⟨S64x1, .f32⟩ : BufTy).Contents (Elt F) → (⟨S64x5, .f32⟩ : BufTy).Contents (Elt F)),
    StableHlo.binary main_call8_v5 main_call8_v10 main_v72 (subf : (⟨S64x5, .f32⟩ : BufTy).Contents (Elt F) → (⟨S64x5, .f32⟩ : BufTy).Contents (Elt F) → (⟨S64x5, .f32⟩ : BufTy).Contents (Elt F)) ]
theorem ops4_sub : (ops4 : List (HloOp τ sig (Elt F))).Forall fun op => op.bufs ⊆ tcRefs τ sig :=
  ⟨StableHlo.unary_bufs_sub .., StableHlo.binary_bufs_sub .., StableHlo.unary_bufs_sub .., StableHlo.reshape_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The references `ops4` writes, in order. -/
abbrev ops4_W : List (Ref sig .tc) := [main_v50, main_v51, main_v52, main_v53, main_v54, main_v55, main_cst_14, main_v56, main_cst_15, main_v57, main_v58, main_v59, main_v60, main_v61, main_v62, main_cst_16, main_v63, main_v64, main_v65, main_v66, main_v67, main_v68, main_v69, main_v70, main_v71, main_call8_cst, main_call8_v0, main_call8_cst_0, main_call8_v1, main_call8_v2, main_call8_v3, main_call8_v4, main_call8_v5, main_call8_v6, main_call8_cst_1, main_call8_v7, main_call8_v8, main_call8_v9, main_call8_v10, main_v72]
theorem ops4_writes : (ops4 : List (HloOp τ sig (Elt F))).Forall fun op => op.writes ⊆ (ops4_W.map (Proc.devRef (τ := τ) .tc)).toFinset :=
  StableHlo.forall_writes_sub_of_map rfl

/-- The condition of loop 0 (the title, forwards). -/
abbrev cond0 : List (HloOp τ sig (Elt F)) :=
  [ StableHlo.nullary main_while0c_c_22 (constantI S_ 32 24#32),
    StableHlo.binary main_v21_2 main_while0c_c_22 main_while0c_v73 (cmpi .slt : (⟨S_, .i32⟩ : BufTy).Contents (Elt F) → (⟨S_, .i32⟩ : BufTy).Contents (Elt F) → (⟨S_, .i1⟩ : BufTy).Contents (Elt F)) ]
theorem cond0_sub : (cond0 : List (HloOp τ sig (Elt F))).Forall fun op => op.bufs ⊆ tcRefs τ sig :=
  ⟨StableHlo.nullary_bufs_sub .., StableHlo.binary_bufs_sub ..⟩
theorem cond0_fresh : (cond0 : List (HloOp τ sig (Elt F))).Forall fun op => op.fresh = ∅ :=
  ⟨rfl, rfl⟩
/-- The references `cond0` writes, in order. -/
abbrev cond0_W : List (Ref sig .tc) := [main_while0c_c_22, main_while0c_v73]
theorem cond0_writes : (cond0 : List (HloOp τ sig (Elt F))).Forall fun op => op.writes ⊆ (cond0_W.map (Proc.devRef (τ := τ) .tc)).toFinset :=
  StableHlo.forall_writes_sub_of_map rfl

/-- One step of loop 0: the step's input product and the hidden product, added. -/
abbrev body0a : List (HloOp τ sig (Elt F)) :=
  [ StableHlo.nullary main_while0b_call0_c (constantI S_ 32 0#32),
    StableHlo.nullary main_while0b_call0_c_0 (constantI S_ 32 0#32),
    StableHlo.TRef.unaryIndexed (.of main_v21_0 : StableHlo.TRef sig ⟨S24x64x1024, .f32⟩) ![(.of main_v21_2 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x64x1024, .f32⟩) (fun x i => Host.dynamicSlice S1x64x1024 x (fun k => (i k (Shape.Idx.first h_S_)).toInt) sliceFits_S24x64x1024_S1x64x1024),
    StableHlo.reshape main_while0b_call0_v0 main_while0b_v73 (rfl : (.f32 : EltTy) = .f32) shapeCasts_S1x64x1024_S64x1024,
    StableHlo.unary main_v21_1 main_while0b_v74 ((transpose S256x1024 [1, 0] · transposes_S1024x256_S256x1024_1_0) : (⟨S1024x256, .f32⟩ : BufTy).Contents (Elt F) → (⟨S256x1024, .f32⟩ : BufTy).Contents (Elt F)),
    StableHlo.binary main_v21_3 main_while0b_v74 main_while0b_v75 ((fun l r => Host.dotGeneral dot_S64x256_S256x1024_S64x1024_1_0_0_1_n_n none l r) : (⟨S64x256, .f32⟩ : BufTy).Contents (Elt F) → (⟨S256x1024, .f32⟩ : BufTy).Contents (Elt F) → (⟨S64x1024, .f32⟩ : BufTy).Contents (Elt F)),
    StableHlo.binary main_while0b_v73 main_while0b_v75 main_while0b_v76 (addf : (⟨S64x1024, .f32⟩ : BufTy).Contents (Elt F) → (⟨S64x1024, .f32⟩ : BufTy).Contents (Elt F) → (⟨S64x1024, .f32⟩ : BufTy).Contents (Elt F)) ]
theorem body0a_sub : (body0a : List (HloOp τ sig (Elt F))).Forall fun op => op.bufs ⊆ tcRefs τ sig :=
  ⟨StableHlo.nullary_bufs_sub .., StableHlo.nullary_bufs_sub .., StableHlo.unaryIndexed_bufs_sub .., StableHlo.reshape_bufs_sub .., StableHlo.unary_bufs_sub .., StableHlo.binary_bufs_sub .., StableHlo.binary_bufs_sub ..⟩
theorem body0a_fresh : (body0a : List (HloOp τ sig (Elt F))).Forall fun op => op.fresh = ∅ :=
  ⟨rfl, rfl, rfl, rfl, rfl, rfl, rfl⟩
/-- The references `body0a` writes, in order. -/
abbrev body0a_W : List (Ref sig .tc) := [main_while0b_call0_c, main_while0b_call0_c_0, main_while0b_call0_v0, main_while0b_v73, main_while0b_v74, main_while0b_v75, main_while0b_v76]
theorem body0a_writes : (body0a : List (HloOp τ sig (Elt F))).Forall fun op => op.writes ⊆ (body0a_W.map (Proc.devRef (τ := τ) .tc)).toFinset :=
  StableHlo.forall_writes_sub_of_map rfl

/-- One step of loop 0: the gates, the new cell and hidden states. -/
abbrev body0b : List (HloOp τ sig (Elt F)) :=
  [ StableHlo.unary main_while0b_v76 main_while0b_v77 ((extractStridedSlice S64x256 ![0, 0] · slices_S64x1024_S64x256_0_0) : (⟨S64x1024, .f32⟩ : BufTy).Contents (Elt F) → (⟨S64x256, .f32⟩ : BufTy).Contents (Elt F)),
    StableHlo.unary main_while0b_v76 main_while0b_v78 ((extractStridedSlice S64x256 ![0, 256] · slices_S64x1024_S64x256_0_256) : (⟨S64x1024, .f32⟩ : BufTy).Contents (Elt F) → (⟨S64x256, .f32⟩ : BufTy).Contents (Elt F)),
    StableHlo.unary main_while0b_v76 main_while0b_v79 ((extractStridedSlice S64x256 ![0, 512] · slices_S64x1024_S64x256_0_512) : (⟨S64x1024, .f32⟩ : BufTy).Contents (Elt F) → (⟨S64x256, .f32⟩ : BufTy).Contents (Elt F)),
    StableHlo.unary main_while0b_v76 main_while0b_v80 ((extractStridedSlice S64x256 ![0, 768] · slices_S64x1024_S64x256_0_768) : (⟨S64x1024, .f32⟩ : BufTy).Contents (Elt F) → (⟨S64x256, .f32⟩ : BufTy).Contents (Elt F)),
    StableHlo.unary main_while0b_v78 main_while0b_v81 (Host.negf : (⟨S64x256, .f32⟩ : BufTy).Contents (Elt F) → (⟨S64x256, .f32⟩ : BufTy).Contents (Elt F)),
    StableHlo.unary main_while0b_v81 main_while0b_v82 (Host.exp : (⟨S64x256, .f32⟩ : BufTy).Contents (Elt F) → (⟨S64x256, .f32⟩ : BufTy).Contents (Elt F)),
    StableHlo.nullary main_while0b_cst_22 (constant S_ .f32 0x3F800000#32),
    StableHlo.unary main_while0b_cst_22 main_while0b_v83 (broadcastInDim S64x256 ![] bcast_S_S64x256 : (⟨S_, .f32⟩ : BufTy).Contents (Elt F) → (⟨S64x256, .f32⟩ : BufTy).Contents (Elt F)),
    StableHlo.binary main_while0b_v83 main_while0b_v82 main_while0b_v84 (addf : (⟨S64x256, .f32⟩ : BufTy).Contents (Elt F) → (⟨S64x256, .f32⟩ : BufTy).Contents (Elt F) → (⟨S64x256, .f32⟩ : BufTy).Contents (Elt F)),
    StableHlo.nullary main_while0b_cst_23 (constant S_ .f32 0x3F800000#32),
    StableHlo.unary main_while0b_cst_23 main_while0b_v85 (broadcastInDim S64x256 ![] bcast_S_S64x256 : (⟨S_, .f32⟩ : BufTy).Contents (Elt F) → (⟨S64x256, .f32⟩ : BufTy).Contents (Elt F)),
    StableHlo.binary main_while0b_v85 main_while0b_v84 main_while0b_v86 (Host.divf : (⟨S64x256, .f32⟩ : BufTy).Contents (Elt F) → (⟨S64x256, .f32⟩ : BufTy).Contents (Elt F) → (⟨S64x256, .f32⟩ : BufTy).Contents (Elt F)),
    StableHlo.binary main_while0b_v86 main_v21_4 main_while0b_v87 (mulf : (⟨S64x256, .f32⟩ : BufTy).Contents (Elt F) → (⟨S64x256, .f32⟩ : BufTy).Contents (Elt F) → (⟨S64x256, .f32⟩ : BufTy).Contents (Elt F)),
    StableHlo.unary main_while0b_v77 main_while0b_v88 (Host.negf : (⟨S64x256, .f32⟩ : BufTy).Contents (Elt F) → (⟨S64x256, .f32⟩ : BufTy).Contents (Elt F)),
    StableHlo.unary main_while0b_v88 main_while0b_v89 (Host.exp : (⟨S64x256, .f32⟩ : BufTy).Contents (Elt F) → (⟨S64x256, .f32⟩ : BufTy).Contents (Elt F)),
    StableHlo.nullary main_while0b_cst_24 (constant S_ .f32 0x3F800000#32),
    StableHlo.unary main_while0b_cst_24 main_while0b_v90 (broadcastInDim S64x256 ![] bcast_S_S64x256 : (⟨S_, .f32⟩ : BufTy).Contents (Elt F) → (⟨S64x256, .f32⟩ : BufTy).Contents (Elt F)),
    StableHlo.binary main_while0b_v90 main_while0b_v89 main_while0b_v91 (addf : (⟨S64x256, .f32⟩ : BufTy).Contents (Elt F) → (⟨S64x256, .f32⟩ : BufTy).Contents (Elt F) → (⟨S64x256, .f32⟩ : BufTy).Contents (Elt F)),
    StableHlo.nullary main_while0b_cst_25 (constant S_ .f32 0x3F800000#32),
    StableHlo.unary main_while0b_cst_25 main_while0b_v92 (broadcastInDim S64x256 ![] bcast_S_S64x256 : (⟨S_, .f32⟩ : BufTy).Contents (Elt F) → (⟨S64x256, .f32⟩ : BufTy).Contents (Elt F)),
    StableHlo.binary main_while0b_v92 main_while0b_v91 main_while0b_v93 (Host.divf : (⟨S64x256, .f32⟩ : BufTy).Contents (Elt F) → (⟨S64x256, .f32⟩ : BufTy).Contents (Elt F) → (⟨S64x256, .f32⟩ : BufTy).Contents (Elt F)),
    StableHlo.unary main_while0b_v79 main_while0b_v94 (Host.tanh : (⟨S64x256, .f32⟩ : BufTy).Contents (Elt F) → (⟨S64x256, .f32⟩ : BufTy).Contents (Elt F)),
    StableHlo.binary main_while0b_v93 main_while0b_v94 main_while0b_v95 (mulf : (⟨S64x256, .f32⟩ : BufTy).Contents (Elt F) → (⟨S64x256, .f32⟩ : BufTy).Contents (Elt F) → (⟨S64x256, .f32⟩ : BufTy).Contents (Elt F)),
    StableHlo.binary main_while0b_v87 main_while0b_v95 main_while0b_v96 (addf : (⟨S64x256, .f32⟩ : BufTy).Contents (Elt F) → (⟨S64x256, .f32⟩ : BufTy).Contents (Elt F) → (⟨S64x256, .f32⟩ : BufTy).Contents (Elt F)),
    StableHlo.unary main_while0b_v80 main_while0b_v97 (Host.negf : (⟨S64x256, .f32⟩ : BufTy).Contents (Elt F) → (⟨S64x256, .f32⟩ : BufTy).Contents (Elt F)),
    StableHlo.unary main_while0b_v97 main_while0b_v98 (Host.exp : (⟨S64x256, .f32⟩ : BufTy).Contents (Elt F) → (⟨S64x256, .f32⟩ : BufTy).Contents (Elt F)),
    StableHlo.nullary main_while0b_cst_26 (constant S_ .f32 0x3F800000#32),
    StableHlo.unary main_while0b_cst_26 main_while0b_v99 (broadcastInDim S64x256 ![] bcast_S_S64x256 : (⟨S_, .f32⟩ : BufTy).Contents (Elt F) → (⟨S64x256, .f32⟩ : BufTy).Contents (Elt F)),
    StableHlo.binary main_while0b_v99 main_while0b_v98 main_while0b_v100 (addf : (⟨S64x256, .f32⟩ : BufTy).Contents (Elt F) → (⟨S64x256, .f32⟩ : BufTy).Contents (Elt F) → (⟨S64x256, .f32⟩ : BufTy).Contents (Elt F)),
    StableHlo.nullary main_while0b_cst_27 (constant S_ .f32 0x3F800000#32),
    StableHlo.unary main_while0b_cst_27 main_while0b_v101 (broadcastInDim S64x256 ![] bcast_S_S64x256 : (⟨S_, .f32⟩ : BufTy).Contents (Elt F) → (⟨S64x256, .f32⟩ : BufTy).Contents (Elt F)),
    StableHlo.binary main_while0b_v101 main_while0b_v100 main_while0b_v102 (Host.divf : (⟨S64x256, .f32⟩ : BufTy).Contents (Elt F) → (⟨S64x256, .f32⟩ : BufTy).Contents (Elt F) → (⟨S64x256, .f32⟩ : BufTy).Contents (Elt F)),
    StableHlo.unary main_while0b_v96 main_while0b_v103 (Host.tanh : (⟨S64x256, .f32⟩ : BufTy).Contents (Elt F) → (⟨S64x256, .f32⟩ : BufTy).Contents (Elt F)),
    StableHlo.binary main_while0b_v102 main_while0b_v103 main_while0b_v104 (mulf : (⟨S64x256, .f32⟩ : BufTy).Contents (Elt F) → (⟨S64x256, .f32⟩ : BufTy).Contents (Elt F) → (⟨S64x256, .f32⟩ : BufTy).Contents (Elt F)) ]
theorem body0b_sub : (body0b : List (HloOp τ sig (Elt F))).Forall fun op => op.bufs ⊆ tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub ..⟩
theorem body0b_fresh : (body0b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The references `body0b` writes, in order. -/
abbrev body0b_W : List (Ref sig .tc) := [main_while0b_v77, main_while0b_v78, main_while0b_v79, main_while0b_v80, main_while0b_v81, main_while0b_v82, main_while0b_cst_22, main_while0b_v83, main_while0b_v84, main_while0b_cst_23, main_while0b_v85, main_while0b_v86, main_while0b_v87, main_while0b_v88, main_while0b_v89, main_while0b_cst_24, main_while0b_v90, main_while0b_v91, main_while0b_cst_25, main_while0b_v92, main_while0b_v93, main_while0b_v94, main_while0b_v95, main_while0b_v96, main_while0b_v97, main_while0b_v98, main_while0b_cst_26, main_while0b_v99, main_while0b_v100, main_while0b_cst_27, main_while0b_v101, main_while0b_v102, main_while0b_v103, main_while0b_v104]
theorem body0b_writes : (body0b : List (HloOp τ sig (Elt F))).Forall fun op => op.writes ⊆ (body0b_W.map (Proc.devRef (τ := τ) .tc)).toFinset :=
  StableHlo.forall_writes_sub_of_map rfl

/-- One step of loop 0: the hidden state stored, the counter stepped, the carried values copied back. -/
abbrev body0c : List (HloOp τ sig (Elt F)) :=
  [ StableHlo.unary main_while0b_v104 main_while0b_call1_v0 ((broadcastInDim S1x64x256 ![1, 2] bcast_S64x256_S1x64x256_1_2) : (⟨S64x256, .f32⟩ : BufTy).Contents (Elt F) → (⟨S1x64x256, .f32⟩ : BufTy).Contents (Elt F)),
    StableHlo.nullary main_while0b_call1_c (constantI S_ 32 0#32),
    StableHlo.nullary main_while0b_call1_c_0 (constantI S_ 32 0#32),
    StableHlo.TRef.binaryIndexed (.of main_v21_5 : StableHlo.TRef sig ⟨S24x64x256, .f32⟩) (.of main_while0b_call1_v0 : StableHlo.TRef sig ⟨S1x64x256, .f32⟩) ![(.of main_v21_2 : StableHlo.TRef sig ⟨S_, .i32⟩), (.of main_while0b_call1_c : StableHlo.TRef sig ⟨S_, .i32⟩), (.of main_while0b_call1_c_0 : StableHlo.TRef sig ⟨S_, .i32⟩)] (.of main_while0b_v105 : StableHlo.TRef sig ⟨S24x64x256, .f32⟩) (fun x u i => Host.dynamicUpdateSlice x u (fun k => (i k (Shape.Idx.first h_S_)).toInt) updateFits_S24x64x256_S1x64x256),
    StableHlo.nullary main_while0b_c_28 (constantI S_ 32 1#32),
    StableHlo.binary main_v21_2 main_while0b_c_28 main_while0b_v106 (addi : (⟨S_, .i32⟩ : BufTy).Contents (Elt F) → (⟨S_, .i32⟩ : BufTy).Contents (Elt F) → (⟨S_, .i32⟩ : BufTy).Contents (Elt F)),
    StableHlo.unary main_while0b_v106 main_v21_2 id,
    StableHlo.unary main_while0b_v104 main_v21_3 id,
    StableHlo.unary main_while0b_v96 main_v21_4 id,
    StableHlo.unary main_while0b_v105 main_v21_5 id ]
theorem body0c_sub : (body0c : List (HloOp τ sig (Elt F))).Forall fun op => op.bufs ⊆ tcRefs τ sig :=
  ⟨StableHlo.unary_bufs_sub .., StableHlo.nullary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub ..⟩
theorem body0c_fresh : (body0c : List (HloOp τ sig (Elt F))).Forall fun op => op.fresh = ∅ :=
  ⟨rfl, rfl, rfl, rfl, rfl, rfl, rfl, rfl, rfl, rfl⟩
/-- The references `body0c` writes, in order. -/
abbrev body0c_W : List (Ref sig .tc) := [main_while0b_call1_v0, main_while0b_call1_c, main_while0b_call1_c_0, main_while0b_v105, main_while0b_c_28, main_while0b_v106, main_v21_2, main_v21_3, main_v21_4, main_v21_5]
theorem body0c_writes : (body0c : List (HloOp τ sig (Elt F))).Forall fun op => op.writes ⊆ (body0c_W.map (Proc.devRef (τ := τ) .tc)).toFinset :=
  StableHlo.forall_writes_sub_of_map rfl

/-- The stretches of one step of loop 0. -/
abbrev bodyI0 : List (List (HloOp τ sig (Elt F))) := [body0a, body0b, body0c]

/-- The condition of loop 1 (the title, backwards). -/
abbrev cond1 : List (HloOp τ sig (Elt F)) :=
  [ StableHlo.nullary main_while1c_c_22 (constantI S_ 32 24#32),
    StableHlo.binary main_v30_2 main_while1c_c_22 main_while1c_v73 (cmpi .slt : (⟨S_, .i32⟩ : BufTy).Contents (Elt F) → (⟨S_, .i32⟩ : BufTy).Contents (Elt F) → (⟨S_, .i1⟩ : BufTy).Contents (Elt F)) ]
theorem cond1_sub : (cond1 : List (HloOp τ sig (Elt F))).Forall fun op => op.bufs ⊆ tcRefs τ sig :=
  ⟨StableHlo.nullary_bufs_sub .., StableHlo.binary_bufs_sub ..⟩
theorem cond1_fresh : (cond1 : List (HloOp τ sig (Elt F))).Forall fun op => op.fresh = ∅ :=
  ⟨rfl, rfl⟩
/-- The references `cond1` writes, in order. -/
abbrev cond1_W : List (Ref sig .tc) := [main_while1c_c_22, main_while1c_v73]
theorem cond1_writes : (cond1 : List (HloOp τ sig (Elt F))).Forall fun op => op.writes ⊆ (cond1_W.map (Proc.devRef (τ := τ) .tc)).toFinset :=
  StableHlo.forall_writes_sub_of_map rfl

/-- One step of loop 1: the step's input product and the hidden product, added. -/
abbrev body1a : List (HloOp τ sig (Elt F)) :=
  [ StableHlo.nullary main_while1b_c_22 (constantI S_ 32 24#32),
    StableHlo.binary main_while1b_c_22 main_v30_2 main_while1b_v73 (subi : (⟨S_, .i32⟩ : BufTy).Contents (Elt F) → (⟨S_, .i32⟩ : BufTy).Contents (Elt F) → (⟨S_, .i32⟩ : BufTy).Contents (Elt F)),
    StableHlo.nullary main_while1b_c_23 (constantI S_ 32 1#32),
    StableHlo.binary main_while1b_v73 main_while1b_c_23 main_while1b_v74 (subi : (⟨S_, .i32⟩ : BufTy).Contents (Elt F) → (⟨S_, .i32⟩ : BufTy).Contents (Elt F) → (⟨S_, .i32⟩ : BufTy).Contents (Elt F)),
    StableHlo.nullary main_while1b_call2_c (constantI S_ 32 0#32),
    StableHlo.nullary main_while1b_call2_c_0 (constantI S_ 32 0#32),
    StableHlo.TRef.unaryIndexed (.of main_v30_0 : StableHlo.TRef sig ⟨S24x64x1024, .f32⟩) ![(.of main_while1b_v74 : StableHlo.TRef sig ⟨S_, .i32⟩), (.of main_while1b_call2_c : StableHlo.TRef sig ⟨S_, .i32⟩), (.of main_while1b_call2_c_0 : StableHlo.TRef sig ⟨S_, .i32⟩)] (.of main_while1b_call2_v0 : StableHlo.TRef sig ⟨S1x64x1024, .f32⟩) (fun x i => Host.dynamicSlice S1x64x1024 x (fun k => (i k (Shape.Idx.first h_S_)).toInt) sliceFits_S24x64x1024_S1x64x1024),
    StableHlo.reshape main_while1b_call2_v0 main_while1b_v75 (rfl : (.f32 : EltTy) = .f32) shapeCasts_S1x64x1024_S64x1024,
    StableHlo.unary main_v30_1 main_while1b_v76 ((transpose S256x1024 [1, 0] · transposes_S1024x256_S256x1024_1_0) : (⟨S1024x256, .f32⟩ : BufTy).Contents (Elt F) → (⟨S256x1024, .f32⟩ : BufTy).Contents (Elt F)),
    StableHlo.binary main_v30_3 main_while1b_v76 main_while1b_v77 ((fun l r => Host.dotGeneral dot_S64x256_S256x1024_S64x1024_1_0_0_1_n_n none l r) : (⟨S64x256, .f32⟩ : BufTy).Contents (Elt F) → (⟨S256x1024, .f32⟩ : BufTy).Contents (Elt F) → (⟨S64x1024, .f32⟩ : BufTy).Contents (Elt F)),
    StableHlo.binary main_while1b_v75 main_while1b_v77 main_while1b_v78 (addf : (⟨S64x1024, .f32⟩ : BufTy).Contents (Elt F) → (⟨S64x1024, .f32⟩ : BufTy).Contents (Elt F) → (⟨S64x1024, .f32⟩ : BufTy).Contents (Elt F)) ]
theorem body1a_sub : (body1a : List (HloOp τ sig (Elt F))).Forall fun op => op.bufs ⊆ tcRefs τ sig :=
  ⟨StableHlo.nullary_bufs_sub .., StableHlo.binary_bufs_sub .., StableHlo.nullary_bufs_sub .., StableHlo.binary_bufs_sub .., StableHlo.nullary_bufs_sub .., StableHlo.nullary_bufs_sub .., StableHlo.unaryIndexed_bufs_sub .., StableHlo.reshape_bufs_sub .., StableHlo.unary_bufs_sub .., StableHlo.binary_bufs_sub .., StableHlo.binary_bufs_sub ..⟩
theorem body1a_fresh : (body1a : List (HloOp τ sig (Elt F))).Forall fun op => op.fresh = ∅ :=
  ⟨rfl, rfl, rfl, rfl, rfl, rfl, rfl, rfl, rfl, rfl, rfl⟩
/-- The references `body1a` writes, in order. -/
abbrev body1a_W : List (Ref sig .tc) := [main_while1b_c_22, main_while1b_v73, main_while1b_c_23, main_while1b_v74, main_while1b_call2_c, main_while1b_call2_c_0, main_while1b_call2_v0, main_while1b_v75, main_while1b_v76, main_while1b_v77, main_while1b_v78]
theorem body1a_writes : (body1a : List (HloOp τ sig (Elt F))).Forall fun op => op.writes ⊆ (body1a_W.map (Proc.devRef (τ := τ) .tc)).toFinset :=
  StableHlo.forall_writes_sub_of_map rfl

/-- One step of loop 1: the gates, the new cell and hidden states. -/
abbrev body1b : List (HloOp τ sig (Elt F)) :=
  [ StableHlo.unary main_while1b_v78 main_while1b_v79 ((extractStridedSlice S64x256 ![0, 0] · slices_S64x1024_S64x256_0_0) : (⟨S64x1024, .f32⟩ : BufTy).Contents (Elt F) → (⟨S64x256, .f32⟩ : BufTy).Contents (Elt F)),
    StableHlo.unary main_while1b_v78 main_while1b_v80 ((extractStridedSlice S64x256 ![0, 256] · slices_S64x1024_S64x256_0_256) : (⟨S64x1024, .f32⟩ : BufTy).Contents (Elt F) → (⟨S64x256, .f32⟩ : BufTy).Contents (Elt F)),
    StableHlo.unary main_while1b_v78 main_while1b_v81 ((extractStridedSlice S64x256 ![0, 512] · slices_S64x1024_S64x256_0_512) : (⟨S64x1024, .f32⟩ : BufTy).Contents (Elt F) → (⟨S64x256, .f32⟩ : BufTy).Contents (Elt F)),
    StableHlo.unary main_while1b_v78 main_while1b_v82 ((extractStridedSlice S64x256 ![0, 768] · slices_S64x1024_S64x256_0_768) : (⟨S64x1024, .f32⟩ : BufTy).Contents (Elt F) → (⟨S64x256, .f32⟩ : BufTy).Contents (Elt F)),
    StableHlo.unary main_while1b_v80 main_while1b_v83 (Host.negf : (⟨S64x256, .f32⟩ : BufTy).Contents (Elt F) → (⟨S64x256, .f32⟩ : BufTy).Contents (Elt F)),
    StableHlo.unary main_while1b_v83 main_while1b_v84 (Host.exp : (⟨S64x256, .f32⟩ : BufTy).Contents (Elt F) → (⟨S64x256, .f32⟩ : BufTy).Contents (Elt F)),
    StableHlo.nullary main_while1b_cst_24 (constant S_ .f32 0x3F800000#32),
    StableHlo.unary main_while1b_cst_24 main_while1b_v85 (broadcastInDim S64x256 ![] bcast_S_S64x256 : (⟨S_, .f32⟩ : BufTy).Contents (Elt F) → (⟨S64x256, .f32⟩ : BufTy).Contents (Elt F)),
    StableHlo.binary main_while1b_v85 main_while1b_v84 main_while1b_v86 (addf : (⟨S64x256, .f32⟩ : BufTy).Contents (Elt F) → (⟨S64x256, .f32⟩ : BufTy).Contents (Elt F) → (⟨S64x256, .f32⟩ : BufTy).Contents (Elt F)),
    StableHlo.nullary main_while1b_cst_25 (constant S_ .f32 0x3F800000#32),
    StableHlo.unary main_while1b_cst_25 main_while1b_v87 (broadcastInDim S64x256 ![] bcast_S_S64x256 : (⟨S_, .f32⟩ : BufTy).Contents (Elt F) → (⟨S64x256, .f32⟩ : BufTy).Contents (Elt F)),
    StableHlo.binary main_while1b_v87 main_while1b_v86 main_while1b_v88 (Host.divf : (⟨S64x256, .f32⟩ : BufTy).Contents (Elt F) → (⟨S64x256, .f32⟩ : BufTy).Contents (Elt F) → (⟨S64x256, .f32⟩ : BufTy).Contents (Elt F)),
    StableHlo.binary main_while1b_v88 main_v30_4 main_while1b_v89 (mulf : (⟨S64x256, .f32⟩ : BufTy).Contents (Elt F) → (⟨S64x256, .f32⟩ : BufTy).Contents (Elt F) → (⟨S64x256, .f32⟩ : BufTy).Contents (Elt F)),
    StableHlo.unary main_while1b_v79 main_while1b_v90 (Host.negf : (⟨S64x256, .f32⟩ : BufTy).Contents (Elt F) → (⟨S64x256, .f32⟩ : BufTy).Contents (Elt F)),
    StableHlo.unary main_while1b_v90 main_while1b_v91 (Host.exp : (⟨S64x256, .f32⟩ : BufTy).Contents (Elt F) → (⟨S64x256, .f32⟩ : BufTy).Contents (Elt F)),
    StableHlo.nullary main_while1b_cst_26 (constant S_ .f32 0x3F800000#32),
    StableHlo.unary main_while1b_cst_26 main_while1b_v92 (broadcastInDim S64x256 ![] bcast_S_S64x256 : (⟨S_, .f32⟩ : BufTy).Contents (Elt F) → (⟨S64x256, .f32⟩ : BufTy).Contents (Elt F)),
    StableHlo.binary main_while1b_v92 main_while1b_v91 main_while1b_v93 (addf : (⟨S64x256, .f32⟩ : BufTy).Contents (Elt F) → (⟨S64x256, .f32⟩ : BufTy).Contents (Elt F) → (⟨S64x256, .f32⟩ : BufTy).Contents (Elt F)),
    StableHlo.nullary main_while1b_cst_27 (constant S_ .f32 0x3F800000#32),
    StableHlo.unary main_while1b_cst_27 main_while1b_v94 (broadcastInDim S64x256 ![] bcast_S_S64x256 : (⟨S_, .f32⟩ : BufTy).Contents (Elt F) → (⟨S64x256, .f32⟩ : BufTy).Contents (Elt F)),
    StableHlo.binary main_while1b_v94 main_while1b_v93 main_while1b_v95 (Host.divf : (⟨S64x256, .f32⟩ : BufTy).Contents (Elt F) → (⟨S64x256, .f32⟩ : BufTy).Contents (Elt F) → (⟨S64x256, .f32⟩ : BufTy).Contents (Elt F)),
    StableHlo.unary main_while1b_v81 main_while1b_v96 (Host.tanh : (⟨S64x256, .f32⟩ : BufTy).Contents (Elt F) → (⟨S64x256, .f32⟩ : BufTy).Contents (Elt F)),
    StableHlo.binary main_while1b_v95 main_while1b_v96 main_while1b_v97 (mulf : (⟨S64x256, .f32⟩ : BufTy).Contents (Elt F) → (⟨S64x256, .f32⟩ : BufTy).Contents (Elt F) → (⟨S64x256, .f32⟩ : BufTy).Contents (Elt F)),
    StableHlo.binary main_while1b_v89 main_while1b_v97 main_while1b_v98 (addf : (⟨S64x256, .f32⟩ : BufTy).Contents (Elt F) → (⟨S64x256, .f32⟩ : BufTy).Contents (Elt F) → (⟨S64x256, .f32⟩ : BufTy).Contents (Elt F)),
    StableHlo.unary main_while1b_v82 main_while1b_v99 (Host.negf : (⟨S64x256, .f32⟩ : BufTy).Contents (Elt F) → (⟨S64x256, .f32⟩ : BufTy).Contents (Elt F)),
    StableHlo.unary main_while1b_v99 main_while1b_v100 (Host.exp : (⟨S64x256, .f32⟩ : BufTy).Contents (Elt F) → (⟨S64x256, .f32⟩ : BufTy).Contents (Elt F)),
    StableHlo.nullary main_while1b_cst_28 (constant S_ .f32 0x3F800000#32),
    StableHlo.unary main_while1b_cst_28 main_while1b_v101 (broadcastInDim S64x256 ![] bcast_S_S64x256 : (⟨S_, .f32⟩ : BufTy).Contents (Elt F) → (⟨S64x256, .f32⟩ : BufTy).Contents (Elt F)),
    StableHlo.binary main_while1b_v101 main_while1b_v100 main_while1b_v102 (addf : (⟨S64x256, .f32⟩ : BufTy).Contents (Elt F) → (⟨S64x256, .f32⟩ : BufTy).Contents (Elt F) → (⟨S64x256, .f32⟩ : BufTy).Contents (Elt F)),
    StableHlo.nullary main_while1b_cst_29 (constant S_ .f32 0x3F800000#32),
    StableHlo.unary main_while1b_cst_29 main_while1b_v103 (broadcastInDim S64x256 ![] bcast_S_S64x256 : (⟨S_, .f32⟩ : BufTy).Contents (Elt F) → (⟨S64x256, .f32⟩ : BufTy).Contents (Elt F)),
    StableHlo.binary main_while1b_v103 main_while1b_v102 main_while1b_v104 (Host.divf : (⟨S64x256, .f32⟩ : BufTy).Contents (Elt F) → (⟨S64x256, .f32⟩ : BufTy).Contents (Elt F) → (⟨S64x256, .f32⟩ : BufTy).Contents (Elt F)),
    StableHlo.unary main_while1b_v98 main_while1b_v105 (Host.tanh : (⟨S64x256, .f32⟩ : BufTy).Contents (Elt F) → (⟨S64x256, .f32⟩ : BufTy).Contents (Elt F)),
    StableHlo.binary main_while1b_v104 main_while1b_v105 main_while1b_v106 (mulf : (⟨S64x256, .f32⟩ : BufTy).Contents (Elt F) → (⟨S64x256, .f32⟩ : BufTy).Contents (Elt F) → (⟨S64x256, .f32⟩ : BufTy).Contents (Elt F)) ]
theorem body1b_sub : (body1b : List (HloOp τ sig (Elt F))).Forall fun op => op.bufs ⊆ tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub ..⟩
theorem body1b_fresh : (body1b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The references `body1b` writes, in order. -/
abbrev body1b_W : List (Ref sig .tc) := [main_while1b_v79, main_while1b_v80, main_while1b_v81, main_while1b_v82, main_while1b_v83, main_while1b_v84, main_while1b_cst_24, main_while1b_v85, main_while1b_v86, main_while1b_cst_25, main_while1b_v87, main_while1b_v88, main_while1b_v89, main_while1b_v90, main_while1b_v91, main_while1b_cst_26, main_while1b_v92, main_while1b_v93, main_while1b_cst_27, main_while1b_v94, main_while1b_v95, main_while1b_v96, main_while1b_v97, main_while1b_v98, main_while1b_v99, main_while1b_v100, main_while1b_cst_28, main_while1b_v101, main_while1b_v102, main_while1b_cst_29, main_while1b_v103, main_while1b_v104, main_while1b_v105, main_while1b_v106]
theorem body1b_writes : (body1b : List (HloOp τ sig (Elt F))).Forall fun op => op.writes ⊆ (body1b_W.map (Proc.devRef (τ := τ) .tc)).toFinset :=
  StableHlo.forall_writes_sub_of_map rfl

/-- One step of loop 1: the hidden state stored, the counter stepped, the carried values copied back. -/
abbrev body1c : List (HloOp τ sig (Elt F)) :=
  [ StableHlo.unary main_while1b_v106 main_while1b_call3_v0 ((broadcastInDim S1x64x256 ![1, 2] bcast_S64x256_S1x64x256_1_2) : (⟨S64x256, .f32⟩ : BufTy).Contents (Elt F) → (⟨S1x64x256, .f32⟩ : BufTy).Contents (Elt F)),
    StableHlo.nullary main_while1b_call3_c (constantI S_ 32 0#32),
    StableHlo.nullary main_while1b_call3_c_0 (constantI S_ 32 0#32),
    StableHlo.TRef.binaryIndexed (.of main_v30_5 : StableHlo.TRef sig ⟨S24x64x256, .f32⟩) (.of main_while1b_call3_v0 : StableHlo.TRef sig ⟨S1x64x256, .f32⟩) ![(.of main_while1b_v74 : StableHlo.TRef sig ⟨S_, .i32⟩), (.of main_while1b_call3_c : StableHlo.TRef sig ⟨S_, .i32⟩), (.of main_while1b_call3_c_0 : StableHlo.TRef sig ⟨S_, .i32⟩)] (.of main_while1b_v107 : StableHlo.TRef sig ⟨S24x64x256, .f32⟩) (fun x u i => Host.dynamicUpdateSlice x u (fun k => (i k (Shape.Idx.first h_S_)).toInt) updateFits_S24x64x256_S1x64x256),
    StableHlo.nullary main_while1b_c_30 (constantI S_ 32 1#32),
    StableHlo.binary main_v30_2 main_while1b_c_30 main_while1b_v108 (addi : (⟨S_, .i32⟩ : BufTy).Contents (Elt F) → (⟨S_, .i32⟩ : BufTy).Contents (Elt F) → (⟨S_, .i32⟩ : BufTy).Contents (Elt F)),
    StableHlo.unary main_while1b_v108 main_v30_2 id,
    StableHlo.unary main_while1b_v106 main_v30_3 id,
    StableHlo.unary main_while1b_v98 main_v30_4 id,
    StableHlo.unary main_while1b_v107 main_v30_5 id ]
theorem body1c_sub : (body1c : List (HloOp τ sig (Elt F))).Forall fun op => op.bufs ⊆ tcRefs τ sig :=
  ⟨StableHlo.unary_bufs_sub .., StableHlo.nullary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub ..⟩
theorem body1c_fresh : (body1c : List (HloOp τ sig (Elt F))).Forall fun op => op.fresh = ∅ :=
  ⟨rfl, rfl, rfl, rfl, rfl, rfl, rfl, rfl, rfl, rfl⟩
/-- The references `body1c` writes, in order. -/
abbrev body1c_W : List (Ref sig .tc) := [main_while1b_call3_v0, main_while1b_call3_c, main_while1b_call3_c_0, main_while1b_v107, main_while1b_c_30, main_while1b_v108, main_v30_2, main_v30_3, main_v30_4, main_v30_5]
theorem body1c_writes : (body1c : List (HloOp τ sig (Elt F))).Forall fun op => op.writes ⊆ (body1c_W.map (Proc.devRef (τ := τ) .tc)).toFinset :=
  StableHlo.forall_writes_sub_of_map rfl

/-- The stretches of one step of loop 1. -/
abbrev bodyI1 : List (List (HloOp τ sig (Elt F))) := [body1a, body1b, body1c]

/-- The condition of loop 2 (the content, forwards). -/
abbrev cond2 : List (HloOp τ sig (Elt F)) :=
  [ StableHlo.nullary main_while2c_c_22 (constantI S_ 32 637#32),
    StableHlo.binary main_v40_2 main_while2c_c_22 main_while2c_v73 (cmpi .slt : (⟨S_, .i32⟩ : BufTy).Contents (Elt F) → (⟨S_, .i32⟩ : BufTy).Contents (Elt F) → (⟨S_, .i1⟩ : BufTy).Contents (Elt F)) ]
theorem cond2_sub : (cond2 : List (HloOp τ sig (Elt F))).Forall fun op => op.bufs ⊆ tcRefs τ sig :=
  ⟨StableHlo.nullary_bufs_sub .., StableHlo.binary_bufs_sub ..⟩
theorem cond2_fresh : (cond2 : List (HloOp τ sig (Elt F))).Forall fun op => op.fresh = ∅ :=
  ⟨rfl, rfl⟩
/-- The references `cond2` writes, in order. -/
abbrev cond2_W : List (Ref sig .tc) := [main_while2c_c_22, main_while2c_v73]
theorem cond2_writes : (cond2 : List (HloOp τ sig (Elt F))).Forall fun op => op.writes ⊆ (cond2_W.map (Proc.devRef (τ := τ) .tc)).toFinset :=
  StableHlo.forall_writes_sub_of_map rfl

/-- One step of loop 2: the step's input product and the hidden product, added. -/
abbrev body2a : List (HloOp τ sig (Elt F)) :=
  [ StableHlo.nullary main_while2b_call4_c (constantI S_ 32 0#32),
    StableHlo.nullary main_while2b_call4_c_0 (constantI S_ 32 0#32),
    StableHlo.TRef.unaryIndexed (.of main_v40_0 : StableHlo.TRef sig ⟨S637x64x1024, .f32⟩) ![(.of main_v40_2 : StableHlo.TRef sig ⟨S_, .i32⟩), (.of main_while2b_call4_c : StableHlo.TRef sig ⟨S_, .i32⟩), (.of main_while2b_call4_c_0 : StableHlo.TRef sig ⟨S_, .i32⟩)] (.of main_while2b_call4_v0 : StableHlo.TRef sig ⟨S1x64x1024, .f32⟩) (fun x i => Host.dynamicSlice S1x64x1024 x (fun k => (i k (Shape.Idx.first h_S_)).toInt) sliceFits_S637x64x1024_S1x64x1024),
    StableHlo.reshape main_while2b_call4_v0 main_while2b_v73 (rfl : (.f32 : EltTy) = .f32) shapeCasts_S1x64x1024_S64x1024,
    StableHlo.unary main_v40_1 main_while2b_v74 ((transpose S256x1024 [1, 0] · transposes_S1024x256_S256x1024_1_0) : (⟨S1024x256, .f32⟩ : BufTy).Contents (Elt F) → (⟨S256x1024, .f32⟩ : BufTy).Contents (Elt F)),
    StableHlo.binary main_v40_3 main_while2b_v74 main_while2b_v75 ((fun l r => Host.dotGeneral dot_S64x256_S256x1024_S64x1024_1_0_0_1_n_n none l r) : (⟨S64x256, .f32⟩ : BufTy).Contents (Elt F) → (⟨S256x1024, .f32⟩ : BufTy).Contents (Elt F) → (⟨S64x1024, .f32⟩ : BufTy).Contents (Elt F)),
    StableHlo.binary main_while2b_v73 main_while2b_v75 main_while2b_v76 (addf : (⟨S64x1024, .f32⟩ : BufTy).Contents (Elt F) → (⟨S64x1024, .f32⟩ : BufTy).Contents (Elt F) → (⟨S64x1024, .f32⟩ : BufTy).Contents (Elt F)) ]
theorem body2a_sub : (body2a : List (HloOp τ sig (Elt F))).Forall fun op => op.bufs ⊆ tcRefs τ sig :=
  ⟨StableHlo.nullary_bufs_sub .., StableHlo.nullary_bufs_sub .., StableHlo.unaryIndexed_bufs_sub .., StableHlo.reshape_bufs_sub .., StableHlo.unary_bufs_sub .., StableHlo.binary_bufs_sub .., StableHlo.binary_bufs_sub ..⟩
theorem body2a_fresh : (body2a : List (HloOp τ sig (Elt F))).Forall fun op => op.fresh = ∅ :=
  ⟨rfl, rfl, rfl, rfl, rfl, rfl, rfl⟩
/-- The references `body2a` writes, in order. -/
abbrev body2a_W : List (Ref sig .tc) := [main_while2b_call4_c, main_while2b_call4_c_0, main_while2b_call4_v0, main_while2b_v73, main_while2b_v74, main_while2b_v75, main_while2b_v76]
theorem body2a_writes : (body2a : List (HloOp τ sig (Elt F))).Forall fun op => op.writes ⊆ (body2a_W.map (Proc.devRef (τ := τ) .tc)).toFinset :=
  StableHlo.forall_writes_sub_of_map rfl

/-- One step of loop 2: the gates, the new cell and hidden states. -/
abbrev body2b : List (HloOp τ sig (Elt F)) :=
  [ StableHlo.unary main_while2b_v76 main_while2b_v77 ((extractStridedSlice S64x256 ![0, 0] · slices_S64x1024_S64x256_0_0) : (⟨S64x1024, .f32⟩ : BufTy).Contents (Elt F) → (⟨S64x256, .f32⟩ : BufTy).Contents (Elt F)),
    StableHlo.unary main_while2b_v76 main_while2b_v78 ((extractStridedSlice S64x256 ![0, 256] · slices_S64x1024_S64x256_0_256) : (⟨S64x1024, .f32⟩ : BufTy).Contents (Elt F) → (⟨S64x256, .f32⟩ : BufTy).Contents (Elt F)),
    StableHlo.unary main_while2b_v76 main_while2b_v79 ((extractStridedSlice S64x256 ![0, 512] · slices_S64x1024_S64x256_0_512) : (⟨S64x1024, .f32⟩ : BufTy).Contents (Elt F) → (⟨S64x256, .f32⟩ : BufTy).Contents (Elt F)),
    StableHlo.unary main_while2b_v76 main_while2b_v80 ((extractStridedSlice S64x256 ![0, 768] · slices_S64x1024_S64x256_0_768) : (⟨S64x1024, .f32⟩ : BufTy).Contents (Elt F) → (⟨S64x256, .f32⟩ : BufTy).Contents (Elt F)),
    StableHlo.unary main_while2b_v78 main_while2b_v81 (Host.negf : (⟨S64x256, .f32⟩ : BufTy).Contents (Elt F) → (⟨S64x256, .f32⟩ : BufTy).Contents (Elt F)),
    StableHlo.unary main_while2b_v81 main_while2b_v82 (Host.exp : (⟨S64x256, .f32⟩ : BufTy).Contents (Elt F) → (⟨S64x256, .f32⟩ : BufTy).Contents (Elt F)),
    StableHlo.nullary main_while2b_cst_22 (constant S_ .f32 0x3F800000#32),
    StableHlo.unary main_while2b_cst_22 main_while2b_v83 (broadcastInDim S64x256 ![] bcast_S_S64x256 : (⟨S_, .f32⟩ : BufTy).Contents (Elt F) → (⟨S64x256, .f32⟩ : BufTy).Contents (Elt F)),
    StableHlo.binary main_while2b_v83 main_while2b_v82 main_while2b_v84 (addf : (⟨S64x256, .f32⟩ : BufTy).Contents (Elt F) → (⟨S64x256, .f32⟩ : BufTy).Contents (Elt F) → (⟨S64x256, .f32⟩ : BufTy).Contents (Elt F)),
    StableHlo.nullary main_while2b_cst_23 (constant S_ .f32 0x3F800000#32),
    StableHlo.unary main_while2b_cst_23 main_while2b_v85 (broadcastInDim S64x256 ![] bcast_S_S64x256 : (⟨S_, .f32⟩ : BufTy).Contents (Elt F) → (⟨S64x256, .f32⟩ : BufTy).Contents (Elt F)),
    StableHlo.binary main_while2b_v85 main_while2b_v84 main_while2b_v86 (Host.divf : (⟨S64x256, .f32⟩ : BufTy).Contents (Elt F) → (⟨S64x256, .f32⟩ : BufTy).Contents (Elt F) → (⟨S64x256, .f32⟩ : BufTy).Contents (Elt F)),
    StableHlo.binary main_while2b_v86 main_v40_4 main_while2b_v87 (mulf : (⟨S64x256, .f32⟩ : BufTy).Contents (Elt F) → (⟨S64x256, .f32⟩ : BufTy).Contents (Elt F) → (⟨S64x256, .f32⟩ : BufTy).Contents (Elt F)),
    StableHlo.unary main_while2b_v77 main_while2b_v88 (Host.negf : (⟨S64x256, .f32⟩ : BufTy).Contents (Elt F) → (⟨S64x256, .f32⟩ : BufTy).Contents (Elt F)),
    StableHlo.unary main_while2b_v88 main_while2b_v89 (Host.exp : (⟨S64x256, .f32⟩ : BufTy).Contents (Elt F) → (⟨S64x256, .f32⟩ : BufTy).Contents (Elt F)),
    StableHlo.nullary main_while2b_cst_24 (constant S_ .f32 0x3F800000#32),
    StableHlo.unary main_while2b_cst_24 main_while2b_v90 (broadcastInDim S64x256 ![] bcast_S_S64x256 : (⟨S_, .f32⟩ : BufTy).Contents (Elt F) → (⟨S64x256, .f32⟩ : BufTy).Contents (Elt F)),
    StableHlo.binary main_while2b_v90 main_while2b_v89 main_while2b_v91 (addf : (⟨S64x256, .f32⟩ : BufTy).Contents (Elt F) → (⟨S64x256, .f32⟩ : BufTy).Contents (Elt F) → (⟨S64x256, .f32⟩ : BufTy).Contents (Elt F)),
    StableHlo.nullary main_while2b_cst_25 (constant S_ .f32 0x3F800000#32),
    StableHlo.unary main_while2b_cst_25 main_while2b_v92 (broadcastInDim S64x256 ![] bcast_S_S64x256 : (⟨S_, .f32⟩ : BufTy).Contents (Elt F) → (⟨S64x256, .f32⟩ : BufTy).Contents (Elt F)),
    StableHlo.binary main_while2b_v92 main_while2b_v91 main_while2b_v93 (Host.divf : (⟨S64x256, .f32⟩ : BufTy).Contents (Elt F) → (⟨S64x256, .f32⟩ : BufTy).Contents (Elt F) → (⟨S64x256, .f32⟩ : BufTy).Contents (Elt F)),
    StableHlo.unary main_while2b_v79 main_while2b_v94 (Host.tanh : (⟨S64x256, .f32⟩ : BufTy).Contents (Elt F) → (⟨S64x256, .f32⟩ : BufTy).Contents (Elt F)),
    StableHlo.binary main_while2b_v93 main_while2b_v94 main_while2b_v95 (mulf : (⟨S64x256, .f32⟩ : BufTy).Contents (Elt F) → (⟨S64x256, .f32⟩ : BufTy).Contents (Elt F) → (⟨S64x256, .f32⟩ : BufTy).Contents (Elt F)),
    StableHlo.binary main_while2b_v87 main_while2b_v95 main_while2b_v96 (addf : (⟨S64x256, .f32⟩ : BufTy).Contents (Elt F) → (⟨S64x256, .f32⟩ : BufTy).Contents (Elt F) → (⟨S64x256, .f32⟩ : BufTy).Contents (Elt F)),
    StableHlo.unary main_while2b_v80 main_while2b_v97 (Host.negf : (⟨S64x256, .f32⟩ : BufTy).Contents (Elt F) → (⟨S64x256, .f32⟩ : BufTy).Contents (Elt F)),
    StableHlo.unary main_while2b_v97 main_while2b_v98 (Host.exp : (⟨S64x256, .f32⟩ : BufTy).Contents (Elt F) → (⟨S64x256, .f32⟩ : BufTy).Contents (Elt F)),
    StableHlo.nullary main_while2b_cst_26 (constant S_ .f32 0x3F800000#32),
    StableHlo.unary main_while2b_cst_26 main_while2b_v99 (broadcastInDim S64x256 ![] bcast_S_S64x256 : (⟨S_, .f32⟩ : BufTy).Contents (Elt F) → (⟨S64x256, .f32⟩ : BufTy).Contents (Elt F)),
    StableHlo.binary main_while2b_v99 main_while2b_v98 main_while2b_v100 (addf : (⟨S64x256, .f32⟩ : BufTy).Contents (Elt F) → (⟨S64x256, .f32⟩ : BufTy).Contents (Elt F) → (⟨S64x256, .f32⟩ : BufTy).Contents (Elt F)),
    StableHlo.nullary main_while2b_cst_27 (constant S_ .f32 0x3F800000#32),
    StableHlo.unary main_while2b_cst_27 main_while2b_v101 (broadcastInDim S64x256 ![] bcast_S_S64x256 : (⟨S_, .f32⟩ : BufTy).Contents (Elt F) → (⟨S64x256, .f32⟩ : BufTy).Contents (Elt F)),
    StableHlo.binary main_while2b_v101 main_while2b_v100 main_while2b_v102 (Host.divf : (⟨S64x256, .f32⟩ : BufTy).Contents (Elt F) → (⟨S64x256, .f32⟩ : BufTy).Contents (Elt F) → (⟨S64x256, .f32⟩ : BufTy).Contents (Elt F)),
    StableHlo.unary main_while2b_v96 main_while2b_v103 (Host.tanh : (⟨S64x256, .f32⟩ : BufTy).Contents (Elt F) → (⟨S64x256, .f32⟩ : BufTy).Contents (Elt F)),
    StableHlo.binary main_while2b_v102 main_while2b_v103 main_while2b_v104 (mulf : (⟨S64x256, .f32⟩ : BufTy).Contents (Elt F) → (⟨S64x256, .f32⟩ : BufTy).Contents (Elt F) → (⟨S64x256, .f32⟩ : BufTy).Contents (Elt F)) ]
theorem body2b_sub : (body2b : List (HloOp τ sig (Elt F))).Forall fun op => op.bufs ⊆ tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub ..⟩
theorem body2b_fresh : (body2b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The references `body2b` writes, in order. -/
abbrev body2b_W : List (Ref sig .tc) := [main_while2b_v77, main_while2b_v78, main_while2b_v79, main_while2b_v80, main_while2b_v81, main_while2b_v82, main_while2b_cst_22, main_while2b_v83, main_while2b_v84, main_while2b_cst_23, main_while2b_v85, main_while2b_v86, main_while2b_v87, main_while2b_v88, main_while2b_v89, main_while2b_cst_24, main_while2b_v90, main_while2b_v91, main_while2b_cst_25, main_while2b_v92, main_while2b_v93, main_while2b_v94, main_while2b_v95, main_while2b_v96, main_while2b_v97, main_while2b_v98, main_while2b_cst_26, main_while2b_v99, main_while2b_v100, main_while2b_cst_27, main_while2b_v101, main_while2b_v102, main_while2b_v103, main_while2b_v104]
theorem body2b_writes : (body2b : List (HloOp τ sig (Elt F))).Forall fun op => op.writes ⊆ (body2b_W.map (Proc.devRef (τ := τ) .tc)).toFinset :=
  StableHlo.forall_writes_sub_of_map rfl

/-- One step of loop 2: the hidden state stored, the counter stepped, the carried values copied back. -/
abbrev body2c : List (HloOp τ sig (Elt F)) :=
  [ StableHlo.unary main_while2b_v104 main_while2b_call5_v0 ((broadcastInDim S1x64x256 ![1, 2] bcast_S64x256_S1x64x256_1_2) : (⟨S64x256, .f32⟩ : BufTy).Contents (Elt F) → (⟨S1x64x256, .f32⟩ : BufTy).Contents (Elt F)),
    StableHlo.nullary main_while2b_call5_c (constantI S_ 32 0#32),
    StableHlo.nullary main_while2b_call5_c_0 (constantI S_ 32 0#32),
    StableHlo.TRef.binaryIndexed (.of main_v40_5 : StableHlo.TRef sig ⟨S637x64x256, .f32⟩) (.of main_while2b_call5_v0 : StableHlo.TRef sig ⟨S1x64x256, .f32⟩) ![(.of main_v40_2 : StableHlo.TRef sig ⟨S_, .i32⟩), (.of main_while2b_call5_c : StableHlo.TRef sig ⟨S_, .i32⟩), (.of main_while2b_call5_c_0 : StableHlo.TRef sig ⟨S_, .i32⟩)] (.of main_while2b_v105 : StableHlo.TRef sig ⟨S637x64x256, .f32⟩) (fun x u i => Host.dynamicUpdateSlice x u (fun k => (i k (Shape.Idx.first h_S_)).toInt) updateFits_S637x64x256_S1x64x256),
    StableHlo.nullary main_while2b_c_28 (constantI S_ 32 1#32),
    StableHlo.binary main_v40_2 main_while2b_c_28 main_while2b_v106 (addi : (⟨S_, .i32⟩ : BufTy).Contents (Elt F) → (⟨S_, .i32⟩ : BufTy).Contents (Elt F) → (⟨S_, .i32⟩ : BufTy).Contents (Elt F)),
    StableHlo.unary main_while2b_v106 main_v40_2 id,
    StableHlo.unary main_while2b_v104 main_v40_3 id,
    StableHlo.unary main_while2b_v96 main_v40_4 id,
    StableHlo.unary main_while2b_v105 main_v40_5 id ]
theorem body2c_sub : (body2c : List (HloOp τ sig (Elt F))).Forall fun op => op.bufs ⊆ tcRefs τ sig :=
  ⟨StableHlo.unary_bufs_sub .., StableHlo.nullary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub ..⟩
theorem body2c_fresh : (body2c : List (HloOp τ sig (Elt F))).Forall fun op => op.fresh = ∅ :=
  ⟨rfl, rfl, rfl, rfl, rfl, rfl, rfl, rfl, rfl, rfl⟩
/-- The references `body2c` writes, in order. -/
abbrev body2c_W : List (Ref sig .tc) := [main_while2b_call5_v0, main_while2b_call5_c, main_while2b_call5_c_0, main_while2b_v105, main_while2b_c_28, main_while2b_v106, main_v40_2, main_v40_3, main_v40_4, main_v40_5]
theorem body2c_writes : (body2c : List (HloOp τ sig (Elt F))).Forall fun op => op.writes ⊆ (body2c_W.map (Proc.devRef (τ := τ) .tc)).toFinset :=
  StableHlo.forall_writes_sub_of_map rfl

/-- The stretches of one step of loop 2. -/
abbrev bodyI2 : List (List (HloOp τ sig (Elt F))) := [body2a, body2b, body2c]

/-- The condition of loop 3 (the content, backwards). -/
abbrev cond3 : List (HloOp τ sig (Elt F)) :=
  [ StableHlo.nullary main_while3c_c_22 (constantI S_ 32 637#32),
    StableHlo.binary main_v49_2 main_while3c_c_22 main_while3c_v73 (cmpi .slt : (⟨S_, .i32⟩ : BufTy).Contents (Elt F) → (⟨S_, .i32⟩ : BufTy).Contents (Elt F) → (⟨S_, .i1⟩ : BufTy).Contents (Elt F)) ]
theorem cond3_sub : (cond3 : List (HloOp τ sig (Elt F))).Forall fun op => op.bufs ⊆ tcRefs τ sig :=
  ⟨StableHlo.nullary_bufs_sub .., StableHlo.binary_bufs_sub ..⟩
theorem cond3_fresh : (cond3 : List (HloOp τ sig (Elt F))).Forall fun op => op.fresh = ∅ :=
  ⟨rfl, rfl⟩
/-- The references `cond3` writes, in order. -/
abbrev cond3_W : List (Ref sig .tc) := [main_while3c_c_22, main_while3c_v73]
theorem cond3_writes : (cond3 : List (HloOp τ sig (Elt F))).Forall fun op => op.writes ⊆ (cond3_W.map (Proc.devRef (τ := τ) .tc)).toFinset :=
  StableHlo.forall_writes_sub_of_map rfl

/-- One step of loop 3: the step's input product and the hidden product, added. -/
abbrev body3a : List (HloOp τ sig (Elt F)) :=
  [ StableHlo.nullary main_while3b_c_22 (constantI S_ 32 637#32),
    StableHlo.binary main_while3b_c_22 main_v49_2 main_while3b_v73 (subi : (⟨S_, .i32⟩ : BufTy).Contents (Elt F) → (⟨S_, .i32⟩ : BufTy).Contents (Elt F) → (⟨S_, .i32⟩ : BufTy).Contents (Elt F)),
    StableHlo.nullary main_while3b_c_23 (constantI S_ 32 1#32),
    StableHlo.binary main_while3b_v73 main_while3b_c_23 main_while3b_v74 (subi : (⟨S_, .i32⟩ : BufTy).Contents (Elt F) → (⟨S_, .i32⟩ : BufTy).Contents (Elt F) → (⟨S_, .i32⟩ : BufTy).Contents (Elt F)),
    StableHlo.nullary main_while3b_call6_c (constantI S_ 32 0#32),
    StableHlo.nullary main_while3b_call6_c_0 (constantI S_ 32 0#32),
    StableHlo.TRef.unaryIndexed (.of main_v49_0 : StableHlo.TRef sig ⟨S637x64x1024, .f32⟩) ![(.of main_while3b_v74 : StableHlo.TRef sig ⟨S_, .i32⟩), (.of main_while3b_call6_c : StableHlo.TRef sig ⟨S_, .i32⟩), (.of main_while3b_call6_c_0 : StableHlo.TRef sig ⟨S_, .i32⟩)] (.of main_while3b_call6_v0 : StableHlo.TRef sig ⟨S1x64x1024, .f32⟩) (fun x i => Host.dynamicSlice S1x64x1024 x (fun k => (i k (Shape.Idx.first h_S_)).toInt) sliceFits_S637x64x1024_S1x64x1024),
    StableHlo.reshape main_while3b_call6_v0 main_while3b_v75 (rfl : (.f32 : EltTy) = .f32) shapeCasts_S1x64x1024_S64x1024,
    StableHlo.unary main_v49_1 main_while3b_v76 ((transpose S256x1024 [1, 0] · transposes_S1024x256_S256x1024_1_0) : (⟨S1024x256, .f32⟩ : BufTy).Contents (Elt F) → (⟨S256x1024, .f32⟩ : BufTy).Contents (Elt F)),
    StableHlo.binary main_v49_3 main_while3b_v76 main_while3b_v77 ((fun l r => Host.dotGeneral dot_S64x256_S256x1024_S64x1024_1_0_0_1_n_n none l r) : (⟨S64x256, .f32⟩ : BufTy).Contents (Elt F) → (⟨S256x1024, .f32⟩ : BufTy).Contents (Elt F) → (⟨S64x1024, .f32⟩ : BufTy).Contents (Elt F)),
    StableHlo.binary main_while3b_v75 main_while3b_v77 main_while3b_v78 (addf : (⟨S64x1024, .f32⟩ : BufTy).Contents (Elt F) → (⟨S64x1024, .f32⟩ : BufTy).Contents (Elt F) → (⟨S64x1024, .f32⟩ : BufTy).Contents (Elt F)) ]
theorem body3a_sub : (body3a : List (HloOp τ sig (Elt F))).Forall fun op => op.bufs ⊆ tcRefs τ sig :=
  ⟨StableHlo.nullary_bufs_sub .., StableHlo.binary_bufs_sub .., StableHlo.nullary_bufs_sub .., StableHlo.binary_bufs_sub .., StableHlo.nullary_bufs_sub .., StableHlo.nullary_bufs_sub .., StableHlo.unaryIndexed_bufs_sub .., StableHlo.reshape_bufs_sub .., StableHlo.unary_bufs_sub .., StableHlo.binary_bufs_sub .., StableHlo.binary_bufs_sub ..⟩
theorem body3a_fresh : (body3a : List (HloOp τ sig (Elt F))).Forall fun op => op.fresh = ∅ :=
  ⟨rfl, rfl, rfl, rfl, rfl, rfl, rfl, rfl, rfl, rfl, rfl⟩
/-- The references `body3a` writes, in order. -/
abbrev body3a_W : List (Ref sig .tc) := [main_while3b_c_22, main_while3b_v73, main_while3b_c_23, main_while3b_v74, main_while3b_call6_c, main_while3b_call6_c_0, main_while3b_call6_v0, main_while3b_v75, main_while3b_v76, main_while3b_v77, main_while3b_v78]
theorem body3a_writes : (body3a : List (HloOp τ sig (Elt F))).Forall fun op => op.writes ⊆ (body3a_W.map (Proc.devRef (τ := τ) .tc)).toFinset :=
  StableHlo.forall_writes_sub_of_map rfl

/-- One step of loop 3: the gates, the new cell and hidden states. -/
abbrev body3b : List (HloOp τ sig (Elt F)) :=
  [ StableHlo.unary main_while3b_v78 main_while3b_v79 ((extractStridedSlice S64x256 ![0, 0] · slices_S64x1024_S64x256_0_0) : (⟨S64x1024, .f32⟩ : BufTy).Contents (Elt F) → (⟨S64x256, .f32⟩ : BufTy).Contents (Elt F)),
    StableHlo.unary main_while3b_v78 main_while3b_v80 ((extractStridedSlice S64x256 ![0, 256] · slices_S64x1024_S64x256_0_256) : (⟨S64x1024, .f32⟩ : BufTy).Contents (Elt F) → (⟨S64x256, .f32⟩ : BufTy).Contents (Elt F)),
    StableHlo.unary main_while3b_v78 main_while3b_v81 ((extractStridedSlice S64x256 ![0, 512] · slices_S64x1024_S64x256_0_512) : (⟨S64x1024, .f32⟩ : BufTy).Contents (Elt F) → (⟨S64x256, .f32⟩ : BufTy).Contents (Elt F)),
    StableHlo.unary main_while3b_v78 main_while3b_v82 ((extractStridedSlice S64x256 ![0, 768] · slices_S64x1024_S64x256_0_768) : (⟨S64x1024, .f32⟩ : BufTy).Contents (Elt F) → (⟨S64x256, .f32⟩ : BufTy).Contents (Elt F)),
    StableHlo.unary main_while3b_v80 main_while3b_v83 (Host.negf : (⟨S64x256, .f32⟩ : BufTy).Contents (Elt F) → (⟨S64x256, .f32⟩ : BufTy).Contents (Elt F)),
    StableHlo.unary main_while3b_v83 main_while3b_v84 (Host.exp : (⟨S64x256, .f32⟩ : BufTy).Contents (Elt F) → (⟨S64x256, .f32⟩ : BufTy).Contents (Elt F)),
    StableHlo.nullary main_while3b_cst_24 (constant S_ .f32 0x3F800000#32),
    StableHlo.unary main_while3b_cst_24 main_while3b_v85 (broadcastInDim S64x256 ![] bcast_S_S64x256 : (⟨S_, .f32⟩ : BufTy).Contents (Elt F) → (⟨S64x256, .f32⟩ : BufTy).Contents (Elt F)),
    StableHlo.binary main_while3b_v85 main_while3b_v84 main_while3b_v86 (addf : (⟨S64x256, .f32⟩ : BufTy).Contents (Elt F) → (⟨S64x256, .f32⟩ : BufTy).Contents (Elt F) → (⟨S64x256, .f32⟩ : BufTy).Contents (Elt F)),
    StableHlo.nullary main_while3b_cst_25 (constant S_ .f32 0x3F800000#32),
    StableHlo.unary main_while3b_cst_25 main_while3b_v87 (broadcastInDim S64x256 ![] bcast_S_S64x256 : (⟨S_, .f32⟩ : BufTy).Contents (Elt F) → (⟨S64x256, .f32⟩ : BufTy).Contents (Elt F)),
    StableHlo.binary main_while3b_v87 main_while3b_v86 main_while3b_v88 (Host.divf : (⟨S64x256, .f32⟩ : BufTy).Contents (Elt F) → (⟨S64x256, .f32⟩ : BufTy).Contents (Elt F) → (⟨S64x256, .f32⟩ : BufTy).Contents (Elt F)),
    StableHlo.binary main_while3b_v88 main_v49_4 main_while3b_v89 (mulf : (⟨S64x256, .f32⟩ : BufTy).Contents (Elt F) → (⟨S64x256, .f32⟩ : BufTy).Contents (Elt F) → (⟨S64x256, .f32⟩ : BufTy).Contents (Elt F)),
    StableHlo.unary main_while3b_v79 main_while3b_v90 (Host.negf : (⟨S64x256, .f32⟩ : BufTy).Contents (Elt F) → (⟨S64x256, .f32⟩ : BufTy).Contents (Elt F)),
    StableHlo.unary main_while3b_v90 main_while3b_v91 (Host.exp : (⟨S64x256, .f32⟩ : BufTy).Contents (Elt F) → (⟨S64x256, .f32⟩ : BufTy).Contents (Elt F)),
    StableHlo.nullary main_while3b_cst_26 (constant S_ .f32 0x3F800000#32),
    StableHlo.unary main_while3b_cst_26 main_while3b_v92 (broadcastInDim S64x256 ![] bcast_S_S64x256 : (⟨S_, .f32⟩ : BufTy).Contents (Elt F) → (⟨S64x256, .f32⟩ : BufTy).Contents (Elt F)),
    StableHlo.binary main_while3b_v92 main_while3b_v91 main_while3b_v93 (addf : (⟨S64x256, .f32⟩ : BufTy).Contents (Elt F) → (⟨S64x256, .f32⟩ : BufTy).Contents (Elt F) → (⟨S64x256, .f32⟩ : BufTy).Contents (Elt F)),
    StableHlo.nullary main_while3b_cst_27 (constant S_ .f32 0x3F800000#32),
    StableHlo.unary main_while3b_cst_27 main_while3b_v94 (broadcastInDim S64x256 ![] bcast_S_S64x256 : (⟨S_, .f32⟩ : BufTy).Contents (Elt F) → (⟨S64x256, .f32⟩ : BufTy).Contents (Elt F)),
    StableHlo.binary main_while3b_v94 main_while3b_v93 main_while3b_v95 (Host.divf : (⟨S64x256, .f32⟩ : BufTy).Contents (Elt F) → (⟨S64x256, .f32⟩ : BufTy).Contents (Elt F) → (⟨S64x256, .f32⟩ : BufTy).Contents (Elt F)),
    StableHlo.unary main_while3b_v81 main_while3b_v96 (Host.tanh : (⟨S64x256, .f32⟩ : BufTy).Contents (Elt F) → (⟨S64x256, .f32⟩ : BufTy).Contents (Elt F)),
    StableHlo.binary main_while3b_v95 main_while3b_v96 main_while3b_v97 (mulf : (⟨S64x256, .f32⟩ : BufTy).Contents (Elt F) → (⟨S64x256, .f32⟩ : BufTy).Contents (Elt F) → (⟨S64x256, .f32⟩ : BufTy).Contents (Elt F)),
    StableHlo.binary main_while3b_v89 main_while3b_v97 main_while3b_v98 (addf : (⟨S64x256, .f32⟩ : BufTy).Contents (Elt F) → (⟨S64x256, .f32⟩ : BufTy).Contents (Elt F) → (⟨S64x256, .f32⟩ : BufTy).Contents (Elt F)),
    StableHlo.unary main_while3b_v82 main_while3b_v99 (Host.negf : (⟨S64x256, .f32⟩ : BufTy).Contents (Elt F) → (⟨S64x256, .f32⟩ : BufTy).Contents (Elt F)),
    StableHlo.unary main_while3b_v99 main_while3b_v100 (Host.exp : (⟨S64x256, .f32⟩ : BufTy).Contents (Elt F) → (⟨S64x256, .f32⟩ : BufTy).Contents (Elt F)),
    StableHlo.nullary main_while3b_cst_28 (constant S_ .f32 0x3F800000#32),
    StableHlo.unary main_while3b_cst_28 main_while3b_v101 (broadcastInDim S64x256 ![] bcast_S_S64x256 : (⟨S_, .f32⟩ : BufTy).Contents (Elt F) → (⟨S64x256, .f32⟩ : BufTy).Contents (Elt F)),
    StableHlo.binary main_while3b_v101 main_while3b_v100 main_while3b_v102 (addf : (⟨S64x256, .f32⟩ : BufTy).Contents (Elt F) → (⟨S64x256, .f32⟩ : BufTy).Contents (Elt F) → (⟨S64x256, .f32⟩ : BufTy).Contents (Elt F)),
    StableHlo.nullary main_while3b_cst_29 (constant S_ .f32 0x3F800000#32),
    StableHlo.unary main_while3b_cst_29 main_while3b_v103 (broadcastInDim S64x256 ![] bcast_S_S64x256 : (⟨S_, .f32⟩ : BufTy).Contents (Elt F) → (⟨S64x256, .f32⟩ : BufTy).Contents (Elt F)),
    StableHlo.binary main_while3b_v103 main_while3b_v102 main_while3b_v104 (Host.divf : (⟨S64x256, .f32⟩ : BufTy).Contents (Elt F) → (⟨S64x256, .f32⟩ : BufTy).Contents (Elt F) → (⟨S64x256, .f32⟩ : BufTy).Contents (Elt F)),
    StableHlo.unary main_while3b_v98 main_while3b_v105 (Host.tanh : (⟨S64x256, .f32⟩ : BufTy).Contents (Elt F) → (⟨S64x256, .f32⟩ : BufTy).Contents (Elt F)),
    StableHlo.binary main_while3b_v104 main_while3b_v105 main_while3b_v106 (mulf : (⟨S64x256, .f32⟩ : BufTy).Contents (Elt F) → (⟨S64x256, .f32⟩ : BufTy).Contents (Elt F) → (⟨S64x256, .f32⟩ : BufTy).Contents (Elt F)) ]
theorem body3b_sub : (body3b : List (HloOp τ sig (Elt F))).Forall fun op => op.bufs ⊆ tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub ..⟩
theorem body3b_fresh : (body3b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The references `body3b` writes, in order. -/
abbrev body3b_W : List (Ref sig .tc) := [main_while3b_v79, main_while3b_v80, main_while3b_v81, main_while3b_v82, main_while3b_v83, main_while3b_v84, main_while3b_cst_24, main_while3b_v85, main_while3b_v86, main_while3b_cst_25, main_while3b_v87, main_while3b_v88, main_while3b_v89, main_while3b_v90, main_while3b_v91, main_while3b_cst_26, main_while3b_v92, main_while3b_v93, main_while3b_cst_27, main_while3b_v94, main_while3b_v95, main_while3b_v96, main_while3b_v97, main_while3b_v98, main_while3b_v99, main_while3b_v100, main_while3b_cst_28, main_while3b_v101, main_while3b_v102, main_while3b_cst_29, main_while3b_v103, main_while3b_v104, main_while3b_v105, main_while3b_v106]
theorem body3b_writes : (body3b : List (HloOp τ sig (Elt F))).Forall fun op => op.writes ⊆ (body3b_W.map (Proc.devRef (τ := τ) .tc)).toFinset :=
  StableHlo.forall_writes_sub_of_map rfl

/-- One step of loop 3: the hidden state stored, the counter stepped, the carried values copied back. -/
abbrev body3c : List (HloOp τ sig (Elt F)) :=
  [ StableHlo.unary main_while3b_v106 main_while3b_call7_v0 ((broadcastInDim S1x64x256 ![1, 2] bcast_S64x256_S1x64x256_1_2) : (⟨S64x256, .f32⟩ : BufTy).Contents (Elt F) → (⟨S1x64x256, .f32⟩ : BufTy).Contents (Elt F)),
    StableHlo.nullary main_while3b_call7_c (constantI S_ 32 0#32),
    StableHlo.nullary main_while3b_call7_c_0 (constantI S_ 32 0#32),
    StableHlo.TRef.binaryIndexed (.of main_v49_5 : StableHlo.TRef sig ⟨S637x64x256, .f32⟩) (.of main_while3b_call7_v0 : StableHlo.TRef sig ⟨S1x64x256, .f32⟩) ![(.of main_while3b_v74 : StableHlo.TRef sig ⟨S_, .i32⟩), (.of main_while3b_call7_c : StableHlo.TRef sig ⟨S_, .i32⟩), (.of main_while3b_call7_c_0 : StableHlo.TRef sig ⟨S_, .i32⟩)] (.of main_while3b_v107 : StableHlo.TRef sig ⟨S637x64x256, .f32⟩) (fun x u i => Host.dynamicUpdateSlice x u (fun k => (i k (Shape.Idx.first h_S_)).toInt) updateFits_S637x64x256_S1x64x256),
    StableHlo.nullary main_while3b_c_30 (constantI S_ 32 1#32),
    StableHlo.binary main_v49_2 main_while3b_c_30 main_while3b_v108 (addi : (⟨S_, .i32⟩ : BufTy).Contents (Elt F) → (⟨S_, .i32⟩ : BufTy).Contents (Elt F) → (⟨S_, .i32⟩ : BufTy).Contents (Elt F)),
    StableHlo.unary main_while3b_v108 main_v49_2 id,
    StableHlo.unary main_while3b_v106 main_v49_3 id,
    StableHlo.unary main_while3b_v98 main_v49_4 id,
    StableHlo.unary main_while3b_v107 main_v49_5 id ]
theorem body3c_sub : (body3c : List (HloOp τ sig (Elt F))).Forall fun op => op.bufs ⊆ tcRefs τ sig :=
  ⟨StableHlo.unary_bufs_sub .., StableHlo.nullary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub ..⟩
theorem body3c_fresh : (body3c : List (HloOp τ sig (Elt F))).Forall fun op => op.fresh = ∅ :=
  ⟨rfl, rfl, rfl, rfl, rfl, rfl, rfl, rfl, rfl, rfl⟩
/-- The references `body3c` writes, in order. -/
abbrev body3c_W : List (Ref sig .tc) := [main_while3b_call7_v0, main_while3b_call7_c, main_while3b_call7_c_0, main_while3b_v107, main_while3b_c_30, main_while3b_v108, main_v49_2, main_v49_3, main_v49_4, main_v49_5]
theorem body3c_writes : (body3c : List (HloOp τ sig (Elt F))).Forall fun op => op.writes ⊆ (body3c_W.map (Proc.devRef (τ := τ) .tc)).toFinset :=
  StableHlo.forall_writes_sub_of_map rfl

/-- The stretches of one step of loop 3. -/
abbrev bodyI3 : List (List (HloOp τ sig (Elt F))) := [body3a, body3b, body3c]

end Cert.ReferenceIdeal.K

end
-- ==== Proof.ReferenceIdeal.Run.lean ====
module

public import proofs.«01_k».proof.Proof.ReferenceIdeal.Ops
public import Idealize.ShloMosaic.Lib.StableHlo.RunLoop
public import Idealize.ShloMosaic.Lib.Pipeline.RegionsLoop
public import Idealize.ShloMosaic.Lib.Pipeline.Frame
public import Idealize.ShloMosaic.Lib.Scf.ExitTest
public import Idealize.ShloMosaic.Lib.Scf.Counter

@[expose] public section

set_option maxRecDepth 16384

noncomputable section

namespace Cert.ReferenceIdeal.K

open Cert.ReferenceIdeal Cert.ReferenceIdeal.Gen
open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg Ticket PCfg ucRefs sub_ucRefs)

variable {F : FTy → Type} [FloatOps F]

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17]

/-! ## The contents at the boundaries -/

/-- Before @main's first operation: as launched. -/
abbrev L0 (c : Dev nD) : Valuation τ sig (Elt F) := fun b => m (c, b)
/-- Where loop 0 is entered. -/
def E0 (c : Dev nD) : Valuation τ sig (Elt F) := after ops0 (L0 m c)
/-- Before the `k`-th run of loop 0's condition. -/
def T0 (k : ℕ) (c : Dev nD) : Valuation τ sig (Elt F) := atTrip cond0 bodyI0 (E0 m) k c
/-- Where loop 0 is left. -/
def X0 (c : Dev nD) : Valuation τ sig (Elt F) := after cond0 (T0 m 24 c)
/-- Where loop 1 is entered. -/
def E1 (c : Dev nD) : Valuation τ sig (Elt F) := after ops1 (X0 m c)
/-- Before the `k`-th run of loop 1's condition. -/
def T1 (k : ℕ) (c : Dev nD) : Valuation τ sig (Elt F) := atTrip cond1 bodyI1 (E1 m) k c
/-- Where loop 1 is left. -/
def X1 (c : Dev nD) : Valuation τ sig (Elt F) := after cond1 (T1 m 24 c)
/-- Where loop 2 is entered. -/
def E2 (c : Dev nD) : Valuation τ sig (Elt F) := after ops2 (X1 m c)
/-- Before the `k`-th run of loop 2's condition. -/
def T2 (k : ℕ) (c : Dev nD) : Valuation τ sig (Elt F) := atTrip cond2 bodyI2 (E2 m) k c
/-- Where loop 2 is left. -/
def X2 (c : Dev nD) : Valuation τ sig (Elt F) := after cond2 (T2 m 637 c)
/-- Where loop 3 is entered. -/
def E3 (c : Dev nD) : Valuation τ sig (Elt F) := after ops3 (X2 m c)
/-- Before the `k`-th run of loop 3's condition. -/
def T3 (k : ℕ) (c : Dev nD) : Valuation τ sig (Elt F) := atTrip cond3 bodyI3 (E3 m) k c
/-- Where loop 3 is left. -/
def X3 (c : Dev nD) : Valuation τ sig (Elt F) := after cond3 (T3 m 637 c)
/-- At @main's end. -/
def Wend (c : Dev nD) : Valuation τ sig (Elt F) := after ops4 (X3 m c)

/-! ## Loop 0: the title, forwards -/

theorem ctr0_cond (W : Valuation τ sig (Elt F)) : after cond0 W (Proc.devRef .tc main_v21_2) = W (Proc.devRef .tc main_v21_2) :=
  after_of_writes_sub cond0 _ cond0_writes (by decide)
theorem ctr0_a (W : Valuation τ sig (Elt F)) : after body0a W (Proc.devRef .tc main_v21_2) = W (Proc.devRef .tc main_v21_2) :=
  after_of_writes_sub body0a _ body0a_writes (by decide)
theorem ctr0_b (W : Valuation τ sig (Elt F)) : after body0b W (Proc.devRef .tc main_v21_2) = W (Proc.devRef .tc main_v21_2) :=
  after_of_writes_sub body0b _ body0b_writes (by decide)
/-- The last stretch of a step leaves the counter one further. -/
theorem ctr0_c (W : Valuation τ sig (Elt F)) :
    after body0c W (Proc.devRef .tc main_v21_2) = addi (W (Proc.devRef .tc main_v21_2) : (⟨S_, .i32⟩ : BufTy).Contents (Elt F)) (constantI S_ 32 1#32) := by
  after_results_simp
  rfl
theorem ctr0_entry (c : Dev nD) : E0 m c (Proc.devRef .tc main_v21_2) = (constantI S_ 32 0#32 : (⟨S_, .i32⟩ : BufTy).Contents (Elt F)) := by
  unfold E0
  after_results_simp
  rfl
/-- Before the `k`-th condition the counter is `k`. -/
theorem ctr0 (c : Dev nD) : ∀ k, T0 m k c (Proc.devRef .tc main_v21_2) = fun _ => Scf.iv 0#32 1#32 k
  | 0 => by
    rw [show T0 m 0 c = E0 m c from rfl, ctr0_entry, Scf.iv_zero]; rfl
  | k + 1 => by
    rw [show T0 m (k + 1) c = after body0c (after body0b (after body0a (after cond0 (T0 m k c)))) from rfl,
      ctr0_c, ctr0_b, ctr0_a, ctr0_cond, ctr0 c k, Scf.iv_succ]
    rfl
theorem plain0 : Plain (bodyI0 : List (List (HloOp τ sig (Elt F)))) :=
  .cons body0a_sub (.cons body0b_sub (.cons body0c_sub .nil (List.forall_iff_forall_mem.mp body0c_fresh)) (List.forall_iff_forall_mem.mp body0b_fresh)) (List.forall_iff_forall_mem.mp body0a_fresh)

/-! ## Loop 1: the title, backwards -/

theorem ctr1_cond (W : Valuation τ sig (Elt F)) : after cond1 W (Proc.devRef .tc main_v30_2) = W (Proc.devRef .tc main_v30_2) :=
  after_of_writes_sub cond1 _ cond1_writes (by decide)
theorem ctr1_a (W : Valuation τ sig (Elt F)) : after body1a W (Proc.devRef .tc main_v30_2) = W (Proc.devRef .tc main_v30_2) :=
  after_of_writes_sub body1a _ body1a_writes (by decide)
theorem ctr1_b (W : Valuation τ sig (Elt F)) : after body1b W (Proc.devRef .tc main_v30_2) = W (Proc.devRef .tc main_v30_2) :=
  after_of_writes_sub body1b _ body1b_writes (by decide)
/-- The last stretch of a step leaves the counter one further. -/
theorem ctr1_c (W : Valuation τ sig (Elt F)) :
    after body1c W (Proc.devRef .tc main_v30_2) = addi (W (Proc.devRef .tc main_v30_2) : (⟨S_, .i32⟩ : BufTy).Contents (Elt F)) (constantI S_ 32 1#32) := by
  after_results_simp
  rfl
theorem ctr1_entry (c : Dev nD) : E1 m c (Proc.devRef .tc main_v30_2) = (constantI S_ 32 0#32 : (⟨S_, .i32⟩ : BufTy).Contents (Elt F)) := by
  unfold E1
  after_results_simp
  rfl
/-- Before the `k`-th condition the counter is `k`. -/
theorem ctr1 (c : Dev nD) : ∀ k, T1 m k c (Proc.devRef .tc main_v30_2) = fun _ => Scf.iv 0#32 1#32 k
  | 0 => by
    rw [show T1 m 0 c = E1 m c from rfl, ctr1_entry, Scf.iv_zero]; rfl
  | k + 1 => by
    rw [show T1 m (k + 1) c = after body1c (after body1b (after body1a (after cond1 (T1 m k c)))) from rfl,
      ctr1_c, ctr1_b, ctr1_a, ctr1_cond, ctr1 c k, Scf.iv_succ]
    rfl
theorem plain1 : Plain (bodyI1 : List (List (HloOp τ sig (Elt F)))) :=
  .cons body1a_sub (.cons body1b_sub (.cons body1c_sub .nil (List.forall_iff_forall_mem.mp body1c_fresh)) (List.forall_iff_forall_mem.mp body1b_fresh)) (List.forall_iff_forall_mem.mp body1a_fresh)

/-! ## Loop 2: the content, forwards -/

theorem ctr2_cond (W : Valuation τ sig (Elt F)) : after cond2 W (Proc.devRef .tc main_v40_2) = W (Proc.devRef .tc main_v40_2) :=
  after_of_writes_sub cond2 _ cond2_writes (by decide)
theorem ctr2_a (W : Valuation τ sig (Elt F)) : after body2a W (Proc.devRef .tc main_v40_2) = W (Proc.devRef .tc main_v40_2) :=
  after_of_writes_sub body2a _ body2a_writes (by decide)
theorem ctr2_b (W : Valuation τ sig (Elt F)) : after body2b W (Proc.devRef .tc main_v40_2) = W (Proc.devRef .tc main_v40_2) :=
  after_of_writes_sub body2b _ body2b_writes (by decide)
/-- The last stretch of a step leaves the counter one further. -/
theorem ctr2_c (W : Valuation τ sig (Elt F)) :
    after body2c W (Proc.devRef .tc main_v40_2) = addi (W (Proc.devRef .tc main_v40_2) : (⟨S_, .i32⟩ : BufTy).Contents (Elt F)) (constantI S_ 32 1#32) := by
  after_results_simp
  rfl
theorem ctr2_entry (c : Dev nD) : E2 m c (Proc.devRef .tc main_v40_2) = (constantI S_ 32 0#32 : (⟨S_, .i32⟩ : BufTy).Contents (Elt F)) := by
  unfold E2
  after_results_simp
  rfl
/-- Before the `k`-th condition the counter is `k`. -/
theorem ctr2 (c : Dev nD) : ∀ k, T2 m k c (Proc.devRef .tc main_v40_2) = fun _ => Scf.iv 0#32 1#32 k
  | 0 => by
    rw [show T2 m 0 c = E2 m c from rfl, ctr2_entry, Scf.iv_zero]; rfl
  | k + 1 => by
    rw [show T2 m (k + 1) c = after body2c (after body2b (after body2a (after cond2 (T2 m k c)))) from rfl,
      ctr2_c, ctr2_b, ctr2_a, ctr2_cond, ctr2 c k, Scf.iv_succ]
    rfl
theorem plain2 : Plain (bodyI2 : List (List (HloOp τ sig (Elt F)))) :=
  .cons body2a_sub (.cons body2b_sub (.cons body2c_sub .nil (List.forall_iff_forall_mem.mp body2c_fresh)) (List.forall_iff_forall_mem.mp body2b_fresh)) (List.forall_iff_forall_mem.mp body2a_fresh)

/-! ## Loop 3: the content, backwards -/

theorem ctr3_cond (W : Valuation τ sig (Elt F)) : after cond3 W (Proc.devRef .tc main_v49_2) = W (Proc.devRef .tc main_v49_2) :=
  after_of_writes_sub cond3 _ cond3_writes (by decide)
theorem ctr3_a (W : Valuation τ sig (Elt F)) : after body3a W (Proc.devRef .tc main_v49_2) = W (Proc.devRef .tc main_v49_2) :=
  after_of_writes_sub body3a _ body3a_writes (by decide)
theorem ctr3_b (W : Valuation τ sig (Elt F)) : after body3b W (Proc.devRef .tc main_v49_2) = W (Proc.devRef .tc main_v49_2) :=
  after_of_writes_sub body3b _ body3b_writes (by decide)
/-- The last stretch of a step leaves the counter one further. -/
theorem ctr3_c (W : Valuation τ sig (Elt F)) :
    after body3c W (Proc.devRef .tc main_v49_2) = addi (W (Proc.devRef .tc main_v49_2) : (⟨S_, .i32⟩ : BufTy).Contents (Elt F)) (constantI S_ 32 1#32) := by
  after_results_simp
  rfl
theorem ctr3_entry (c : Dev nD) : E3 m c (Proc.devRef .tc main_v49_2) = (constantI S_ 32 0#32 : (⟨S_, .i32⟩ : BufTy).Contents (Elt F)) := by
  unfold E3
  after_results_simp
  rfl
/-- Before the `k`-th condition the counter is `k`. -/
theorem ctr3 (c : Dev nD) : ∀ k, T3 m k c (Proc.devRef .tc main_v49_2) = fun _ => Scf.iv 0#32 1#32 k
  | 0 => by
    rw [show T3 m 0 c = E3 m c from rfl, ctr3_entry, Scf.iv_zero]; rfl
  | k + 1 => by
    rw [show T3 m (k + 1) c = after body3c (after body3b (after body3a (after cond3 (T3 m k c)))) from rfl,
      ctr3_c, ctr3_b, ctr3_a, ctr3_cond, ctr3 c k, Scf.iv_succ]
    rfl
theorem plain3 : Plain (bodyI3 : List (List (HloOp τ sig (Elt F)))) :=
  .cons body3a_sub (.cons body3b_sub (.cons body3c_sub .nil (List.forall_iff_forall_mem.mp body3c_fresh)) (List.forall_iff_forall_mem.mp body3b_fresh)) (List.forall_iff_forall_mem.mp body3a_fresh)

/-! ## The launch -/

section Launch

local notation "𝕄" => MT nD τ sig Unit (Elt F) ℕ (Option PUnit) ℕ

/-- No kernel region: nothing to admit, no ticket, no level. -/
abbrev adm : (p : Fin 0) → ((pcfgs (F := F)) p).Adm := fun p => p.elim0
/-- No tickets are held. -/
abbrev tk : Fin 0 → Ticket (Ix := Unit) (Name := ℕ) (U := Option PUnit) (Lvl := ℕ) (nD := nD) (τ := τ) (pcfgs (F := F)) adm := fun j => j.elim0
/-- No semaphore carries a list. -/
abbrev L : GSem nD τ sig → Finset Unit := fun _ => ∅
/-- Every level is 0. -/
abbrev lv : GSem nD τ sig → Unit → ℕ := fun _ _ => 0
theorem cellOf_inj : Function.Injective (Pipeline.cellOf (nD := nD) (τ := τ) (Pipeline.pin (pcfgs (F := F)) adm)) := fun k => k.1.elim0
/-- What rides along beside the buffers: the core's owed counts, none. -/
abbrev R (c : Dev nD) : sProp 𝕄 := iprop(∃ W, owes (c : Thread nD τ) (0 : CellTallies nD τ sig Unit) W)

set_option backward.isDefEq.respectTransparency.types false in
/-- Loop 0's condition holds exactly before the first 24 steps, and leaves the buffers at its operations' results. -/
theorem cond_spec0 : LoopCond (Ix := Unit) (Name := ℕ) (U := Option PUnit) (Lvl := ℕ) (pcfgs (F := F)) defs₀ Variants.none loops R (main_while0_cond (F := F)) cond0 bodyI0 (E0 m) 24 := by
  intro k hk c bd
  have hctr := ctr0 m c k
  unfold T0 at hctr
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 bodyI0 (E0 m) k c) main_v21_2 HostLoop.idx0)
        (HloOp.result _ (atTrip cond0 bodyI0 (E0 m) k c) main_while0c_c_22 HostLoop.idx0) = 1#1) (k < 24)
    rw [nullary_result_ne _ _ _ _ (by decide), nullary_result, hctr]
    exact Scf.cmpi_slt_iv_ub_iff (lb := 0#32) (ub := 24#32) (st := 1#32) (by decide) (show k ≤ Scf.trips 0#32 24#32 1#32 from hk)
  isplitl [Hb]; · iexact Hb
  isplitl [Hh]; · rw [after_cons, after_cons, after_nil]; iexact Hh
  iexact HR

/-- Loop 0's body is the chain of its three stretches. -/
theorem body_eq0 : main_while0_body (F := F) = Pipeline.chain (bodyI0.map fun ops => (seq ops : Prog _ PUnit)) := by
  unfold main_while0_body
  chain_rfl

/-- Loop 0 as one segment. -/
abbrev loop0 : CSeg (pcfgs (F := F)) adm defs₀ Variants.none L lv loops tk :=
  loopSeg _ _ _ _ _ _ _ _ 0 (main_while0_cond (F := F)) (main_while0_body (F := F)) rfl cond0 bodyI0 plain0
    body_eq0 24 (E0 m) R (cond_spec0 m)

set_option backward.isDefEq.respectTransparency.types false in
/-- Loop 1's condition holds exactly before the first 24 steps, and leaves the buffers at its operations' results. -/
theorem cond_spec1 : LoopCond (Ix := Unit) (Name := ℕ) (U := Option PUnit) (Lvl := ℕ) (pcfgs (F := F)) defs₀ Variants.none loops R (main_while1_cond (F := F)) cond1 bodyI1 (E1 m) 24 := by
  intro k hk c bd
  have hctr := ctr1 m c k
  unfold T1 at hctr
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1 bodyI1 (E1 m) k c) main_v30_2 HostLoop.idx0)
        (HloOp.result _ (atTrip cond1 bodyI1 (E1 m) k c) main_while1c_c_22 HostLoop.idx0) = 1#1) (k < 24)
    rw [nullary_result_ne _ _ _ _ (by decide), nullary_result, hctr]
    exact Scf.cmpi_slt_iv_ub_iff (lb := 0#32) (ub := 24#32) (st := 1#32) (by decide) (show k ≤ Scf.trips 0#32 24#32 1#32 from hk)
  isplitl [Hb]; · iexact Hb
  isplitl [Hh]; · rw [after_cons, after_cons, after_nil]; iexact Hh
  iexact HR

/-- Loop 1's body is the chain of its three stretches. -/
theorem body_eq1 : main_while1_body (F := F) = Pipeline.chain (bodyI1.map fun ops => (seq ops : Prog _ PUnit)) := by
  unfold main_while1_body
  chain_rfl

/-- Loop 1 as one segment. -/
abbrev loop1 : CSeg (pcfgs (F := F)) adm defs₀ Variants.none L lv loops tk :=
  loopSeg _ _ _ _ _ _ _ _ 1 (main_while1_cond (F := F)) (main_while1_body (F := F)) rfl cond1 bodyI1 plain1
    body_eq1 24 (E1 m) R (cond_spec1 m)

set_option backward.isDefEq.respectTransparency.types false in
/-- Loop 2's condition holds exactly before the first 637 steps, and leaves the buffers at its operations' results. -/
theorem cond_spec2 : LoopCond (Ix := Unit) (Name := ℕ) (U := Option PUnit) (Lvl := ℕ) (pcfgs (F := F)) defs₀ Variants.none loops R (main_while2_cond (F := F)) cond2 bodyI2 (E2 m) 637 := by
  intro k hk c bd
  have hctr := ctr2 m c k
  unfold T2 at hctr
  unfold main_while2_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond2 bodyI2 (E2 m) k c) main_v40_2 HostLoop.idx0)
        (HloOp.result _ (atTrip cond2 bodyI2 (E2 m) k c) main_while2c_c_22 HostLoop.idx0) = 1#1) (k < 637)
    rw [nullary_result_ne _ _ _ _ (by decide), nullary_result, hctr]
    exact Scf.cmpi_slt_iv_ub_iff (lb := 0#32) (ub := 637#32) (st := 1#32) (by decide) (show k ≤ Scf.trips 0#32 637#32 1#32 from hk)
  isplitl [Hb]; · iexact Hb
  isplitl [Hh]; · rw [after_cons, after_cons, after_nil]; iexact Hh
  iexact HR

/-- Loop 2's body is the chain of its three stretches. -/
theorem body_eq2 : main_while2_body (F := F) = Pipeline.chain (bodyI2.map fun ops => (seq ops : Prog _ PUnit)) := by
  unfold main_while2_body
  chain_rfl

/-- Loop 2 as one segment. -/
abbrev loop2 : CSeg (pcfgs (F := F)) adm defs₀ Variants.none L lv loops tk :=
  loopSeg _ _ _ _ _ _ _ _ 2 (main_while2_cond (F := F)) (main_while2_body (F := F)) rfl cond2 bodyI2 plain2
    body_eq2 637 (E2 m) R (cond_spec2 m)

set_option backward.isDefEq.respectTransparency.types false in
/-- Loop 3's condition holds exactly before the first 637 steps, and leaves the buffers at its operations' results. -/
theorem cond_spec3 : LoopCond (Ix := Unit) (Name := ℕ) (U := Option PUnit) (Lvl := ℕ) (pcfgs (F := F)) defs₀ Variants.none loops R (main_while3_cond (F := F)) cond3 bodyI3 (E3 m) 637 := by
  intro k hk c bd
  have hctr := ctr3 m c k
  unfold T3 at hctr
  unfold main_while3_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond3 bodyI3 (E3 m) k c) main_v49_2 HostLoop.idx0)
        (HloOp.result _ (atTrip cond3 bodyI3 (E3 m) k c) main_while3c_c_22 HostLoop.idx0) = 1#1) (k < 637)
    rw [nullary_result_ne _ _ _ _ (by decide), nullary_result, hctr]
    exact Scf.cmpi_slt_iv_ub_iff (lb := 0#32) (ub := 637#32) (st := 1#32) (by decide) (show k ≤ Scf.trips 0#32 637#32 1#32 from hk)
  isplitl [Hb]; · iexact Hb
  isplitl [Hh]; · rw [after_cons, after_cons, after_nil]; iexact Hh
  iexact HR

/-- Loop 3's body is the chain of its three stretches. -/
theorem body_eq3 : main_while3_body (F := F) = Pipeline.chain (bodyI3.map fun ops => (seq ops : Prog _ PUnit)) := by
  unfold main_while3_body
  chain_rfl

/-- Loop 3 as one segment. -/
abbrev loop3 : CSeg (pcfgs (F := F)) adm defs₀ Variants.none L lv loops tk :=
  loopSeg _ _ _ _ _ _ _ _ 3 (main_while3_cond (F := F)) (main_while3_body (F := F)) rfl cond3 bodyI3 plain3
    body_eq3 637 (E3 m) R (cond_spec3 m)

/-- A stretch as one segment. -/
abbrev hseg (ops : List (HloOp τ sig (Elt F))) (hs : ops.Forall fun op => op.bufs ⊆ tcRefs τ sig) (hf : ops.Forall fun op => op.fresh = ∅)
    (W : Dev nD → Valuation τ sig (Elt F)) : CSeg (pcfgs (F := F)) adm defs₀ Variants.none L lv loops tk :=
  CSeg.ofOps _ _ _ _ _ _ _ _ (ucRefs τ sig) ops (fun op hop => sub_ucRefs op (List.forall_iff_forall_mem.mp hs op hop)) (List.forall_iff_forall_mem.mp hf) W R

/-- @main's segments. -/
abbrev segs : List (CSeg (pcfgs (F := F)) adm defs₀ Variants.none L lv loops tk) :=
  [ hseg ops0 ops0_sub ops0_fresh (L0 m), loop0 m,
    hseg ops1 ops1_sub ops1_fresh (X0 m), loop1 m,
    hseg ops2 ops2_sub ops2_fresh (X1 m), loop2 m,
    hseg ops3 ops3_sub ops3_fresh (X2 m), loop3 m,
    hseg ops4 ops4_sub ops4_fresh (X3 m) ]

theorem main_run (c : Dev nD) : main (F := F) c = CSeg.runL (segs m) := by
  unfold main main_part0 main_part1
  chain_rfl

theorem no_unscoped : ∀ sm : SemLoc sig, sm.isScoped .tc = true := by decide

set_option backward.isDefEq.respectTransparency.types false in
/-- The run: every weakly fair execution from zero counters ends, with every unscoped buffer at the last boundary's contents
    and every counter at zero. -/
theorem run : θ_run defs (onTc (τ := τ) (main (F := F))) ⟨m, fun _ => 0, ρ⟩ (fun r => (∀ c : Dev nD,
      ∀ b ∈ ucRefs τ sig, r.2.mem (((c : Thread nD τ)).1, b) = Wend m c b)
      ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm cellOf_inj defs₀ Variants.none L lv loops tk m ρ main (segs m)
    (fun c Q => by rw [main_run m c])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (L0 m c) ∗ R c))
    (Tₙ := fun c => iprop(held (c : Thread nD τ) (ucRefs τ sig) (Wend m c)))
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = held (c : Thread nD τ) (ucRefs τ sig) (L0 m c) from Pipeline.unscopedBufs_held c (L0 m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Wend m c b)
    (hfin := fun c s' => by
      unfold held
      iintro ⟨Hh, HSI⟩
      imodintro
      iapply (pointsTo_read_all (ucRefs τ sig) (fun b => ((c : Dev nD), b)) (Wend m c) s')
      isplitl [Hh] <;> iassumption)
    (hQ := fun s h hz => ⟨h, funext fun g => hz g (.inr (no_unscoped g.2))⟩)

end Launch

/-! ## The arguments -/

theorem ops0_args : ∀ a ∈ argRefs, a ∉ ops0_W := ListAll.forall_mem_of_all_decide (by decide +kernel)
theorem ops1_args : ∀ a ∈ argRefs, a ∉ ops1_W := ListAll.forall_mem_of_all_decide (by decide +kernel)
theorem ops2_args : ∀ a ∈ argRefs, a ∉ ops2_W := ListAll.forall_mem_of_all_decide (by decide +kernel)
theorem ops3_args : ∀ a ∈ argRefs, a ∉ ops3_W := ListAll.forall_mem_of_all_decide (by decide +kernel)
theorem ops4_args : ∀ a ∈ argRefs, a ∉ ops4_W := ListAll.forall_mem_of_all_decide (by decide +kernel)
theorem cond0_args : ∀ a ∈ argRefs, a ∉ cond0_W := ListAll.forall_mem_of_all_decide (by decide +kernel)
theorem body0a_args : ∀ a ∈ argRefs, a ∉ body0a_W := ListAll.forall_mem_of_all_decide (by decide +kernel)
theorem body0b_args : ∀ a ∈ argRefs, a ∉ body0b_W := ListAll.forall_mem_of_all_decide (by decide +kernel)
theorem body0c_args : ∀ a ∈ argRefs, a ∉ body0c_W := ListAll.forall_mem_of_all_decide (by decide +kernel)
theorem cond1_args : ∀ a ∈ argRefs, a ∉ cond1_W := ListAll.forall_mem_of_all_decide (by decide +kernel)
theorem body1a_args : ∀ a ∈ argRefs, a ∉ body1a_W := ListAll.forall_mem_of_all_decide (by decide +kernel)
theorem body1b_args : ∀ a ∈ argRefs, a ∉ body1b_W := ListAll.forall_mem_of_all_decide (by decide +kernel)
theorem body1c_args : ∀ a ∈ argRefs, a ∉ body1c_W := ListAll.forall_mem_of_all_decide (by decide +kernel)
theorem cond2_args : ∀ a ∈ argRefs, a ∉ cond2_W := ListAll.forall_mem_of_all_decide (by decide +kernel)
theorem body2a_args : ∀ a ∈ argRefs, a ∉ body2a_W := ListAll.forall_mem_of_all_decide (by decide +kernel)
theorem body2b_args : ∀ a ∈ argRefs, a ∉ body2b_W := ListAll.forall_mem_of_all_decide (by decide +kernel)
theorem body2c_args : ∀ a ∈ argRefs, a ∉ body2c_W := ListAll.forall_mem_of_all_decide (by decide +kernel)
theorem cond3_args : ∀ a ∈ argRefs, a ∉ cond3_W := ListAll.forall_mem_of_all_decide (by decide +kernel)
theorem body3a_args : ∀ a ∈ argRefs, a ∉ body3a_W := ListAll.forall_mem_of_all_decide (by decide +kernel)
theorem body3b_args : ∀ a ∈ argRefs, a ∉ body3b_W := ListAll.forall_mem_of_all_decide (by decide +kernel)
theorem body3c_args : ∀ a ∈ argRefs, a ∉ body3c_W := ListAll.forall_mem_of_all_decide (by decide +kernel)
/-- A reference that loop 0 does not write is as it was where the loop was entered. -/
theorem T0_of (c : Dev nD) (r : Ref sig .tc) (h0 : r ∉ cond0_W) (ha : r ∉ body0a_W) (hb : r ∉ body0b_W) (hc : r ∉ body0c_W) :
    ∀ k, T0 m k c (Proc.devRef .tc r) = E0 m c (Proc.devRef .tc r)
  | 0 => rfl
  | k + 1 => by
    rw [show T0 m (k + 1) c = after body0c (after body0b (after body0a (after cond0 (T0 m k c)))) from rfl,
      after_of_writes_sub body0c _ body0c_writes hc, after_of_writes_sub body0b _ body0b_writes hb,
      after_of_writes_sub body0a _ body0a_writes ha, after_of_writes_sub cond0 _ cond0_writes h0, T0_of c r h0 ha hb hc k]
/-- What loop 0 does not write it keeps. -/
theorem X0_of (c : Dev nD) (r : Ref sig .tc) (h0 : r ∉ cond0_W) (ha : r ∉ body0a_W) (hb : r ∉ body0b_W) (hc : r ∉ body0c_W) :
    X0 m c (Proc.devRef .tc r) = E0 m c (Proc.devRef .tc r) :=
  (after_of_writes_sub cond0 _ cond0_writes h0).trans (T0_of m c r h0 ha hb hc 24)
/-- A reference that loop 1 does not write is as it was where the loop was entered. -/
theorem T1_of (c : Dev nD) (r : Ref sig .tc) (h0 : r ∉ cond1_W) (ha : r ∉ body1a_W) (hb : r ∉ body1b_W) (hc : r ∉ body1c_W) :
    ∀ k, T1 m k c (Proc.devRef .tc r) = E1 m c (Proc.devRef .tc r)
  | 0 => rfl
  | k + 1 => by
    rw [show T1 m (k + 1) c = after body1c (after body1b (after body1a (after cond1 (T1 m k c)))) from rfl,
      after_of_writes_sub body1c _ body1c_writes hc, after_of_writes_sub body1b _ body1b_writes hb,
      after_of_writes_sub body1a _ body1a_writes ha, after_of_writes_sub cond1 _ cond1_writes h0, T1_of c r h0 ha hb hc k]
/-- What loop 1 does not write it keeps. -/
theorem X1_of (c : Dev nD) (r : Ref sig .tc) (h0 : r ∉ cond1_W) (ha : r ∉ body1a_W) (hb : r ∉ body1b_W) (hc : r ∉ body1c_W) :
    X1 m c (Proc.devRef .tc r) = E1 m c (Proc.devRef .tc r) :=
  (after_of_writes_sub cond1 _ cond1_writes h0).trans (T1_of m c r h0 ha hb hc 24)
/-- A reference that loop 2 does not write is as it was where the loop was entered. -/
theorem T2_of (c : Dev nD) (r : Ref sig .tc) (h0 : r ∉ cond2_W) (ha : r ∉ body2a_W) (hb : r ∉ body2b_W) (hc : r ∉ body2c_W) :
    ∀ k, T2 m k c (Proc.devRef .tc r) = E2 m c (Proc.devRef .tc r)
  | 0 => rfl
  | k + 1 => by
    rw [show T2 m (k + 1) c = after body2c (after body2b (after body2a (after cond2 (T2 m k c)))) from rfl,
      after_of_writes_sub body2c _ body2c_writes hc, after_of_writes_sub body2b _ body2b_writes hb,
      after_of_writes_sub body2a _ body2a_writes ha, after_of_writes_sub cond2 _ cond2_writes h0, T2_of c r h0 ha hb hc k]
/-- What loop 2 does not write it keeps. -/
theorem X2_of (c : Dev nD) (r : Ref sig .tc) (h0 : r ∉ cond2_W) (ha : r ∉ body2a_W) (hb : r ∉ body2b_W) (hc : r ∉ body2c_W) :
    X2 m c (Proc.devRef .tc r) = E2 m c (Proc.devRef .tc r) :=
  (after_of_writes_sub cond2 _ cond2_writes h0).trans (T2_of m c r h0 ha hb hc 637)
/-- A reference that loop 3 does not write is as it was where the loop was entered. -/
theorem T3_of (c : Dev nD) (r : Ref sig .tc) (h0 : r ∉ cond3_W) (ha : r ∉ body3a_W) (hb : r ∉ body3b_W) (hc : r ∉ body3c_W) :
    ∀ k, T3 m k c (Proc.devRef .tc r) = E3 m c (Proc.devRef .tc r)
  | 0 => rfl
  | k + 1 => by
    rw [show T3 m (k + 1) c = after body3c (after body3b (after body3a (after cond3 (T3 m k c)))) from rfl,
      after_of_writes_sub body3c _ body3c_writes hc, after_of_writes_sub body3b _ body3b_writes hb,
      after_of_writes_sub body3a _ body3a_writes ha, after_of_writes_sub cond3 _ cond3_writes h0, T3_of c r h0 ha hb hc k]
/-- What loop 3 does not write it keeps. -/
theorem X3_of (c : Dev nD) (r : Ref sig .tc) (h0 : r ∉ cond3_W) (ha : r ∉ body3a_W) (hb : r ∉ body3b_W) (hc : r ∉ body3c_W) :
    X3 m c (Proc.devRef .tc r) = E3 m c (Proc.devRef .tc r) :=
  (after_of_writes_sub cond3 _ cond3_writes h0).trans (T3_of m c r h0 ha hb hc 637)
theorem E0_args (c : Dev nD) (a : Ref sig .tc) (ha : a ∈ argRefs) : E0 m c (Proc.devRef .tc a) = m ((c : Thread nD τ).loc a) :=
  (after_of_writes_sub ops0 _ ops0_writes (ops0_args a ha)).trans rfl
theorem X0_args (c : Dev nD) (a : Ref sig .tc) (ha : a ∈ argRefs) : X0 m c (Proc.devRef .tc a) = m ((c : Thread nD τ).loc a) :=
  (X0_of m c a (cond0_args a ha) (body0a_args a ha) (body0b_args a ha) (body0c_args a ha)).trans (E0_args m c a ha)
theorem E1_args (c : Dev nD) (a : Ref sig .tc) (ha : a ∈ argRefs) : E1 m c (Proc.devRef .tc a) = m ((c : Thread nD τ).loc a) :=
  (after_of_writes_sub ops1 _ ops1_writes (ops1_args a ha)).trans (X0_args m c a ha)
theorem X1_args (c : Dev nD) (a : Ref sig .tc) (ha : a ∈ argRefs) : X1 m c (Proc.devRef .tc a) = m ((c : Thread nD τ).loc a) :=
  (X1_of m c a (cond1_args a ha) (body1a_args a ha) (body1b_args a ha) (body1c_args a ha)).trans (E1_args m c a ha)
theorem E2_args (c : Dev nD) (a : Ref sig .tc) (ha : a ∈ argRefs) : E2 m c (Proc.devRef .tc a) = m ((c : Thread nD τ).loc a) :=
  (after_of_writes_sub ops2 _ ops2_writes (ops2_args a ha)).trans (X1_args m c a ha)
theorem X2_args (c : Dev nD) (a : Ref sig .tc) (ha : a ∈ argRefs) : X2 m c (Proc.devRef .tc a) = m ((c : Thread nD τ).loc a) :=
  (X2_of m c a (cond2_args a ha) (body2a_args a ha) (body2b_args a ha) (body2c_args a ha)).trans (E2_args m c a ha)
theorem E3_args (c : Dev nD) (a : Ref sig .tc) (ha : a ∈ argRefs) : E3 m c (Proc.devRef .tc a) = m ((c : Thread nD τ).loc a) :=
  (after_of_writes_sub ops3 _ ops3_writes (ops3_args a ha)).trans (X2_args m c a ha)
theorem X3_args (c : Dev nD) (a : Ref sig .tc) (ha : a ∈ argRefs) : X3 m c (Proc.devRef .tc a) = m ((c : Thread nD τ).loc a) :=
  (X3_of m c a (cond3_args a ha) (body3a_args a ha) (body3b_args a ha) (body3c_args a ha)).trans (E3_args m c a ha)
/-- The arguments end as launched. -/
theorem Wend_args (c : Dev nD) (a : Ref sig .tc) (ha : a ∈ argRefs) : Wend m c (Proc.devRef .tc a) = m ((c : Thread nD τ).loc a) :=
  (after_of_writes_sub ops4 _ ops4_writes (ops4_args a ha)).trans (X3_args m c a ha)

theorem mem_uc (b : Ref sig .tc) (h : (Proc.devRef .tc b : DevRef τ sig).isScoped = false) : (Proc.devRef .tc b : DevRef τ sig) ∈ ucRefs τ sig :=
  devRef_mem_ucRefs b h

/-- The argument arrays end as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ h => ⟨fun c =>
    ⟨(h.1 c _ (mem_uc main_arg0 (by decide))).trans (Wend_args m c main_arg0 (by decide)),
     (h.1 c _ (mem_uc main_arg1 (by decide))).trans (Wend_args m c main_arg1 (by decide)),
     (h.1 c _ (mem_uc main_arg2 (by decide))).trans (Wend_args m c main_arg2 (by decide)),
     (h.1 c _ (mem_uc main_arg3 (by decide))).trans (Wend_args m c main_arg3 (by decide)),
     (h.1 c _ (mem_uc main_arg4 (by decide))).trans (Wend_args m c main_arg4 (by decide)),
     (h.1 c _ (mem_uc main_arg5 (by decide))).trans (Wend_args m c main_arg5 (by decide)),
     (h.1 c _ (mem_uc main_arg6 (by decide))).trans (Wend_args m c main_arg6 (by decide)),
     (h.1 c _ (mem_uc main_arg7 (by decide))).trans (Wend_args m c main_arg7 (by decide)),
     (h.1 c _ (mem_uc main_arg8 (by decide))).trans (Wend_args m c main_arg8 (by decide)),
     (h.1 c _ (mem_uc main_arg9 (by decide))).trans (Wend_args m c main_arg9 (by decide)),
     (h.1 c _ (mem_uc main_arg10 (by decide))).trans (Wend_args m c main_arg10 (by decide)),
     (h.1 c _ (mem_uc main_arg11 (by decide))).trans (Wend_args m c main_arg11 (by decide)),
     (h.1 c _ (mem_uc main_arg12 (by decide))).trans (Wend_args m c main_arg12 (by decide)),
     (h.1 c _ (mem_uc main_arg13 (by decide))).trans (Wend_args m c main_arg13 (by decide)),
     (h.1 c _ (mem_uc main_arg14 (by decide))).trans (Wend_args m c main_arg14 (by decide)),
     (h.1 c _ (mem_uc main_arg15 (by decide))).trans (Wend_args m c main_arg15 (by decide)),
     (h.1 c _ (mem_uc main_arg16 (by decide))).trans (Wend_args m c main_arg16 (by decide)),
     (h.1 c _ (mem_uc main_arg17 (by decide))).trans (Wend_args m c main_arg17 (by decide))⟩, h.2⟩) (run m ρ)

end Cert.ReferenceIdeal.K

end
-- ==== Proof.Spec.lean ====
/- The classifier's mathematics over the extended reals, naming no program: the LSTM cell, its recurrence over a
   sequence of gate inputs, the attention scores, and the class scores' logarithmic softmax. -/
module

public import Idealize.ShloMosaic.Lib.Pointwise

@[expose] public section

noncomputable section

namespace Cert.Spec

open Idealize.ShloMosaic

/-- The row of the table that a token names: a negative token counts from the end, and the row is clamped into the table. -/
def wrap (w : BitVec 32) : BitVec 32 := if BitVec.slt w 0#32 then w + 50000#32 else w
/-- The table row of a token. -/
def rowOf (w : BitVec 32) : Fin 50000 := ⟨min (wrap w).toInt.toNat 49999, by omega⟩

/-- The gate inputs of one embedded token. -/
def pre (x : Fin 300 → EReal) (wih : Fin 1024 → Fin 300 → EReal) (b : Fin 1024 → EReal) (g : Fin 1024) : EReal :=
  (∑ e, x e * wih g e) + b g

/-- A hidden and a cell state. -/
abbrev St : Type := (Fin 256 → EReal) × (Fin 256 → EReal)

/-- The gates: the step's input and the product with the hidden state. -/
def gates (p : Fin 1024 → EReal) (u : Fin 1024 → Fin 256 → EReal) (h : Fin 256 → EReal) (g : Fin 1024) : EReal :=
  p g + ∑ k, h k * u g k

/-- Gate group `n` (input, forget, cell, output) at unit `j`. -/
abbrev unit0 (j : Fin 256) : Fin 1024 := ⟨j.val, by omega⟩
abbrev unit1 (j : Fin 256) : Fin 1024 := ⟨256 + j.val, by omega⟩
abbrev unit2 (j : Fin 256) : Fin 1024 := ⟨512 + j.val, by omega⟩
abbrev unit3 (j : Fin 256) : Fin 1024 := ⟨768 + j.val, by omega⟩

/-- The new cell state and the new hidden state off the gates. -/
def newC (g : Fin 1024 → EReal) (c : Fin 256 → EReal) (j : Fin 256) : EReal :=
  Ideal.logistic (g (unit1 j)) * c j + Ideal.logistic (g (unit0 j)) * Ideal.tanh (g (unit2 j))
/-- The new hidden state. -/
def newH (g : Fin 1024 → EReal) (c : Fin 256 → EReal) (j : Fin 256) : EReal :=
  Ideal.logistic (g (unit3 j)) * Ideal.tanh (newC g c j)

/-- One step of the cell. -/
def step (p : Fin 1024 → EReal) (u : Fin 1024 → Fin 256 → EReal) (s : St) : St :=
  (newH (gates p u s.1) s.2, newC (gates p u s.1) s.2)

/-- The state after `n` steps from zero over the gate inputs `p 0, p 1, …`. -/
def run (p : ℕ → Fin 1024 → EReal) (u : Fin 1024 → Fin 256 → EReal) : ℕ → St
  | 0 => (fun _ => 0, fun _ => 0)
  | n + 1 => step (p n) u (run p u n)

/-- One more step of a run. -/
theorem run_succ (p : ℕ → Fin 1024 → EReal) (u : Fin 1024 → Fin 256 → EReal) (n : ℕ) : run p u (n + 1) = step (p n) u (run p u n) := rfl

/-- A run of `n` steps looks at the first `n` gate inputs only. -/
theorem run_congr {p p' : ℕ → Fin 1024 → EReal} {u : Fin 1024 → Fin 256 → EReal} : ∀ n, (∀ k < n, p k = p' k) → run p u n = run p' u n
  | 0, _ => rfl
  | n + 1, h => by rw [run_succ, run_succ, h n (by omega), run_congr n fun k hk => h k (by omega)]

/-- A finite run of gate inputs as a sequence. -/
def seq {T : ℕ} (f : Fin T → Fin 1024 → EReal) (n : ℕ) : Fin 1024 → EReal := if h : n < T then f ⟨n, h⟩ else fun _ => 0

/-- The sequence inside its range. -/
theorem seq_of_lt {T : ℕ} (f : Fin T → Fin 1024 → EReal) {n : ℕ} (h : n < T) : seq f n = f ⟨n, h⟩ := dif_pos h

/-- States that start at zero and go by the cell's step are the run's. -/
theorem run_unique {T : ℕ} {f : Fin T → Fin 1024 → EReal} {u : Fin 1024 → Fin 256 → EReal} {st : ℕ → St} (h0 : st 0 = (fun _ => 0, fun _ => 0))
    (hs : ∀ k (hk : k < T), st (k + 1) = step (f ⟨k, hk⟩) u (st k)) : ∀ k ≤ T, st k = run (seq f) u k
  | 0, _ => h0
  | k + 1, hk => by rw [hs k hk, run_unique h0 hs k (by omega), run_succ, seq_of_lt f hk]

/-- A record written front to back: row `t` is what was written at step `t`. -/
theorem record_fwd {α : Type} {T : ℕ} {ys : ℕ → Fin T → α} {v : ℕ → α} (hs : ∀ k (hk : k < T) t, ys (k + 1) t = if t = ⟨k, hk⟩ then v (k + 1) else ys k t) :
    ∀ k ≤ T, ∀ t : Fin T, t.val < k → ys k t = v (t.val + 1)
  | 0, _, t, ht => absurd ht (by omega)
  | k + 1, hk, t, ht => by
    rw [hs k hk]
    by_cases h : t.val = k
    · rw [if_pos (Fin.ext h), h]
    · rw [if_neg fun e => h (congrArg Fin.val e), record_fwd hs k (by omega) t (by omega)]

/-- A record written back to front. -/
theorem record_bwd {α : Type} {T : ℕ} {ys : ℕ → Fin T → α} {v : ℕ → α} (hs : ∀ k (hk : k < T) t, ys (k + 1) t = if t = Fin.rev ⟨k, hk⟩ then v (k + 1) else ys k t) :
    ∀ k ≤ T, ∀ t : Fin T, T - k ≤ t.val → ys k t = v (T - t.val)
  | 0, _, t, ht => absurd t.isLt (by omega)
  | k + 1, hk, t, ht => by
    rw [hs k hk]
    by_cases h : t.val = T - 1 - k
    · rw [if_pos (Fin.ext (by rw [Fin.val_rev]; show t.val = T - (k + 1); omega)), show T - t.val = k + 1 by omega]
    · rw [if_neg fun e => h (by have := congrArg Fin.val e; rw [Fin.val_rev] at this; change t.val = T - (k + 1) at this; omega), record_bwd hs k (by omega) t (by have := t.isLt; omega)]

/-! ## The classifier -/

/-- One direction's weights. -/
structure Par where
  wih : Fin 1024 → Fin 300 → EReal
  whh : Fin 1024 → Fin 256 → EReal
  bias : Fin 1024 → EReal

/-- What the classifier is given: tokens of content and title for each of the 64 examples, the table, and the weights. -/
structure In where
  content : Fin 64 → Fin 637 → BitVec 32
  title : Fin 64 → Fin 24 → BitVec 32
  table : Fin 50000 → Fin 300 → EReal
  tf : Par
  tb : Par
  cf : Par
  cb : Par
  att : Fin 512 → Fin 512 → EReal
  fcw : Fin 5 → Fin 637 → EReal
  fcb : Fin 5 → EReal

/-- The gate inputs of token `t` of a text. -/
def inputs {T : ℕ} (table : Fin 50000 → Fin 300 → EReal) (P : Par) (tok : Fin T → BitVec 32) (t : Fin T) : Fin 1024 → EReal :=
  pre (table (rowOf (tok t))) P.wih P.bias

/-- The hidden state at token `t`, reading front to back, and reading back to front. -/
def fwd {T : ℕ} (table : Fin 50000 → Fin 300 → EReal) (P : Par) (tok : Fin T → BitVec 32) (t : Fin T) : Fin 256 → EReal :=
  (run (seq (inputs table P tok)) P.whh (t.val + 1)).1
/-- The hidden state at token `t`, reading back to front. -/
def bwd {T : ℕ} (table : Fin 50000 → Fin 300 → EReal) (P : Par) (tok : Fin T → BitVec 32) (t : Fin T) : Fin 256 → EReal :=
  (run (seq fun t => inputs table P tok t.rev) P.whh (T - t.val)).1

/-- Two halves of 256 side by side. -/
def both (f g : Fin 256 → EReal) (k : Fin 512) : EReal := if h : k.val < 256 then f ⟨k.val, h⟩ else g ⟨k.val - 256, by omega⟩

/-- The title's state at its last token. -/
def titleSt (I : In) (b : Fin 64) : Fin 512 → EReal := both (fwd I.table I.tf (I.title b) 23) (bwd I.table I.tb (I.title b) 23)
/-- The attention's query. -/
def query (I : In) (b : Fin 64) (k : Fin 512) : EReal := ∑ j, I.att j k * titleSt I b j
/-- The score of content token `t`. -/
def score (I : In) (b : Fin 64) (t : Fin 637) : EReal :=
  ∑ k, both (fwd I.table I.cf (I.content b) t) (bwd I.table I.cb (I.content b) t) k * query I b k

/-- The largest of finitely many numbers. -/
def top {n : ℕ} (f : Fin n → EReal) : EReal := Finset.univ.fold max ⊥ f
/-- Softmax. -/
def softmax {n : ℕ} (f : Fin n → EReal) (i : Fin n) : EReal := Ideal.div (Ideal.exp (f i - top f)) (∑ j, Ideal.exp (f j - top f))
/-- The logarithm of softmax. -/
def logSoftmax {n : ℕ} (f : Fin n → EReal) (i : Fin n) : EReal := f i - top f - Ideal.log (∑ j, Ideal.exp (f j - top f))

/-- The class scores, and the classifier's result. -/
def logits (I : In) (b : Fin 64) (o : Fin 5) : EReal := (∑ t, softmax (score I b) t * I.fcw o t) + I.fcb o
/-- The classifier's result. -/
def result (I : In) (b : Fin 64) (o : Fin 5) : EReal := logSoftmax (logits I b) o

/-- The pattern of negative infinity, and the maximum with it. -/
theorem negInf : Ideal.ofBits .f32 0xFF800000#32 = ⊥ := by simp [Ideal.ofBits, Ideal.ieee]
/-- The maximum with negative infinity. -/
theorem max_bot (x : EReal) : max (⊥ : EReal) x = x := max_eq_right bot_le

/-- One direction's weights off its three arrays. -/
def parOf (w : FVec Ideal ⟨2, ![1024, 300]⟩ .f32) (u : FVec Ideal ⟨2, ![1024, 256]⟩ .f32) (b : FVec Ideal ⟨1, ![1024]⟩ .f32) : Par :=
  ⟨fun g e => w (ix2 g e), fun g j => u (ix2 g j), fun g => b (ix1 g)⟩

/-- The classifier's inputs off the eighteen argument arrays. -/
def inOf (a0 : IVec ⟨2, ![64, 637]⟩ 32) (a1 : IVec ⟨2, ![64, 24]⟩ 32) (a2 : FVec Ideal ⟨2, ![50000, 300]⟩ .f32)
    (a3 : FVec Ideal ⟨2, ![1024, 300]⟩ .f32) (a4 : FVec Ideal ⟨2, ![1024, 256]⟩ .f32) (a5 : FVec Ideal ⟨1, ![1024]⟩ .f32)
    (a6 : FVec Ideal ⟨2, ![1024, 300]⟩ .f32) (a7 : FVec Ideal ⟨2, ![1024, 256]⟩ .f32) (a8 : FVec Ideal ⟨1, ![1024]⟩ .f32)
    (a9 : FVec Ideal ⟨2, ![1024, 300]⟩ .f32) (a10 : FVec Ideal ⟨2, ![1024, 256]⟩ .f32) (a11 : FVec Ideal ⟨1, ![1024]⟩ .f32)
    (a12 : FVec Ideal ⟨2, ![1024, 300]⟩ .f32) (a13 : FVec Ideal ⟨2, ![1024, 256]⟩ .f32) (a14 : FVec Ideal ⟨1, ![1024]⟩ .f32)
    (a15 : FVec Ideal ⟨2, ![512, 512]⟩ .f32) (a16 : FVec Ideal ⟨2, ![5, 637]⟩ .f32) (a17 : FVec Ideal ⟨1, ![5]⟩ .f32) : In where
  content b t := a0 (ix2 b t)
  title b t := a1 (ix2 b t)
  table r e := a2 (ix2 r e)
  tf := parOf a3 a4 a5
  tb := parOf a6 a7 a8
  cf := parOf a9 a10 a11
  cb := parOf a12 a13 a14
  att j k := a15 (ix2 j k)
  fcw o t := a16 (ix2 o t)
  fcb o := a17 (ix1 o)

end Cert.Spec

end
-- ==== Proof.Rows.lean ====
/- Whole rows of a table gathered at integer row numbers, read at an index: the row number is read signed and clamped
   into the table. -/
module

public import Idealize.ShloMosaic.Lib.Pointwise
public import Idealize.ShloMosaic.Lib.ValueIdxCore

@[expose] public section

noncomputable section

namespace Cert.Rows

open Idealize.ShloMosaic

variable {α : Type}

/-- Rows of an `[N, C]` table at an `[A, B, 1]` array of row numbers, into `[A, B, C]`. -/
abbrev dims3 (N C A B : ℕ) (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- Element `(a, b, e)` of that gather is element `e` of the row that entry `(a, b)` names. -/
theorem dims3_apply {N C A B w : ℕ} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (e : Fin C) :
    Host.gather (dims3 N C A B wf) x idx (ix3 a b e) = x (ix2 ⟨min (idx (ix3 a b (0 : Fin 1))).toInt.toNat (N - 1), by omega⟩ e) := by
  unfold Host.gather
  congr 1
  funext q
  refine Fin.ext ?_
  show (dims3 N C A B wf).start (ix3 a b e) idx q + (dims3 N C A B wf).batchCoord (ix3 a b e) q + (dims3 N C A B wf).offCoord (ix3 a b e) q = _
  rw [GatherDims.batchCoord_eq_zero _ _ _ List.not_mem_nil]
  have h01 : q = 0 ∨ q = 1 := by
    match q with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (dims3 N C A B wf).startIndexMap from List.mem_singleton.mpr rfl)]
    have hsi : (dims3 N C A B wf).siIdx (ix3 a b e) ⟨List.idxOf (0 : Fin 2) (dims3 N C A B wf).startIndexMap,
        List.idxOf_lt_length_iff.2 (List.mem_singleton.mpr rfl)⟩ = ix3 a b (0 : Fin 1) := by
      funext r; refine Fin.ext ?_
      match r with
      | ⟨0, _⟩ => rfl
      | ⟨1, _⟩ => rfl
      | ⟨2, _⟩ => rfl
    rw [hsi]
    rfl
  · unfold GatherDims.start
    rw [dif_neg (show (1 : Fin 2) ∉ (dims3 N C A B wf).startIndexMap from by intro h; exact absurd (List.mem_singleton.mp h) (show (1 : Fin 2) ≠ 0 from by decide))]
    unfold GatherDims.offCoord
    rw [dif_pos ((GatherDims.mem_sKept _ _).mpr ⟨by intro h; exact absurd (List.mem_singleton.mp h) (show (1 : Fin 2) ≠ 0 from by decide), List.not_mem_nil⟩)]
    simp only [Nat.zero_add]
    rfl

/-- Rows of an `[N, C]` table at an `[M, 1]` column of row numbers, into `[M, C]`. -/
abbrev dims2 (N C M : ℕ) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Element `(r, e)` of that gather is element `e` of the row that entry `r` names. -/
theorem dims2_apply {N C M w : ℕ} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (r : Fin M) (e : Fin C) :
    Host.gather (dims2 N C M wf) x idx (ix2 r e) = x (ix2 ⟨min (idx (ix2 r (0 : Fin 1))).toInt.toNat (N - 1), by omega⟩ e) := by
  unfold Host.gather
  congr 1
  funext q
  refine Fin.ext ?_
  show (dims2 N C M wf).start (ix2 r e) idx q + (dims2 N C M wf).batchCoord (ix2 r e) q + (dims2 N C M wf).offCoord (ix2 r e) q = _
  rw [GatherDims.batchCoord_eq_zero _ _ _ List.not_mem_nil]
  have h01 : q = 0 ∨ q = 1 := by
    match q with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (dims2 N C M wf).startIndexMap from List.mem_singleton.mpr rfl)]
    have hsi : (dims2 N C M wf).siIdx (ix2 r e) ⟨List.idxOf (0 : Fin 2) (dims2 N C M wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  · unfold GatherDims.start
    rw [dif_neg (show (1 : Fin 2) ∉ (dims2 N C M wf).startIndexMap from by intro h; exact absurd (List.mem_singleton.mp h) (show (1 : Fin 2) ≠ 0 from by decide))]
    unfold GatherDims.offCoord
    rw [dif_pos ((GatherDims.mem_sKept _ _).mpr ⟨by intro h; exact absurd (List.mem_singleton.mp h) (show (1 : Fin 2) ≠ 0 from by decide), List.not_mem_nil⟩)]
    simp only [Nat.zero_add]
    rfl

end Cert.Rows

end
-- ==== Proof.KernelIdeal.Inputs.lean ====
/- What the host prepares for the kernel's calls, element by element over the extended reals. -/
module

public import proofs.«01_k».proof.Proof.KernelIdeal.Run
public import proofs.«01_k».proof.Proof.Spec
public import proofs.«01_k».proof.Proof.Rows
public import Idealize.ShloMosaic.Lib.StableHlo.RunClose
public import Idealize.ShloMosaic.Lib.IdealHost

@[expose] public section

set_option maxRecDepth 16384

noncomputable section

namespace Cert.KernelIdeal.K

open Cert.KernelIdeal Cert.KernelIdeal.Gen
open Idealize.ShloMosaic Idealize.ShloMosaic.TcCoe Idealize.ShloMosaic.Tactic Idealize.ShloMosaic.StableHlo

/-- A buffer's contents taken as an array of numbers of shape `S`, in the wide and in the narrow format, and of 32-bit words. -/
abbrev fv (S : Shape) (x : FVec Ideal S .f32) : FVec Ideal S .f32 := x
/-- The same for bfloat16. -/
abbrev bv (S : Shape) (x : FVec Ideal S .bf16) : FVec Ideal S .bf16 := x
/-- The same for 32-bit integers. -/
abbrev wv (S : Shape) (x : IVec S 32) : IVec S 32 := x

/-- The counted-from-the-end choice as the program writes it. -/
theorem wrap_eq (w : BitVec 32) : Scalar.select (IntOp.cmpi .slt w 0#32) (IntOp.addi w 50000#32) w = Spec.wrap w := by
  unfold Spec.wrap
  show (if BitVec.ofBool (BitVec.slt w 0#32) = 1 then w + 50000#32 else w) = _
  cases BitVec.slt w 0#32 <;> rfl

variable (W : Valuation τ sig (Elt Ideal))

/-- The content's tokens, padded with token 0 to 640. -/
def tok (a : IVec S64x637 32) (b : Fin 64) (t : Fin 640) : BitVec 32 := if h : t.val < 637 then a (ix2 b ⟨t.val, h⟩) else 0#32

/-- The flattened token list: entry `64 t + b` is example `b`'s token `t`. -/
theorem v3_apply (n : Fin 40960) : wv S40960 (after hostOps0 W (Proc.devRef .tc main_v3)) (ix1 n)
    = tok (wv S64x637 (W (Proc.devRef .tc main_arg0))) ⟨n.val % 64, Nat.mod_lt _ (by norm_num)⟩ ⟨n.val / 64, by have := n.isLt; omega⟩ := by
  rw [show wv S40960 (after hostOps0 W (Proc.devRef .tc main_v3)) = concatenate S40960 0 [⟨S40768, shapeCast S40768 (transpose S637x64 [1, 0] (wv S64x637 (W (Proc.devRef .tc main_arg0))) transposes_S64x637_S637x64_1_0) shapeCasts_S637x64_S40768⟩,
      ⟨S192, broadcastInDim S192 ![] bcast_S_S192 (constantI S_ 32 0#32)⟩] concatenates_S40768_S192_S40960_d0 from by
    after_results_simp_entrywise; rfl]
  pointwise [tok]
  by_cases h : n.val < 40768
  · rw [dif_pos h, dif_pos (show n.val / 64 < 637 by omega)]
  · rw [dif_neg h, dif_neg (show ¬ n.val / 64 < 637 by omega)]

/-- The first half of the embedded content. -/
theorem v11_apply (n : Fin 20480) (e : Fin 300) : fv S20480x300 (after hostOps0 W (Proc.devRef .tc main_v11)) (ix2 n e)
    = fv S50000x300 (W (Proc.devRef .tc main_arg2)) (ix2 (Spec.rowOf (wv S40960 (after hostOps0 W (Proc.devRef .tc main_v3)) (ix1 ⟨n.val, by have := n.isLt; omega⟩))) e) := by
  set y := wv S20480 (extractStridedSlice S20480 ![0] (wv S40960 (after hostOps0 W (Proc.devRef .tc main_v3))) slices_S40960_S20480_0) with hy
  have hg := Rows.dims2_apply (by norm_num) gather_S50000x300_S20480x1_S20480x300_1_0_n_n_0_1_1300_wf (fv S50000x300 (W (Proc.devRef .tc main_arg2)))
    (broadcastInDim S20480x1 ![0] bcast_S20480_S20480x1_0 (select (cmpi .slt y (broadcastInDim S20480 ![] bcast_S_S20480 (constantI S_ 32 0#32)))
      (addi y (broadcastInDim S20480 ![] bcast_S_S20480 (constantI S_ 32 50000#32))) y)) n e
  refine Eq.trans ?_ (hg.trans ?_)
  · rw [show fv S20480x300 (after hostOps0 W (Proc.devRef .tc main_v11)) = Host.gather gather_S50000x300_S20480x1_S20480x300_1_0_n_n_0_1_1300 (fv S50000x300 (W (Proc.devRef .tc main_arg2))) (broadcastInDim S20480x1 ![0] bcast_S20480_S20480x1_0 (select (cmpi .slt y (broadcastInDim S20480 ![] bcast_S_S20480 (constantI S_ 32 0#32)))
      (addi y (broadcastInDim S20480 ![] bcast_S_S20480 (constantI S_ 32 50000#32))) y)) from by rw [hy]; after_results_simp_entrywise]
    rfl
  · refine congrArg (fun r => fv S50000x300 (W (Proc.devRef .tc main_arg2)) (ix2 r e)) (Fin.ext ?_)
    show min (BitVec.toInt _).toNat 49999 = min (Spec.wrap _).toInt.toNat 49999
    refine congrArg (fun z : BitVec 32 => min z.toInt.toNat 49999) ?_
    pointwise [hy]
    exact wrap_eq _

/-- The second half of the embedded content. -/
theorem v19_apply (n : Fin 20480) (e : Fin 300) : fv S20480x300 (after hostOps0 W (Proc.devRef .tc main_v19)) (ix2 n e)
    = fv S50000x300 (W (Proc.devRef .tc main_arg2)) (ix2 (Spec.rowOf (wv S40960 (after hostOps0 W (Proc.devRef .tc main_v3)) (ix1 ⟨20480 + n.val, by have := n.isLt; omega⟩))) e) := by
  set y := wv S20480 (extractStridedSlice S20480 ![20480] (wv S40960 (after hostOps0 W (Proc.devRef .tc main_v3))) slices_S40960_S20480_20480) with hy
  have hg := Rows.dims2_apply (by norm_num) gather_S50000x300_S20480x1_S20480x300_1_0_n_n_0_1_1300_wf (fv S50000x300 (W (Proc.devRef .tc main_arg2)))
    (broadcastInDim S20480x1 ![0] bcast_S20480_S20480x1_0 (select (cmpi .slt y (broadcastInDim S20480 ![] bcast_S_S20480 (constantI S_ 32 0#32)))
      (addi y (broadcastInDim S20480 ![] bcast_S_S20480 (constantI S_ 32 50000#32))) y)) n e
  refine Eq.trans ?_ (hg.trans ?_)
  · rw [show fv S20480x300 (after hostOps0 W (Proc.devRef .tc main_v19)) = Host.gather gather_S50000x300_S20480x1_S20480x300_1_0_n_n_0_1_1300 (fv S50000x300 (W (Proc.devRef .tc main_arg2))) (broadcastInDim S20480x1 ![0] bcast_S20480_S20480x1_0 (select (cmpi .slt y (broadcastInDim S20480 ![] bcast_S_S20480 (constantI S_ 32 0#32)))
      (addi y (broadcastInDim S20480 ![] bcast_S_S20480 (constantI S_ 32 50000#32))) y)) from by rw [hy]; after_results_simp_entrywise]
    rfl
  · refine congrArg (fun r => fv S50000x300 (W (Proc.devRef .tc main_arg2)) (ix2 r e)) (Fin.ext ?_)
    show min (BitVec.toInt _).toNat 49999 = min (Spec.wrap _).toInt.toNat 49999
    refine congrArg (fun z : BitVec 32 => min z.toInt.toNat 49999) ?_
    pointwise [hy]
    exact wrap_eq _

/-- The embedded title: row `64 t + b` is example `b`'s token `t`. -/
theorem v28_apply (n : Fin 1536) (e : Fin 300) : fv S1536x300 (after hostOps0 W (Proc.devRef .tc main_v28)) (ix2 n e)
    = fv S50000x300 (W (Proc.devRef .tc main_arg2)) (ix2 (Spec.rowOf (wv S64x24 (W (Proc.devRef .tc main_arg1)) (ix2 ⟨n.val % 64, Nat.mod_lt _ (by norm_num)⟩ ⟨n.val / 64, by have := n.isLt; omega⟩))) e) := by
  set y := wv S1536 (shapeCast S1536 (transpose S24x64 [1, 0] (wv S64x24 (W (Proc.devRef .tc main_arg1))) transposes_S64x24_S24x64_1_0) shapeCasts_S24x64_S1536) with hy
  have hg := Rows.dims2_apply (by norm_num) gather_S50000x300_S1536x1_S1536x300_1_0_n_n_0_1_1300_wf (fv S50000x300 (W (Proc.devRef .tc main_arg2)))
    (broadcastInDim S1536x1 ![0] bcast_S1536_S1536x1_0 (select (cmpi .slt y (broadcastInDim S1536 ![] bcast_S_S1536 (constantI S_ 32 0#32)))
      (addi y (broadcastInDim S1536 ![] bcast_S_S1536 (constantI S_ 32 50000#32))) y)) n e
  refine Eq.trans ?_ (hg.trans ?_)
  · rw [show fv S1536x300 (after hostOps0 W (Proc.devRef .tc main_v28)) = Host.gather gather_S50000x300_S1536x1_S1536x300_1_0_n_n_0_1_1300 (fv S50000x300 (W (Proc.devRef .tc main_arg2))) (broadcastInDim S1536x1 ![0] bcast_S1536_S1536x1_0 (select (cmpi .slt y (broadcastInDim S1536 ![] bcast_S_S1536 (constantI S_ 32 0#32)))
      (addi y (broadcastInDim S1536 ![] bcast_S_S1536 (constantI S_ 32 50000#32))) y)) from by rw [hy]; after_results_simp_entrywise; rfl]
    rfl
  · refine congrArg (fun r => fv S50000x300 (W (Proc.devRef .tc main_arg2)) (ix2 r e)) (Fin.ext ?_)
    show min (BitVec.toInt _).toNat 49999 = min (Spec.wrap _).toInt.toNat 49999
    refine congrArg (fun z : BitVec 32 => min z.toInt.toNat 49999) ?_
    pointwise [hy]
    exact wrap_eq _

/-- The content's forward input weights, turned. -/
theorem v35_0 (e : Fin 300) (g : Fin 1024) : bv S2x300x1024 (after hostOps0 W (Proc.devRef .tc main_v35)) (ix3 0 e g) = fv S1024x300 (W (Proc.devRef .tc main_arg9)) (ix2 g e) := by
  rw [show bv S2x300x1024 (after hostOps0 W (Proc.devRef .tc main_v35)) = concatenate S2x300x1024 0 [⟨S1x300x1024, (broadcastInDim S1x300x1024 ![1, 2] bcast_S300x1024_S1x300x1024_1_2 (truncf .bf16 (transpose S300x1024 [1, 0] (fv S1024x300 (W (Proc.devRef .tc main_arg9))) transposes_S1024x300_S300x1024_1_0) bitsLt_bf16_f32))⟩, ⟨S1x300x1024, (broadcastInDim S1x300x1024 ![1, 2] bcast_S300x1024_S1x300x1024_1_2 (truncf .bf16 (transpose S300x1024 [1, 0] (fv S1024x300 (W (Proc.devRef .tc main_arg12))) transposes_S1024x300_S300x1024_1_0) bitsLt_bf16_f32))⟩] concatenates_S1x300x1024_S1x300x1024_S2x300x1024_d0 from by after_results_simp_entrywise; rfl]
  pointwise

/-- The content's forward bias. -/
theorem v39_0 (g : Fin 1024) : fv S2x1x1024 (after hostOps0 W (Proc.devRef .tc main_v39)) (ix3 0 0 g) = fv S1024 (W (Proc.devRef .tc main_arg11)) (ix1 g) := by
  rw [show fv S2x1x1024 (after hostOps0 W (Proc.devRef .tc main_v39)) = shapeCast S2x1x1024 (concatenate S2x1024 0 [⟨S1x1024, broadcastInDim S1x1024 ![1] bcast_S1024_S1x1024_1 (fv S1024 (W (Proc.devRef .tc main_arg11)))⟩, ⟨S1x1024, broadcastInDim S1x1024 ![1] bcast_S1024_S1x1024_1 (fv S1024 (W (Proc.devRef .tc main_arg14)))⟩] concatenates_S1x1024_S1x1024_S2x1024_d0) shapeCasts_S2x1024_S2x1x1024 from by after_results_simp_entrywise; rfl]
  pointwise

/-- The content's forward recurrent weights, turned. -/
theorem v50_0 (k : Fin 256) (g : Fin 1024) : bv S2x256x1024 (after hostOps0 W (Proc.devRef .tc main_v50)) (ix3 0 k g) = fv S1024x256 (W (Proc.devRef .tc main_arg10)) (ix2 g k) := by
  rw [show bv S2x256x1024 (after hostOps0 W (Proc.devRef .tc main_v50)) = truncf .bf16 (concatenate S2x256x1024 0 [⟨S1x256x1024, (broadcastInDim S1x256x1024 ![1, 2] bcast_S256x1024_S1x256x1024_1_2 (transpose S256x1024 [1, 0] (fv S1024x256 (W (Proc.devRef .tc main_arg10))) transposes_S1024x256_S256x1024_1_0))⟩, ⟨S1x256x1024, (broadcastInDim S1x256x1024 ![1, 2] bcast_S256x1024_S1x256x1024_1_2 (transpose S256x1024 [1, 0] (fv S1024x256 (W (Proc.devRef .tc main_arg13))) transposes_S1024x256_S256x1024_1_0))⟩] concatenates_S1x256x1024_S1x256x1024_S2x256x1024_d0) bitsLt_bf16_f32 from by after_results_simp_entrywise; rfl]
  pointwise

/-- The content's backward input weights, turned. -/
theorem v35_1 (e : Fin 300) (g : Fin 1024) : bv S2x300x1024 (after hostOps0 W (Proc.devRef .tc main_v35)) (ix3 1 e g) = fv S1024x300 (W (Proc.devRef .tc main_arg12)) (ix2 g e) := by
  rw [show bv S2x300x1024 (after hostOps0 W (Proc.devRef .tc main_v35)) = concatenate S2x300x1024 0 [⟨S1x300x1024, (broadcastInDim S1x300x1024 ![1, 2] bcast_S300x1024_S1x300x1024_1_2 (truncf .bf16 (transpose S300x1024 [1, 0] (fv S1024x300 (W (Proc.devRef .tc main_arg9))) transposes_S1024x300_S300x1024_1_0) bitsLt_bf16_f32))⟩, ⟨S1x300x1024, (broadcastInDim S1x300x1024 ![1, 2] bcast_S300x1024_S1x300x1024_1_2 (truncf .bf16 (transpose S300x1024 [1, 0] (fv S1024x300 (W (Proc.devRef .tc main_arg12))) transposes_S1024x300_S300x1024_1_0) bitsLt_bf16_f32))⟩] concatenates_S1x300x1024_S1x300x1024_S2x300x1024_d0 from by after_results_simp_entrywise; rfl]
  pointwise

/-- The content's backward bias. -/
theorem v39_1 (g : Fin 1024) : fv S2x1x1024 (after hostOps0 W (Proc.devRef .tc main_v39)) (ix3 1 0 g) = fv S1024 (W (Proc.devRef .tc main_arg14)) (ix1 g) := by
  rw [show fv S2x1x1024 (after hostOps0 W (Proc.devRef .tc main_v39)) = shapeCast S2x1x1024 (concatenate S2x1024 0 [⟨S1x1024, broadcastInDim S1x1024 ![1] bcast_S1024_S1x1024_1 (fv S1024 (W (Proc.devRef .tc main_arg11)))⟩, ⟨S1x1024, broadcastInDim S1x1024 ![1] bcast_S1024_S1x1024_1 (fv S1024 (W (Proc.devRef .tc main_arg14)))⟩] concatenates_S1x1024_S1x1024_S2x1024_d0) shapeCasts_S2x1024_S2x1x1024 from by after_results_simp_entrywise; rfl]
  pointwise

/-- The content's backward recurrent weights, turned. -/
theorem v50_1 (k : Fin 256) (g : Fin 1024) : bv S2x256x1024 (after hostOps0 W (Proc.devRef .tc main_v50)) (ix3 1 k g) = fv S1024x256 (W (Proc.devRef .tc main_arg13)) (ix2 g k) := by
  rw [show bv S2x256x1024 (after hostOps0 W (Proc.devRef .tc main_v50)) = truncf .bf16 (concatenate S2x256x1024 0 [⟨S1x256x1024, (broadcastInDim S1x256x1024 ![1, 2] bcast_S256x1024_S1x256x1024_1_2 (transpose S256x1024 [1, 0] (fv S1024x256 (W (Proc.devRef .tc main_arg10))) transposes_S1024x256_S256x1024_1_0))⟩, ⟨S1x256x1024, (broadcastInDim S1x256x1024 ![1, 2] bcast_S256x1024_S1x256x1024_1_2 (transpose S256x1024 [1, 0] (fv S1024x256 (W (Proc.devRef .tc main_arg13))) transposes_S1024x256_S256x1024_1_0))⟩] concatenates_S1x256x1024_S1x256x1024_S2x256x1024_d0) bitsLt_bf16_f32 from by after_results_simp_entrywise; rfl]
  pointwise

/-- The title's forward input weights, turned. -/
theorem v42_0 (e : Fin 300) (g : Fin 1024) : fv S300x2048 (after hostOps0 W (Proc.devRef .tc main_v42)) (ix2 e ⟨g.val, by have := g.isLt; omega⟩) = fv S1024x300 (W (Proc.devRef .tc main_arg3)) (ix2 g e) := by
  rw [show fv S300x2048 (after hostOps0 W (Proc.devRef .tc main_v42)) = concatenate S300x2048 1 [⟨S300x1024, (transpose S300x1024 [1, 0] (fv S1024x300 (W (Proc.devRef .tc main_arg3))) transposes_S1024x300_S300x1024_1_0)⟩, ⟨S300x1024, (transpose S300x1024 [1, 0] (fv S1024x300 (W (Proc.devRef .tc main_arg6))) transposes_S1024x300_S300x1024_1_0)⟩] concatenates_S300x1024_S300x1024_S300x2048_d1 from by after_results_simp_entrywise; rfl]
  pointwise

/-- The title's forward bias. -/
theorem v44_0 (g : Fin 1024) : fv S1x2048 (after hostOps0 W (Proc.devRef .tc main_v44)) (ix2 0 ⟨g.val, by have := g.isLt; omega⟩) = fv S1024 (W (Proc.devRef .tc main_arg5)) (ix1 g) := by
  rw [show fv S1x2048 (after hostOps0 W (Proc.devRef .tc main_v44)) = shapeCast S1x2048 (concatenate S2048 0 [⟨S1024, fv S1024 (W (Proc.devRef .tc main_arg5))⟩, ⟨S1024, fv S1024 (W (Proc.devRef .tc main_arg8))⟩] concatenates_S1024_S1024_S2048_d0) shapeCasts_S2048_S1x2048 from by after_results_simp_entrywise; rfl]
  pointwise

/-- The title's backward input weights, turned. -/
theorem v42_1 (e : Fin 300) (g : Fin 1024) : fv S300x2048 (after hostOps0 W (Proc.devRef .tc main_v42)) (ix2 e ⟨1024 + g.val, by have := g.isLt; omega⟩) = fv S1024x300 (W (Proc.devRef .tc main_arg6)) (ix2 g e) := by
  rw [show fv S300x2048 (after hostOps0 W (Proc.devRef .tc main_v42)) = concatenate S300x2048 1 [⟨S300x1024, (transpose S300x1024 [1, 0] (fv S1024x300 (W (Proc.devRef .tc main_arg3))) transposes_S1024x300_S300x1024_1_0)⟩, ⟨S300x1024, (transpose S300x1024 [1, 0] (fv S1024x300 (W (Proc.devRef .tc main_arg6))) transposes_S1024x300_S300x1024_1_0)⟩] concatenates_S300x1024_S300x1024_S300x2048_d1 from by after_results_simp_entrywise; rfl]
  pointwise

/-- The title's backward bias. -/
theorem v44_1 (g : Fin 1024) : fv S1x2048 (after hostOps0 W (Proc.devRef .tc main_v44)) (ix2 0 ⟨1024 + g.val, by have := g.isLt; omega⟩) = fv S1024 (W (Proc.devRef .tc main_arg8)) (ix1 g) := by
  rw [show fv S1x2048 (after hostOps0 W (Proc.devRef .tc main_v44)) = shapeCast S1x2048 (concatenate S2048 0 [⟨S1024, fv S1024 (W (Proc.devRef .tc main_arg5))⟩, ⟨S1024, fv S1024 (W (Proc.devRef .tc main_arg8))⟩] concatenates_S1024_S1024_S2048_d0) shapeCasts_S2048_S1x2048 from by after_results_simp_entrywise; rfl]
  pointwise

/-- The class weights, padded with zeros. -/
theorem v52_apply (o : Fin 5) (t : Fin 640) : fv S5x640 (after hostOps0 W (Proc.devRef .tc main_v52)) (ix2 o t) = if h : t.val < 637 then fv S5x637 (W (Proc.devRef .tc main_arg16)) (ix2 o ⟨t.val, h⟩) else (0 : EReal) := by
  rw [show fv S5x640 (after hostOps0 W (Proc.devRef .tc main_v52)) = concatenate S5x640 1 [⟨S5x637, fv S5x637 (W (Proc.devRef .tc main_arg16))⟩, ⟨S5x3, broadcastInDim S5x3 ![] bcast_S_S5x3 (constant S_ .f32 0x00000000#32)⟩] concatenates_S5x637_S5x3_S5x640_d1 from by after_results_simp_entrywise; rfl]
  pointwise

/-- The title's forward recurrent weights, turned. -/
theorem v55_apply (k : Fin 256) (g : Fin 1024) : fv S256x1024 (after hostOps2 W (Proc.devRef .tc main_v55)) (ix2 k g) = fv S1024x256 (W (Proc.devRef .tc main_arg4)) (ix2 g k) := by
  after_results_simp_entrywise
  pointwise

/-- The title's backward recurrent weights, turned. -/
theorem v56_apply (k : Fin 256) (g : Fin 1024) : fv S256x1024 (after hostOps2 W (Proc.devRef .tc main_v56)) (ix2 k g) = fv S1024x256 (W (Proc.devRef .tc main_arg7)) (ix2 g k) := by
  after_results_simp_entrywise
  pointwise

/-- The query's first half. -/
theorem v62_0 (b : Fin 64) (j : Fin 256) : fv S2x64x256 (after hostOps3 W (Proc.devRef .tc main_v62)) (ix3 0 b j) = fv S64x512 (W (Proc.devRef .tc main_v57)) (ix2 b ⟨j.val, by have := j.isLt; omega⟩) := by
  rw [show fv S2x64x256 (after hostOps3 W (Proc.devRef .tc main_v62)) = concatenate S2x64x256 0 [⟨S1x64x256, (broadcastInDim S1x64x256 ![1, 2] bcast_S64x256_S1x64x256_1_2 (extractStridedSlice S64x256 ![0, 0] (fv S64x512 (W (Proc.devRef .tc main_v57))) slices_S64x512_S64x256_0_0))⟩, ⟨S1x64x256, (broadcastInDim S1x64x256 ![1, 2] bcast_S64x256_S1x64x256_1_2 (extractStridedSlice S64x256 ![0, 256] (fv S64x512 (W (Proc.devRef .tc main_v57))) slices_S64x512_S64x256_0_256))⟩] concatenates_S1x64x256_S1x64x256_S2x64x256_d0 from by after_results_simp_entrywise; rfl]
  pointwise

/-- The query's second half. -/
theorem v62_1 (b : Fin 64) (j : Fin 256) : fv S2x64x256 (after hostOps3 W (Proc.devRef .tc main_v62)) (ix3 1 b j) = fv S64x512 (W (Proc.devRef .tc main_v57)) (ix2 b ⟨256 + j.val, by have := j.isLt; omega⟩) := by
  rw [show fv S2x64x256 (after hostOps3 W (Proc.devRef .tc main_v62)) = concatenate S2x64x256 0 [⟨S1x64x256, (broadcastInDim S1x64x256 ![1, 2] bcast_S64x256_S1x64x256_1_2 (extractStridedSlice S64x256 ![0, 0] (fv S64x512 (W (Proc.devRef .tc main_v57))) slices_S64x512_S64x256_0_0))⟩, ⟨S1x64x256, (broadcastInDim S1x64x256 ![1, 2] bcast_S64x256_S1x64x256_1_2 (extractStridedSlice S64x256 ![0, 256] (fv S64x512 (W (Proc.devRef .tc main_v57))) slices_S64x512_S64x256_0_256))⟩] concatenates_S1x64x256_S1x64x256_S2x64x256_d0 from by after_results_simp_entrywise; rfl]
  pointwise

/-- The class biases as a column. -/
theorem v64_apply (o : Fin 5) : fv S5x1 (after hostOps4 W (Proc.devRef .tc main_v64)) (ix2 o 0) = fv S5 (W (Proc.devRef .tc main_arg17)) (ix1 o) := by
  after_results_simp_entrywise
  pointwise
  rfl

end Cert.KernelIdeal.K

end
-- ==== Proof.KernelIdeal.ValueProj.lean ====
/- The gate inputs that the two projection calls leave, over the extended reals. -/
module

public import proofs.«01_k».proof.Proof.KernelIdeal.Inputs
public import Idealize.ShloMosaic.Lib.Pipeline.ValueKit

@[expose] public section

set_option maxRecDepth 16384

noncomputable section

namespace Cert.KernelIdeal.K

open Cert.KernelIdeal Cert.KernelIdeal.Gen
open Idealize.ShloMosaic Idealize.ShloMosaic.TcCoe Idealize.ShloMosaic.Tactic Idealize.ShloMosaic.StableHlo

variable (V : (c : Dev nD) → (b : Ref sig .tc) → Buf (Elt Ideal) ((c : Thread nD τ).loc b)) (c : Dev nD)

/-- One direction's gate inputs at example `b` of token `t`, off the embedded tokens and the stacked weights. -/
def projOf (X : Fin 640 → Fin 64 → Fin 300 → EReal) (w : FVec Ideal S2x300x1024 .bf16) (β : FVec Ideal S2x1x1024 .f32) (d : Fin 2) (i : S640x64x1024.Idx) : EReal :=
  Spec.pre (X (i 0) (i 1)) (fun g e => w (ix3 d e g)) (fun g => β (ix3 d 0 g)) (i 2)

/-- Where each window's block lies at point `t` of call 0. -/
theorem idx0 : ∀ t : Fin cfg0.N, win0_0.index t 0 = t.val ∧ win0_0.index t 1 = 0 ∧ (∀ a, win0_1.index t a = 0) ∧ (∀ a, win0_2.index t a = 0)
    ∧ win0_3.index t 0 = t.val ∧ win0_3.index t 1 = 0 ∧ win0_3.index t 2 = 0 ∧ win0_4.index t 0 = t.val ∧ win0_4.index t 1 = 0 ∧ win0_4.index t 2 = 0 := by
  decide +kernel

/-- Window 1 of call 0 is its whole array at every point. -/
theorem whole0_1 (t : Fin cfg0.N) : iblk0 V c 1 t = V c main_v35 := by
  funext y
  have e : (win0_1.blk t).view.emb y = y := funext fun a => Fin.ext (by
    refine (show _ = win0_1.index t a * win0_1.size a + (y a).val from by blk_simp).trans ?_
    rw [(idx0 t).2.2.1 a]; omega)
  exact congrArg (V c main_v35) e

/-- Window 2 of call 0 is its whole array at every point. -/
theorem whole0_2 (t : Fin cfg0.N) : iblk0 V c 2 t = V c main_v39 := by
  funext y
  have e : (win0_2.blk t).view.emb y = y := funext fun a => Fin.ext (by
    refine (show _ = win0_2.index t a * win0_2.size a + (y a).val from by blk_simp).trans ?_
    rw [(idx0 t).2.2.2.1 a]; omega)
  exact congrArg (V c main_v39) e

/-- One block's forward gate inputs in call 0. -/
theorem out0_3_apply (x0 : Vec Ideal S2048x300 .f32) (x1 : Vec Ideal S2x300x1024 .bf16) (x2 : Vec Ideal S2x1x1024 .f32) (y : S32x64x1024.Idx) :
    out0_3 x0 x1 x2 y = Spec.pre (fun e => x0 (ix2 ⟨(y 0).val * 64 + (y 1).val, by have := (y 0).isLt; have := (y 1).isLt; change (y 0).val < 32 at *; change (y 1).val < 64 at *; omega⟩ e)) (fun g e => x1 (ix3 0 e g)) (fun g => x2 (ix3 0 0 g)) (y 2) := by
  pointwise [out0_3, k0_pay2, k0_pay1, Spec.pre]

/-- One block's backward gate inputs in call 0. -/
theorem out0_4_apply (x0 : Vec Ideal S2048x300 .f32) (x1 : Vec Ideal S2x300x1024 .bf16) (x2 : Vec Ideal S2x1x1024 .f32) (y : S32x64x1024.Idx) :
    out0_4 x0 x1 x2 y = Spec.pre (fun e => x0 (ix2 ⟨(y 0).val * 64 + (y 1).val, by have := (y 0).isLt; have := (y 1).isLt; change (y 0).val < 32 at *; change (y 1).val < 64 at *; omega⟩ e)) (fun g e => x1 (ix3 1 e g)) (fun g => x2 (ix3 1 0 g)) (y 2) := by
  pointwise [out0_4, k0_pay3, k0_pay1, Spec.pre]

/-- What the first call leaves of the forward gate inputs. -/
theorem arr0_3 (X : Fin 640 → Fin 64 → Fin 300 → EReal)
    (hX : ∀ (n : Fin 20480) (e : Fin 300), fv S20480x300 (V c main_v11) (ix2 n e) = X ⟨n.val / 64, by have := n.isLt; omega⟩ ⟨n.val % 64, Nat.mod_lt _ (by norm_num)⟩ e) :
    (dat0 V c).arrAt 3 cfg0.N = fun i => if (i 0).val / 32 < 10 then projOf X (V c main_v35) (V c main_v39) 0 i else V c main_v53_0 i := by
  refine (dat0 V c).arrAt_eq_of_coversWhere 3 (projOf X (V c main_v35) (V c main_v39) 0) (fun β => β (0 : Fin _) < 10) (by decide +kernel)
    (fun t hf y => ?_) (fun j => Iff.rfl)
  have ht := t.isLt; change t.val < 10 at ht
  have h0 := (y 0).isLt; change (y 0).val < 32 at h0
  have h1 := (y 1).isLt; change (y 1).val < 64 at h1
  blk_simp
  rw [after0_3]
  rw [whole0_1, whole0_2]
  refine (out0_3_apply _ _ _ _).trans ?_
  blk_simp [iblk0, projOf, Spec.pre]
  refine congrArg₂ (· + ·) (Finset.sum_congr rfl fun e _ => congrArg₂ (· * ·) ?_ ?_) ?_
  · have hr : V c main_v11 ((win0_0.blk t).view.emb (ix2 ⟨(y 0).val * 64 + (y 1).val, by have := (y 0).isLt; have := (y 1).isLt; change (y 0).val < 32 at *; change (y 1).val < 64 at *; omega⟩ e)) = V c main_v11 (ix2 ⟨t.val * 2048 + ((y 0).val * 64 + (y 1).val), by omega⟩ e) := by
      blk_ext [idx0 t]
    refine hr.trans ((hX _ _).trans (congrArg₂ (fun a b => X a b e) (Fin.ext ?_) (Fin.ext ?_)))
    · blk_simp [idx0 t]
      show (t.val * 2048 + ((y 0).val * 64 + (y 1).val)) / 64 = _
      omega
    · blk_simp [idx0 t]
      show (t.val * 2048 + ((y 0).val * 64 + (y 1).val)) % 64 = _
      omega
  · refine congrArg (fun g => V c main_v35 (ix3 0 e g)) (Fin.ext ?_)
    blk_simp [idx0 t]
  · refine congrArg (fun g => V c main_v39 (ix3 0 0 g)) (Fin.ext ?_)
    blk_simp [idx0 t]

/-- What the first call leaves of the backward gate inputs. -/
theorem arr0_4 (X : Fin 640 → Fin 64 → Fin 300 → EReal)
    (hX : ∀ (n : Fin 20480) (e : Fin 300), fv S20480x300 (V c main_v11) (ix2 n e) = X ⟨n.val / 64, by have := n.isLt; omega⟩ ⟨n.val % 64, Nat.mod_lt _ (by norm_num)⟩ e) :
    (dat0 V c).arrAt 4 cfg0.N = fun i => if (i 0).val / 32 < 10 then projOf X (V c main_v35) (V c main_v39) 1 i else V c main_v53_1 i := by
  refine (dat0 V c).arrAt_eq_of_coversWhere 4 (projOf X (V c main_v35) (V c main_v39) 1) (fun β => β (0 : Fin _) < 10) (by decide +kernel)
    (fun t hf y => ?_) (fun j => Iff.rfl)
  have ht := t.isLt; change t.val < 10 at ht
  have h0 := (y 0).isLt; change (y 0).val < 32 at h0
  have h1 := (y 1).isLt; change (y 1).val < 64 at h1
  blk_simp
  rw [after0_4]
  rw [whole0_1, whole0_2]
  refine (out0_4_apply _ _ _ _).trans ?_
  blk_simp [iblk0, projOf, Spec.pre]
  refine congrArg₂ (· + ·) (Finset.sum_congr rfl fun e _ => congrArg₂ (· * ·) ?_ ?_) ?_
  · have hr : V c main_v11 ((win0_0.blk t).view.emb (ix2 ⟨(y 0).val * 64 + (y 1).val, by have := (y 0).isLt; have := (y 1).isLt; change (y 0).val < 32 at *; change (y 1).val < 64 at *; omega⟩ e)) = V c main_v11 (ix2 ⟨t.val * 2048 + ((y 0).val * 64 + (y 1).val), by omega⟩ e) := by
      blk_ext [idx0 t]
    refine hr.trans ((hX _ _).trans (congrArg₂ (fun a b => X a b e) (Fin.ext ?_) (Fin.ext ?_)))
    · blk_simp [idx0 t]
      show (t.val * 2048 + ((y 0).val * 64 + (y 1).val)) / 64 = _
      omega
    · blk_simp [idx0 t]
      show (t.val * 2048 + ((y 0).val * 64 + (y 1).val)) % 64 = _
      omega
  · refine congrArg (fun g => V c main_v35 (ix3 1 e g)) (Fin.ext ?_)
    blk_simp [idx0 t]
  · refine congrArg (fun g => V c main_v39 (ix3 1 0 g)) (Fin.ext ?_)
    blk_simp [idx0 t]

/-- Where each window's block lies at point `t` of call 1. -/
theorem idx1 : ∀ t : Fin cfg1.N, win1_0.index t 0 = t.val ∧ win1_0.index t 1 = 0 ∧ (∀ a, win1_1.index t a = 0) ∧ (∀ a, win1_2.index t a = 0)
    ∧ win1_3.index t 0 = t.val + 10 ∧ win1_3.index t 1 = 0 ∧ win1_3.index t 2 = 0 ∧ win1_4.index t 0 = t.val + 10 ∧ win1_4.index t 1 = 0 ∧ win1_4.index t 2 = 0 := by
  decide +kernel

/-- Window 1 of call 1 is its whole array at every point. -/
theorem whole1_1 (t : Fin cfg1.N) : iblk1 V c 1 t = V c main_v35 := by
  funext y
  have e : (win1_1.blk t).view.emb y = y := funext fun a => Fin.ext (by
    refine (show _ = win1_1.index t a * win1_1.size a + (y a).val from by blk_simp).trans ?_
    rw [(idx1 t).2.2.1 a]; omega)
  exact congrArg (V c main_v35) e

/-- Window 2 of call 1 is its whole array at every point. -/
theorem whole1_2 (t : Fin cfg1.N) : iblk1 V c 2 t = V c main_v39 := by
  funext y
  have e : (win1_2.blk t).view.emb y = y := funext fun a => Fin.ext (by
    refine (show _ = win1_2.index t a * win1_2.size a + (y a).val from by blk_simp).trans ?_
    rw [(idx1 t).2.2.2.1 a]; omega)
  exact congrArg (V c main_v39) e

/-- One block's forward gate inputs in call 1. -/
theorem out1_3_apply (x0 : Vec Ideal S2048x300 .f32) (x1 : Vec Ideal S2x300x1024 .bf16) (x2 : Vec Ideal S2x1x1024 .f32) (y : S32x64x1024.Idx) :
    out1_3 x0 x1 x2 y = Spec.pre (fun e => x0 (ix2 ⟨(y 0).val * 64 + (y 1).val, by have := (y 0).isLt; have := (y 1).isLt; change (y 0).val < 32 at *; change (y 1).val < 64 at *; omega⟩ e)) (fun g e => x1 (ix3 0 e g)) (fun g => x2 (ix3 0 0 g)) (y 2) := by
  pointwise [out1_3, k1_pay2, k1_pay1, Spec.pre]

/-- One block's backward gate inputs in call 1. -/
theorem out1_4_apply (x0 : Vec Ideal S2048x300 .f32) (x1 : Vec Ideal S2x300x1024 .bf16) (x2 : Vec Ideal S2x1x1024 .f32) (y : S32x64x1024.Idx) :
    out1_4 x0 x1 x2 y = Spec.pre (fun e => x0 (ix2 ⟨(y 0).val * 64 + (y 1).val, by have := (y 0).isLt; have := (y 1).isLt; change (y 0).val < 32 at *; change (y 1).val < 64 at *; omega⟩ e)) (fun g e => x1 (ix3 1 e g)) (fun g => x2 (ix3 1 0 g)) (y 2) := by
  pointwise [out1_4, k1_pay3, k1_pay1, Spec.pre]

/-- What the second call leaves of the forward gate inputs. -/
theorem arr1_3 (X : Fin 640 → Fin 64 → Fin 300 → EReal)
    (hX : ∀ (n : Fin 20480) (e : Fin 300), fv S20480x300 (V c main_v19) (ix2 n e) = X ⟨320 + n.val / 64, by have := n.isLt; omega⟩ ⟨n.val % 64, Nat.mod_lt _ (by norm_num)⟩ e)
    (hA : ∀ i : S640x64x1024.Idx, (i 0).val < 320 → (V c main_v54_0 : S640x64x1024.Idx → EReal) i = projOf X (V c main_v35) (V c main_v39) 0 i) :
    (dat1 V c).arrAt 3 cfg1.N = projOf X (V c main_v35) (V c main_v39) 0 := by
  refine (dat1 V c).arrAt_eq_of_coversWhere_of_agree 3 (projOf X (V c main_v35) (V c main_v39) 0) (fun β => 10 ≤ β (0 : Fin _)) (by decide +kernel)
    (fun t hf y => ?_) (fun j hj => hA j (by blk_simp [Pipeline.Window.cell_apply] at hj; omega))
  have ht := t.isLt; change t.val < 10 at ht
  have h0 := (y 0).isLt; change (y 0).val < 32 at h0
  have h1 := (y 1).isLt; change (y 1).val < 64 at h1
  blk_simp
  rw [after1_3]
  rw [whole1_1, whole1_2]
  refine (out1_3_apply _ _ _ _).trans ?_
  blk_simp [iblk1, projOf, Spec.pre]
  refine congrArg₂ (· + ·) (Finset.sum_congr rfl fun e _ => congrArg₂ (· * ·) ?_ ?_) ?_
  · have hr : V c main_v19 ((win1_0.blk t).view.emb (ix2 ⟨(y 0).val * 64 + (y 1).val, by have := (y 0).isLt; have := (y 1).isLt; change (y 0).val < 32 at *; change (y 1).val < 64 at *; omega⟩ e)) = V c main_v19 (ix2 ⟨t.val * 2048 + ((y 0).val * 64 + (y 1).val), by omega⟩ e) := by
      blk_ext [idx1 t]
    refine hr.trans ((hX _ _).trans (congrArg₂ (fun a b => X a b e) (Fin.ext ?_) (Fin.ext ?_)))
    · blk_simp [idx1 t]
      show 320 + (t.val * 2048 + ((y 0).val * 64 + (y 1).val)) / 64 = _
      omega
    · blk_simp [idx1 t]
      show (t.val * 2048 + ((y 0).val * 64 + (y 1).val)) % 64 = _
      omega
  · refine congrArg (fun g => V c main_v35 (ix3 0 e g)) (Fin.ext ?_)
    blk_simp [idx1 t]
  · refine congrArg (fun g => V c main_v39 (ix3 0 0 g)) (Fin.ext ?_)
    blk_simp [idx1 t]

/-- What the second call leaves of the backward gate inputs. -/
theorem arr1_4 (X : Fin 640 → Fin 64 → Fin 300 → EReal)
    (hX : ∀ (n : Fin 20480) (e : Fin 300), fv S20480x300 (V c main_v19) (ix2 n e) = X ⟨320 + n.val / 64, by have := n.isLt; omega⟩ ⟨n.val % 64, Nat.mod_lt _ (by norm_num)⟩ e)
    (hA : ∀ i : S640x64x1024.Idx, (i 0).val < 320 → (V c main_v54_1 : S640x64x1024.Idx → EReal) i = projOf X (V c main_v35) (V c main_v39) 1 i) :
    (dat1 V c).arrAt 4 cfg1.N = projOf X (V c main_v35) (V c main_v39) 1 := by
  refine (dat1 V c).arrAt_eq_of_coversWhere_of_agree 4 (projOf X (V c main_v35) (V c main_v39) 1) (fun β => 10 ≤ β (0 : Fin _)) (by decide +kernel)
    (fun t hf y => ?_) (fun j hj => hA j (by blk_simp [Pipeline.Window.cell_apply] at hj; omega))
  have ht := t.isLt; change t.val < 10 at ht
  have h0 := (y 0).isLt; change (y 0).val < 32 at h0
  have h1 := (y 1).isLt; change (y 1).val < 64 at h1
  blk_simp
  rw [after1_4]
  rw [whole1_1, whole1_2]
  refine (out1_4_apply _ _ _ _).trans ?_
  blk_simp [iblk1, projOf, Spec.pre]
  refine congrArg₂ (· + ·) (Finset.sum_congr rfl fun e _ => congrArg₂ (· * ·) ?_ ?_) ?_
  · have hr : V c main_v19 ((win1_0.blk t).view.emb (ix2 ⟨(y 0).val * 64 + (y 1).val, by have := (y 0).isLt; have := (y 1).isLt; change (y 0).val < 32 at *; change (y 1).val < 64 at *; omega⟩ e)) = V c main_v19 (ix2 ⟨t.val * 2048 + ((y 0).val * 64 + (y 1).val), by omega⟩ e) := by
      blk_ext [idx1 t]
    refine hr.trans ((hX _ _).trans (congrArg₂ (fun a b => X a b e) (Fin.ext ?_) (Fin.ext ?_)))
    · blk_simp [idx1 t]
      show 320 + (t.val * 2048 + ((y 0).val * 64 + (y 1).val)) / 64 = _
      omega
    · blk_simp [idx1 t]
      show (t.val * 2048 + ((y 0).val * 64 + (y 1).val)) % 64 = _
      omega
  · refine congrArg (fun g => V c main_v35 (ix3 1 e g)) (Fin.ext ?_)
    blk_simp [idx1 t]
  · refine congrArg (fun g => V c main_v39 (ix3 1 0 g)) (Fin.ext ?_)
    blk_simp [idx1 t]

end Cert.KernelIdeal.K

end
-- ==== Proof.KernelIdeal.ValueTitle.lean ====
/- The attention query that the title call leaves, over the extended reals. -/
module

public import proofs.«01_k».proof.Proof.KernelIdeal.Inputs
public import Idealize.ShloMosaic.Lib.Pipeline.ValueKit

@[expose] public section

set_option maxRecDepth 16384

noncomputable section

namespace Cert.KernelIdeal.K

open Cert.KernelIdeal Cert.KernelIdeal.Gen
open Idealize.ShloMosaic Idealize.ShloMosaic.TcCoe Idealize.ShloMosaic.Tactic Idealize.ShloMosaic.StableHlo

/-- Example `b`'s row of a pair of state arrays. -/
def stRow (s : Vec Ideal S64x256 .f32 × Vec Ideal S64x256 .f32) (b : Fin 64) : Spec.St := (fun j => s.1 (ix2 b j), fun j => s.2 (ix2 b j))

/-- The title's gate inputs. -/
theorem pre2_apply (x0 : Vec Ideal S1536x300 .f32) (x1 : Vec Ideal S300x2048 .f32) (x2 : Vec Ideal S1x2048 .f32) (t : Fin 24) (b : Fin 64) (g : Fin 1024) :
    pre2 x0 x1 x2 (ix3 t b g) = Spec.pre (fun e => x0 (ix2 ⟨t.val * 64 + b.val, by omega⟩ e)) (fun g e => x1 (ix2 e ⟨g.val, by have := g.isLt; omega⟩))
      (fun g => x2 (ix2 0 ⟨g.val, by have := g.isLt; omega⟩)) g := by
  pointwise [pre2, k2_pay3, k2_pay2, Spec.pre]

/-- The title's loop has 24 trips. -/
theorem trips2 : k2_t1_loop.trips = 24 := by decide

/-- Trip `k` reads row `k`. -/
theorem k2_off1_eq (k : Fin k2_t1_loop.trips) : k2_off1 k = ![k.val, 0, 0] := by
  revert k; decide +kernel

/-- The row of gate inputs that trip `k` reads. -/
theorem ld2_apply (p : Vec Ideal S24x64x1024 .f32) (k : Fin k2_t1_loop.trips) (b : Fin 64) (g : Fin 1024) :
    View.ld p (rp2 k) (ix3 (n0 := 1) 0 b g) = p (ix3 ⟨k.val, trips2 ▸ k.isLt⟩ b g) := by
  refine congrArg p (funext fun a => Fin.ext ?_)
  show k2_off1 k a + 1 * _ = _
  rw [k2_off1_eq]
  fin_cases a
  · show k.val + 1 * 0 = k.val; omega
  · show 0 + 1 * b.val = b.val; omega
  · show 0 + 1 * g.val = g.val; omega

/-- The gates of a trip. -/
theorem gates2 (x : Vec Ideal S1x64x1024 .f32) (h : Vec Ideal S64x256 .f32) (w : Vec Ideal S256x1024 .f32) (b : Fin 64) (g : Fin 1024) :
    k2_pay6 x h w (ix2 b g) = Spec.gates (fun g => x (ix3 0 b g)) (fun g j => w (ix2 j g)) (fun j => h (ix2 b j)) g := by
  pointwise [k2_pay6, Spec.gates]

/-- The new cell state of a trip. -/
theorem newC2 (x : Vec Ideal S1x64x1024 .f32) (h s : Vec Ideal S64x256 .f32) (w : Vec Ideal S256x1024 .f32) (b : Fin 64) (j : Fin 256) :
    k2_pay7 x h s w (ix2 b j) = Spec.newC (fun g => k2_pay6 x h w (ix2 b g)) (fun j => s (ix2 b j)) j := by
  unfold k2_pay7
  generalize k2_pay6 x h w = G
  pointwise [Spec.newC]

/-- One trip is one step of the cell. -/
theorem tStep_apply (p : Vec Ideal S24x64x1024 .f32) (w : Vec Ideal S256x1024 .f32) (k : Fin k2_t1_loop.trips) (s : Vec Ideal S64x256 .f32 × Vec Ideal S64x256 .f32) (b : Fin 64) :
    stRow (tStep p w k s) b = Spec.step (fun g => p (ix3 ⟨k.val, trips2 ▸ k.isLt⟩ b g)) (fun g j => w (ix2 j g)) (stRow s b) := by
  have hg : (fun g => k2_pay6 (View.ld p (rp2 k)) s.1 w (ix2 b g)) = Spec.gates (fun g => p (ix3 ⟨k.val, trips2 ▸ k.isLt⟩ b g)) (fun g j => w (ix2 j g)) (stRow s b).1 := by
    funext g
    rw [gates2]
    exact congrArg (fun z => Spec.gates z _ _ g) (funext fun g => ld2_apply p k b g)
  have hc : (fun j => k2_pay7 (View.ld p (rp2 k)) s.1 s.2 w (ix2 b j)) = Spec.newC (Spec.gates (fun g => p (ix3 ⟨k.val, trips2 ▸ k.isLt⟩ b g)) (fun g j => w (ix2 j g)) (stRow s b).1) (stRow s b).2 := by
    funext j
    rw [newC2, hg]; rfl
  refine Prod.ext (funext fun j => ?_) (funext fun j => ?_)
  · show k2_pay8 (View.ld p (rp2 k)) s.1 s.2 w (ix2 b j) = Spec.newH _ _ j
    unfold Spec.newH
    rw [← hc, ← hg]
    unfold k2_pay8
    generalize k2_pay6 (View.ld p (rp2 k)) s.1 w = G
    generalize k2_pay7 (View.ld p (rp2 k)) s.1 s.2 w = C
    pointwise
  · show k2_pay9 (View.ld p (rp2 k)) s.1 s.2 w (ix2 b j) = Spec.newC _ _ j
    rw [← hc]
    unfold k2_pay9
    generalize k2_pay7 (View.ld p (rp2 k)) s.1 s.2 w = C
    pointwise

/-- The states that the trips go through. -/
theorem tSt_apply (p : Vec Ideal S24x64x1024 .f32) (w : Vec Ideal S256x1024 .f32) (b : Fin 64) (k : ℕ) (hk : k ≤ 24) :
    stRow (tSt p w k) b = Spec.run (Spec.seq (T := 24) fun t g => p (ix3 t b g)) (fun g j => w (ix2 j g)) k := by
  refine Spec.run_unique (st := fun k => stRow (tSt p w k) b) ?_ (fun k hk => ?_) k hk
  · refine Prod.ext (funext fun j => ?_) (funext fun j => ?_)
    · show k2_pay4 (F := Ideal) (ix2 b j) = 0
      pointwise [k2_pay4]
    · show k2_pay5 (F := Ideal) (ix2 b j) = 0
      pointwise [k2_pay5]
  · exact (congrArg (fun s => stRow s b) (tSt_succ p w ⟨k, trips2 ▸ hk⟩)).trans (tStep_apply p w ⟨k, trips2 ▸ hk⟩ _ b)

/-- The gate inputs of the title's last token, read back to front. -/
theorem last2_apply (x0 : Vec Ideal S1536x300 .f32) (w : Vec Ideal S300x1024 .f32) (β : Vec Ideal S1x1024 .f32) (b : Fin 64) (g : Fin 1024) :
    k2_pay10 x0 w β (ix2 b g) = Spec.pre (fun e => x0 (ix2 ⟨1472 + b.val, by omega⟩ e)) (fun g e => w (ix2 e g)) (fun g => β (ix2 0 g)) g := by
  pointwise [k2_pay10, k2_pay2, Spec.pre]

/-- The query, off the last token's backward gate inputs and the forward state. -/
theorem query2 (x : FVec Ideal S64x1024 .f32) (w : Vec Ideal S256x1024 .f32) (h : Vec Ideal S64x256 .f32) (att : Vec Ideal S512x512 .f32) (b : Fin 64) (k : Fin 512) :
    k2_pay1 x (Scalar.ofBits .f32 0x00000000#32) w h att (ix2 b k)
      = ∑ j : Fin 512, (att (ix2 j k) : EReal) * Spec.both (fun j => h (ix2 b j)) (Spec.step (fun g => x (ix2 b g)) (fun g j => w (ix2 j g)) (fun _ => 0, fun _ => 0)).1 j := by
  pointwise [k2_pay1]
  refine Eq.trans ?_ (Fin.sum_univ_two_halves 256 256 rfl _).symm
  refine congrArg₂ (· + ·) (Finset.sum_congr rfl fun j _ => ?_) (Finset.sum_congr rfl fun j _ => ?_)
  · rw [Spec.both, dif_pos (show j.val < 256 from j.isLt)]
    exact mul_comm _ _
  · rw [Spec.both, dif_neg (show ¬ 256 + j.val < 256 by omega)]
    have e : (⟨256 + j.val - 256, by have := j.isLt; omega⟩ : Fin 256) = j := Fin.ext (by show 256 + j.val - 256 = j.val; omega)
    exact (mul_comm _ _).trans (congrArg (fun i => (att (ix2 ⟨256 + j.val, by have := j.isLt; omega⟩ k) : EReal)
      * (Spec.step (fun g => x (ix2 b g)) (fun g j => w (ix2 j g)) (fun _ => 0, fun _ => 0)).1 i) e.symm)

/-- What the title call leaves, off its operands. -/
theorem out2_6_apply (x0 : Vec Ideal S1536x300 .f32) (x1 : Vec Ideal S300x2048 .f32) (x2 : Vec Ideal S1x2048 .f32) (x3 x4 : Vec Ideal S256x1024 .f32) (x5 : Vec Ideal S512x512 .f32) (b : Fin 64) (k : Fin 512) :
    out2_6 x0 x1 x2 x3 x4 x5 (ix2 b k) = ∑ j : Fin 512, (x5 (ix2 j k) : EReal) * Spec.both
      (Spec.run (Spec.seq (T := 24) fun t => Spec.pre (fun e => x0 (ix2 ⟨t.val * 64 + b.val, by omega⟩ e)) (fun g e => x1 (ix2 e ⟨g.val, by have := g.isLt; omega⟩)) (fun g => x2 (ix2 0 ⟨g.val, by have := g.isLt; omega⟩)))
        (fun g j => x3 (ix2 j g)) 24).1
      (Spec.step (Spec.pre (fun e => x0 (ix2 ⟨1472 + b.val, by omega⟩ e)) (fun g e => x1 (ix2 e ⟨1024 + g.val, by have := g.isLt; omega⟩)) (fun g => x2 (ix2 0 ⟨1024 + g.val, by have := g.isLt; omega⟩)))
        (fun g j => x4 (ix2 j g)) (fun _ => 0, fun _ => 0)).1 j := by
  unfold out2_6
  refine (query2 _ _ _ _ b k).trans (Finset.sum_congr rfl fun j _ => ?_)
  rw [trips2]
  refine congrArg₂ (fun f p => (x5 (ix2 j k) : EReal) * Spec.both f (Spec.step p (fun g j => x4 (ix2 j g)) (fun _ => 0, fun _ => 0)).1 j) ?_ (funext fun g => ?_)
  · refine (congrArg Prod.fst (tSt_apply (pre2 x0 x1 x2) x3 b 24 le_rfl)).trans ?_
    exact congrArg (fun f => (Spec.run (Spec.seq (T := 24) f) (fun g j => x3 (ix2 j g)) 24).1) (funext fun t => funext fun g => pre2_apply x0 x1 x2 t b g)
  · refine (last2_apply _ _ _ b g).trans ?_
    pointwise [Spec.pre]

variable (V : (c : Dev nD) → (b : Ref sig .tc) → Buf (Elt Ideal) ((c : Thread nD τ).loc b)) (c : Dev nD)

/-- Where each window's block lies in call 2: at the start. -/
theorem idx2 : ∀ t : Fin cfg2.N, (∀ a, win2_0.index t a = 0) ∧ (∀ a, win2_1.index t a = 0) ∧ (∀ a, win2_2.index t a = 0) ∧ (∀ a, win2_3.index t a = 0) ∧ (∀ a, win2_4.index t a = 0) ∧ (∀ a, win2_5.index t a = 0) := by
  decide +kernel

/-- Window 0 of call 2 is its whole array. -/
theorem whole2_0 (t : Fin cfg2.N) : iblk2 V c 0 t = V c main_v28 := by
  funext y
  have e : (win2_0.blk t).view.emb y = y := funext fun a => Fin.ext (by
    refine (show _ = win2_0.index t a * win2_0.size a + (y a).val from by blk_simp).trans ?_
    rw [(idx2 t).1 a]; omega)
  exact congrArg (V c main_v28) e

/-- Window 1 of call 2 is its whole array. -/
theorem whole2_1 (t : Fin cfg2.N) : iblk2 V c 1 t = V c main_v42 := by
  funext y
  have e : (win2_1.blk t).view.emb y = y := funext fun a => Fin.ext (by
    refine (show _ = win2_1.index t a * win2_1.size a + (y a).val from by blk_simp).trans ?_
    rw [(idx2 t).2.1 a]; omega)
  exact congrArg (V c main_v42) e

/-- Window 2 of call 2 is its whole array. -/
theorem whole2_2 (t : Fin cfg2.N) : iblk2 V c 2 t = V c main_v44 := by
  funext y
  have e : (win2_2.blk t).view.emb y = y := funext fun a => Fin.ext (by
    refine (show _ = win2_2.index t a * win2_2.size a + (y a).val from by blk_simp).trans ?_
    rw [(idx2 t).2.2.1 a]; omega)
  exact congrArg (V c main_v44) e

/-- Window 3 of call 2 is its whole array. -/
theorem whole2_3 (t : Fin cfg2.N) : iblk2 V c 3 t = V c main_v55 := by
  funext y
  have e : (win2_3.blk t).view.emb y = y := funext fun a => Fin.ext (by
    refine (show _ = win2_3.index t a * win2_3.size a + (y a).val from by blk_simp).trans ?_
    rw [(idx2 t).2.2.2.1 a]; omega)
  exact congrArg (V c main_v55) e

/-- Window 4 of call 2 is its whole array. -/
theorem whole2_4 (t : Fin cfg2.N) : iblk2 V c 4 t = V c main_v56 := by
  funext y
  have e : (win2_4.blk t).view.emb y = y := funext fun a => Fin.ext (by
    refine (show _ = win2_4.index t a * win2_4.size a + (y a).val from by blk_simp).trans ?_
    rw [(idx2 t).2.2.2.2.1 a]; omega)
  exact congrArg (V c main_v56) e

/-- Window 5 of call 2 is its whole array. -/
theorem whole2_5 (t : Fin cfg2.N) : iblk2 V c 5 t = V c main_arg15 := by
  funext y
  have e : (win2_5.blk t).view.emb y = y := funext fun a => Fin.ext (by
    refine (show _ = win2_5.index t a * win2_5.size a + (y a).val from by blk_simp).trans ?_
    rw [(idx2 t).2.2.2.2.2 a]; omega)
  exact congrArg (V c main_arg15) e

/-- The title call's array is what its one point leaves. -/
theorem arr2_6 : (dat2 V c).arrAt 6 cfg2.N = out2_6 (V c main_v28) (V c main_v42) (V c main_v44) (V c main_v55) (V c main_v56) (V c main_arg15) := by
  refine (dat2 V c).arrAt_eq_of_after_last 6 ⟨0, by decide⟩ (by decide +kernel) _ fun j => ?_
  refine (show _ = (dat2 V c).after 6 ⟨0, by decide⟩ j from rfl).trans ?_
  rw [after2_6, whole2_0, whole2_1, whole2_2, whole2_3, whole2_4, whole2_5]
  rfl

end Cert.KernelIdeal.K

end
-- ==== Proof.KernelIdeal.ValueScan.lean ====
/- The scores that the scan call leaves, over the extended reals. -/
module

public import proofs.«01_k».proof.Proof.KernelIdeal.Inputs
public import Idealize.ShloMosaic.Lib.Pipeline.ValueKit

@[expose] public section

set_option maxRecDepth 16384

noncomputable section

namespace Cert.KernelIdeal.K

open Cert.KernelIdeal Cert.KernelIdeal.Gen
open Idealize.ShloMosaic Idealize.ShloMosaic.TcCoe Idealize.ShloMosaic.Tactic Idealize.ShloMosaic.StableHlo

/-! ## One trip -/

/-- Trip `k` reads row `k` of the forward block. -/
theorem scan_off1 : ∀ k : Fin k3_t1_loop.trips, k3_off1 k = ![k.val, 0, 0] := by decide +kernel
/-- Trip `k` reads row `15 - k` of the backward block. -/
theorem scan_off3 : ∀ k : Fin k3_t1_loop.trips, k3_off3 k = ![15 - k.val, 0, 0] := by decide +kernel

/-- The row of gate inputs that trip `k` reads, front to back and back to front. -/
theorem ldf_apply (p : Vec Ideal S16x64x1024 .bf16) (k : Fin k3_t1_loop.trips) (b : Fin 64) (g : Fin 1024) :
    View.ld p (rgf k) (ix3 (n0 := 1) 0 b g) = p (ix3 ⟨k.val, trips3 ▸ k.isLt⟩ b g) := by
  refine congrArg p (funext fun a => Fin.ext ?_)
  show k3_off1 k a + 1 * _ = _
  rw [scan_off1]
  fin_cases a
  · show k.val + 1 * 0 = k.val; omega
  · show 0 + 1 * b.val = b.val; omega
  · show 0 + 1 * g.val = g.val; omega
/-- The backward row. -/
theorem ldb_apply (p : Vec Ideal S16x64x1024 .bf16) (k : Fin k3_t1_loop.trips) (b : Fin 64) (g : Fin 1024) :
    View.ld p (rgb k) (ix3 (n0 := 1) 0 b g) = p (ix3 ⟨15 - k.val, by omega⟩ b g) := by
  refine congrArg p (funext fun a => Fin.ext ?_)
  show k3_off3 k a + 1 * _ = _
  rw [scan_off3]
  fin_cases a
  · show 15 - k.val + 1 * 0 = 15 - k.val; omega
  · show 0 + 1 * b.val = b.val; omega
  · show 0 + 1 * g.val = g.val; omega

/-- The recurrent weights of each direction. -/
theorem ldwf_apply (w : Vec Ideal S2x256x1024 .bf16) (j : Fin 256) (g : Fin 1024) : View.ld w rwf (ix3 (n0 := 1) 0 j g) = w (ix3 0 j g) := by pointwise
/-- The backward weights. -/
theorem ldwb_apply (w : Vec Ideal S2x256x1024 .bf16) (j : Fin 256) (g : Fin 1024) : View.ld w rwb (ix3 (n0 := 1) 0 j g) = w (ix3 1 j g) := by pointwise

/-- The gates of a trip. -/
theorem gates3 (x : Vec Ideal S1x64x1024 .bf16) (h : Vec Ideal S64x256 .f32) (w : Vec Ideal S1x256x1024 .bf16) (b : Fin 64) (g : Fin 1024) :
    k3_pay9 x h w (ix2 b g) = Spec.gates (fun g => x (ix3 0 b g)) (fun g j => w (ix3 0 j g)) (fun j => h (ix2 b j)) g := by
  pointwise [k3_pay9, Spec.gates]

/-- The new cell state and the new hidden state of a trip. -/
theorem newC3 (x : Vec Ideal S1x64x1024 .bf16) (h s : Vec Ideal S64x256 .f32) (w : Vec Ideal S1x256x1024 .bf16) (b : Fin 64) (j : Fin 256) :
    k3_pay10 x h s w (ix2 b j) = Spec.newC (Spec.gates (fun g => x (ix3 0 b g)) (fun g j => w (ix3 0 j g)) (fun j => h (ix2 b j))) (fun j => s (ix2 b j)) j := by
  rw [show Spec.gates (fun g => x (ix3 0 b g)) (fun g j => w (ix3 0 j g)) (fun j => h (ix2 b j)) = fun g => k3_pay9 x h w (ix2 b g) from
    funext fun g => (gates3 x h w b g).symm]
  unfold k3_pay10
  generalize k3_pay9 x h w = G
  pointwise [Spec.newC]
/-- The new hidden state. -/
theorem newH3 (x : Vec Ideal S1x64x1024 .bf16) (h s : Vec Ideal S64x256 .f32) (w : Vec Ideal S1x256x1024 .bf16) (b : Fin 64) (j : Fin 256) :
    k3_pay11 x h s w (ix2 b j) = Spec.newH (Spec.gates (fun g => x (ix3 0 b g)) (fun g j => w (ix3 0 j g)) (fun j => h (ix2 b j))) (fun j => s (ix2 b j)) j := by
  unfold Spec.newH
  rw [← newC3, ← gates3]
  unfold k3_pay11
  generalize k3_pay9 x h w = G
  generalize k3_pay10 x h s w = C
  pointwise

/-- Example `b`'s rows of the four state arrays, forward and backward. -/
def fRow (s : St Ideal) (b : Fin 64) : Spec.St := (fun j => s.1 (ix2 b j), fun j => s.2.1 (ix2 b j))
/-- The backward pair. -/
def bRow (s : St Ideal) (b : Fin 64) : Spec.St := (fun j => s.2.2.1 (ix2 b j), fun j => s.2.2.2 (ix2 b j))

/-- Whether the backward recurrence takes trip `k` of the point at coordinate `a`. -/
abbrev takes (a : BitVec 32) (k : Fin k3_t1_loop.trips) : BitVec 1 := Scalar.ori (Scalar.cmpi .sgt a 0#32) (Scalar.cmpi .slt (jrev k) 13#32)

/-- It does from the fourth step on. -/
theorem takes_iff : ∀ (t : Fin 40) (k : Fin k3_t1_loop.trips), takes (BitVec.ofNat 32 t.val) k = 1 ↔ 3 ≤ 16 * t.val + k.val := by decide +kernel

variable (a : BitVec 32) (x0 x1 : Vec Ideal S16x64x1024 .bf16) (x2 : Vec Ideal S2x256x1024 .bf16) (k : Fin k3_t1_loop.trips) (s : St Ideal) (b : Fin 64)

/-- A trip is a step of the cell on the forward state. -/
theorem fRow_step : fRow (sStep a x0 x1 x2 k s) b = Spec.step (fun g => x0 (ix3 ⟨k.val, trips3 ▸ k.isLt⟩ b g)) (fun g j => x2 (ix3 0 j g)) (fRow s b) := by
  have ex : (fun g => View.ld x0 (rgf k) (ix3 (n0 := 1) 0 b g)) = fun g => x0 (ix3 ⟨k.val, trips3 ▸ k.isLt⟩ b g) := funext fun g => ldf_apply x0 k b g
  have ew : (fun (g : Fin 1024) (j : Fin 256) => View.ld x2 rwf (ix3 (n0 := 1) 0 j g)) = fun g j => x2 (ix3 0 j g) := funext fun g => funext fun j => ldwf_apply x2 j g
  rw [← ex, ← ew]
  refine Prod.ext (funext fun j => ?_) (funext fun j => ?_)
  · refine Eq.trans ?_ (newH3 (View.ld x0 (rgf k)) s.1 s.2.1 (View.ld x2 rwf) b j)
    show k3_pay12 (View.ld x0 (rgf k)) s.1 s.2.1 (View.ld x2 rwf) (ix2 b j) = _
    unfold k3_pay12
    generalize k3_pay11 (F := Ideal) _ _ _ _ = C
    pointwise
  · refine Eq.trans ?_ (newC3 (View.ld x0 (rgf k)) s.1 s.2.1 (View.ld x2 rwf) b j)
    show k3_pay13 (View.ld x0 (rgf k)) s.1 s.2.1 (View.ld x2 rwf) (ix2 b j) = _
    unfold k3_pay13
    generalize k3_pay10 (F := Ideal) _ _ _ _ = C
    pointwise

/-- What the backward recurrence would take the hidden state to, where it takes the trip. -/
theorem hB_apply (j : Fin 256) : k3_pay17 a (jrev k) (View.ld x1 (rgb k)) s.2.2.1 s.2.2.2 (View.ld x2 rwb) s.2.2.1 (ix2 b j)
    = (if takes a k = 1 then Spec.step (fun g => x1 (ix3 ⟨15 - k.val, by omega⟩ b g)) (fun g j => x2 (ix3 1 j g)) (bRow s b) else bRow s b).1 j := by
  have ex : (fun g => View.ld x1 (rgb k) (ix3 (n0 := 1) 0 b g)) = fun g => x1 (ix3 ⟨15 - k.val, by omega⟩ b g) := funext fun g => ldb_apply x1 k b g
  have ew : (fun (g : Fin 1024) (j : Fin 256) => View.ld x2 rwb (ix3 (n0 := 1) 0 j g)) = fun g j => x2 (ix3 1 j g) := funext fun g => funext fun j => ldwb_apply x2 j g
  rw [← ex, ← ew]
  show (Scalar.select (takes a k) (k3_pay11 (View.ld x1 (rgb k)) s.2.2.1 s.2.2.2 (View.ld x2 rwb)) s.2.2.1 : FVec Ideal S64x256 .f32) (ix2 b j) = _
  unfold Scalar.select
  split
  · exact newH3 (View.ld x1 (rgb k)) s.2.2.1 s.2.2.2 (View.ld x2 rwb) b j
  · rfl

/-- A trip is a step of the cell on the backward state, or leaves it. -/
theorem bRow_step : bRow (sStep a x0 x1 x2 k s) b
    = if takes a k = 1 then Spec.step (fun g => x1 (ix3 ⟨15 - k.val, by omega⟩ b g)) (fun g j => x2 (ix3 1 j g)) (bRow s b) else bRow s b := by
  refine Prod.ext (funext fun j => ?_) (funext fun j => ?_)
  · refine Eq.trans ?_ (hB_apply a x1 x2 k s b j)
    show k3_pay18 a (jrev k) (View.ld x1 (rgb k)) s.2.2.1 s.2.2.2 (View.ld x2 rwb) s.2.2.1 (ix2 b j) = _
    unfold k3_pay18
    generalize k3_pay17 (F := Ideal) _ _ _ _ _ _ _ = C
    pointwise
  · have ex : (fun g => View.ld x1 (rgb k) (ix3 (n0 := 1) 0 b g)) = fun g => x1 (ix3 ⟨15 - k.val, by omega⟩ b g) := funext fun g => ldb_apply x1 k b g
    have ew : (fun (g : Fin 1024) (j : Fin 256) => View.ld x2 rwb (ix3 (n0 := 1) 0 j g)) = fun g j => x2 (ix3 1 j g) := funext fun g => funext fun j => ldwb_apply x2 j g
    rw [← ex, ← ew]
    show shapeCast S64x256 (Scalar.select (takes a k) (k3_pay10 (View.ld x1 (rgb k)) s.2.2.1 s.2.2.2 (View.ld x2 rwb)) s.2.2.2 : FVec Ideal S64x256 .f32) shapeCasts_S64x256_S64x256 (ix2 b j) = _
    unfold Scalar.select
    split
    · refine Eq.trans ?_ (newC3 (View.ld x1 (rgb k)) s.2.2.1 s.2.2.2 (View.ld x2 rwb) b j)
      generalize k3_pay10 (F := Ideal) _ _ _ _ = C
      pointwise
    · pointwise [bRow]

/-- The row that a trip records is the hidden state it comes to. -/
theorem rowF_apply (j : Fin 256) : rowF x0 x1 x2 k s (ix3 (n0 := 1) 0 b j) = (fRow (sStep a x0 x1 x2 k s) b).1 j := by
  show k3_pay14 (View.ld x0 (rgf k)) s.1 s.2.1 (View.ld x2 rwf) (ix3 (n0 := 1) 0 b j) = k3_pay12 (View.ld x0 (rgf k)) s.1 s.2.1 (View.ld x2 rwf) (ix2 b j)
  unfold k3_pay14 k3_pay12
  generalize k3_pay11 (F := Ideal) _ _ _ _ = C
  pointwise
/-- The backward row that a trip records. -/
theorem rowB_apply (j : Fin 256) : rowB a x0 x1 x2 k s (ix3 (n0 := 1) 0 b j) = (bRow (sStep a x0 x1 x2 k s) b).1 j := by
  show k3_pay6 (k3_pay20 a (jrev k) (View.ld x1 (rgb k)) s.2.2.1 s.2.2.2 (View.ld x2 rwb) s.2.2.1) (ix3 (n0 := 1) 0 b j)
    = k3_pay18 a (jrev k) (View.ld x1 (rgb k)) s.2.2.1 s.2.2.2 (View.ld x2 rwb) s.2.2.1 (ix2 b j)
  unfold k3_pay6 k3_pay20 k3_pay18
  generalize k3_pay17 (F := Ideal) _ _ _ _ _ _ _ = C
  pointwise

/-- The scores of a point. -/
theorem out3_4_apply (x3 : Vec Ideal S2x64x256 .f32) (r : Fin 16) : out3_4 a x0 x1 x2 x3 s (ix3 r 0 b)
    = ∑ j : Fin 256, (fRow (sSt a x0 x1 x2 s (r.val + 1)) b).1 j * (x3 (ix3 0 b j) : EReal) := by
  have e : ∀ j, allF a x0 x1 x2 s (ix3 r b j) = (fRow (sSt a x0 x1 x2 s (r.val + 1)) b).1 j := fun j => by
    rw [sSt_succ a x0 x1 x2 s (tripF r)]
    exact rowF_apply a x0 x1 x2 (tripF r) _ b j
  unfold out3_4
  refine Eq.trans ?_ (Finset.sum_congr rfl fun j _ => congrArg (fun z : EReal => z * (x3 (ix3 0 b j) : EReal)) (e j))
  generalize allF a x0 x1 x2 s = A
  pointwise [k3_pay7]
/-- What a point leaves of the backward scores. -/
theorem out3_5_apply (x3 : Vec Ideal S2x64x256 .f32) (r : Fin 16) : out3_5 a x0 x1 x2 x3 s (ix3 r 0 b)
    = ∑ j : Fin 256, (bRow (sSt a x0 x1 x2 s (15 - r.val + 1)) b).1 j * (x3 (ix3 1 b j) : EReal) := by
  have e : ∀ j, allB a x0 x1 x2 s (ix3 r b j) = (bRow (sSt a x0 x1 x2 s (15 - r.val + 1)) b).1 j := fun j => by
    rw [sSt_succ a x0 x1 x2 s (tripB r)]
    exact rowB_apply a x0 x1 x2 (tripB r) _ b j
  unfold out3_5
  refine Eq.trans ?_ (Finset.sum_congr rfl fun j _ => congrArg (fun z : EReal => z * (x3 (ix3 1 b j) : EReal)) (e j))
  generalize allB a x0 x1 x2 s = A
  pointwise [k3_pay8]

/-! ## The recurrences over all points -/

/-- A recurrence that stays at zero for three steps and then goes by the cell's step. -/
def late (p : ℕ → Fin 1024 → EReal) (u : Fin 1024 → Fin 256 → EReal) : ℕ → Spec.St
  | 0 => (fun _ => 0, fun _ => 0)
  | n + 1 => if 3 ≤ n then Spec.step (p n) u (late p u n) else late p u n

/-- One step of `late`. -/
theorem late_succ (p : ℕ → Fin 1024 → EReal) (u : Fin 1024 → Fin 256 → EReal) (n : ℕ) :
    late p u (n + 1) = if 3 ≤ n then Spec.step (p n) u (late p u n) else late p u n := rfl

/-- It is the recurrence over the inputs from the fourth on. -/
theorem late_eq (p : ℕ → Fin 1024 → EReal) (u : Fin 1024 → Fin 256 → EReal) : ∀ n, late p u (n + 3) = Spec.run (fun n => p (n + 3)) u n
  | 0 => rfl
  | n + 1 => by rw [show n + 1 + 3 = n + 3 + 1 by omega, late_succ, if_pos (by omega), late_eq p u n]; rfl

variable (V : (c : Dev nD) → (b : Ref sig .tc) → Buf (Elt Ideal) ((c : Thread nD τ).loc b)) (c : Dev nD)

/-- The gate inputs of the content, front to back and back to front, and the recurrent weights. -/
def pF (b : Fin 64) : ℕ → Fin 1024 → EReal := Spec.seq (T := 640) fun t g => bv S640x64x1024 (V c main_v54_0) (ix3 t b g)
/-- The backward gate inputs, last row first. -/
def pB (b : Fin 64) : ℕ → Fin 1024 → EReal := Spec.seq (T := 640) fun t g => bv S640x64x1024 (V c main_v54_1) (ix3 t.rev b g)
/-- The recurrent weights of direction `d`. -/
def uOf (d : Fin 2) (g : Fin 1024) (j : Fin 256) : EReal := bv S2x256x1024 (V c main_v50) (ix3 d j g)

/-- Where each window's block lies at point `t`. -/
theorem idx3 : ∀ t : Fin cfg3.N, win3_0.index t 0 = t.val ∧ win3_0.index t 1 = 0 ∧ win3_0.index t 2 = 0 ∧ win3_1.index t 0 = 39 - t.val ∧ win3_1.index t 1 = 0 ∧ win3_1.index t 2 = 0
    ∧ (∀ a, win3_2.index t a = 0) ∧ (∀ a, win3_3.index t a = 0)
    ∧ win3_4.index t 0 = t.val ∧ win3_4.index t 1 = 0 ∧ win3_4.index t 2 = 0 ∧ win3_5.index t 0 = 39 - t.val ∧ win3_5.index t 1 = 0 ∧ win3_5.index t 2 = 0 := by
  decide +kernel

/-- The grid's coordinate is the point's number. -/
theorem coords3 : ∀ t : Fin cfg3.N, coord3 (grid3.coords t) = BitVec.ofNat 32 t.val :=
  (by decide +kernel : ∀ t : Fin grid3.N, coord3 (grid3.coords t) = BitVec.ofNat 32 t.val)

/-- Window 2 of the scan call is its whole array. -/
theorem whole3_2 (t : Fin cfg3.N) : iblk3 V c 2 t = V c main_v50 := by
  funext y
  have e : (win3_2.blk t).view.emb y = y := funext fun a => Fin.ext (by
    refine (show _ = win3_2.index t a * win3_2.size a + (y a).val from by blk_simp).trans ?_
    rw [(idx3 t).2.2.2.2.2.2.1 a]; omega)
  exact congrArg (V c main_v50) e

/-- Window 3 of the scan call is its whole array. -/
theorem whole3_3 (t : Fin cfg3.N) : iblk3 V c 3 t = V c main_v62 := by
  funext y
  have e : (win3_3.blk t).view.emb y = y := funext fun a => Fin.ext (by
    refine (show _ = win3_3.index t a * win3_3.size a + (y a).val from by blk_simp).trans ?_
    rw [(idx3 t).2.2.2.2.2.2.2.1 a]; omega)
  exact congrArg (V c main_v62) e

/-- The row of gate inputs at trip `k` of point `t`. -/
theorem blkF_apply (t : Fin cfg3.N) (k : Fin 16) (b : Fin 64) : (fun g : Fin 1024 => bv S16x64x1024 (iblk3 V c 0 t) (ix3 k b g)) = pF V c b (16 * t.val + k.val) := by
  have ht : t.val < 40 := t.isLt
  funext g
  unfold pF
  rw [Spec.seq_of_lt _ (show 16 * t.val + k.val < 640 by omega)]
  show V c main_v54_0 ((win3_0.blk t).view.emb (ix3 k b g)) = V c main_v54_0 (ix3 ⟨16 * t.val + k.val, by omega⟩ b g)
  blk_ext [idx3 t]
/-- The backward block's rows are gate inputs in the order they are taken. -/
theorem blkB_apply (t : Fin cfg3.N) (k : Fin 16) (b : Fin 64) : (fun g : Fin 1024 => bv S16x64x1024 (iblk3 V c 1 t) (ix3 ⟨15 - k.val, by omega⟩ b g)) = pB V c b (16 * t.val + k.val) := by
  have ht : t.val < 40 := t.isLt
  funext g
  unfold pB
  rw [Spec.seq_of_lt _ (show 16 * t.val + k.val < 640 by omega)]
  show V c main_v54_1 ((win3_1.blk t).view.emb (ix3 ⟨15 - k.val, by omega⟩ b g)) = V c main_v54_1 (ix3 (Fin.rev ⟨16 * t.val + k.val, by omega⟩) b g)
  blk_ext [idx3 t, Fin.val_rev]

/-- The weights' window is the whole array. -/
theorem blkU_apply (t : Fin cfg3.N) (d : Fin 2) : (fun (g : Fin 1024) (j : Fin 256) => bv S2x256x1024 (iblk3 V c 2 t) (ix3 d j g)) = uOf V c d :=
  congrArg (fun (w : FVec Ideal S2x256x1024 .bf16) (g : Fin 1024) (j : Fin 256) => w (ix3 d j g)) (whole3_2 V c t)

/-- The state before trip `k` of point `t`. -/
abbrev stAt (t : Fin cfg3.N) (k : ℕ) : St Ideal := sSt (coord3 (grid3.coords t)) (iblk3 V c 0 t) (iblk3 V c 1 t) (iblk3 V c 2 t) (stN V c t.val) k

/-- The forward state after `k` trips of a point, given it at the point's start. -/
theorem stAt_fwd (t : Fin cfg3.N) (b : Fin 64) (h : fRow (stN V c t.val) b = Spec.run (pF V c b) (uOf V c 0) (16 * t.val)) :
    ∀ k ≤ 16, fRow (stAt V c t k) b = Spec.run (pF V c b) (uOf V c 0) (16 * t.val + k)
  | 0, _ => h
  | k + 1, hk => by
    have e := sSt_succ (coord3 (grid3.coords t)) (iblk3 V c 0 t) (iblk3 V c 1 t) (iblk3 V c 2 t) (stN V c t.val) ⟨k, by rw [trips3]; omega⟩
    refine (congrArg (fun s => fRow s b) e).trans ((fRow_step _ _ _ _ _ _ b).trans ?_)
    rw [show 16 * t.val + (k + 1) = 16 * t.val + k + 1 by omega, Spec.run_succ, ← stAt_fwd t b h k (by omega)]
    exact congrArg₂ (fun p u => Spec.step p u (fRow (stAt V c t k) b)) (blkF_apply V c t ⟨k, by omega⟩ b) (blkU_apply V c t 0)

/-- The backward state after `k` trips of a point, given it at the point's start. -/
theorem stAt_bwd (t : Fin cfg3.N) (b : Fin 64) (h : bRow (stN V c t.val) b = late (pB V c b) (uOf V c 1) (16 * t.val)) :
    ∀ k ≤ 16, bRow (stAt V c t k) b = late (pB V c b) (uOf V c 1) (16 * t.val + k)
  | 0, _ => h
  | k + 1, hk => by
    have e := sSt_succ (coord3 (grid3.coords t)) (iblk3 V c 0 t) (iblk3 V c 1 t) (iblk3 V c 2 t) (stN V c t.val) ⟨k, by rw [trips3]; omega⟩
    refine (congrArg (fun s => bRow s b) e).trans ((bRow_step _ _ _ _ _ _ b).trans ?_)
    rw [show 16 * t.val + (k + 1) = 16 * t.val + k + 1 by omega, late_succ, ← stAt_bwd t b h k (by omega)]
    refine if_congr ((Eq.to_iff (congrArg (fun a => takes a _ = 1) (coords3 t))).trans (takes_iff ⟨t.val, t.isLt⟩ ⟨k, by rw [trips3]; omega⟩)) ?_ rfl
    exact congrArg₂ (fun p u => Spec.step p u (bRow (stAt V c t k) b)) (blkB_apply V c t ⟨k, by omega⟩ b) (blkU_apply V c t 1)

/-- The states before point `n`. -/
theorem stN_apply (b : Fin 64) : ∀ n ≤ 40, fRow (stN V c n) b = Spec.run (pF V c b) (uOf V c 0) (16 * n) ∧ bRow (stN V c n) b = late (pB V c b) (uOf V c 1) (16 * n)
  | 0, _ => by
    refine ⟨Prod.ext (funext fun j => ?_) (funext fun j => ?_), Prod.ext (funext fun j => ?_) (funext fun j => ?_)⟩
    · show k3_pay2 (F := Ideal) (ix2 b j) = 0
      pointwise [k3_pay2, k3_pay1]
    · show k3_pay3 (F := Ideal) (ix2 b j) = 0
      pointwise [k3_pay3, k3_pay1]
    · show k3_pay4 (F := Ideal) (ix2 b j) = 0
      pointwise [k3_pay4, k3_pay1]
    · show k3_pay5 (F := Ideal) (ix2 b j) = 0
      pointwise [k3_pay5, k3_pay1]
  | n + 1, hn => by
    have ih := stN_apply b n (by omega)
    have e : stN V c (n + 1) = stAt V c ⟨n, hn⟩ 16 := (stN_succ V c ⟨n, hn⟩).trans (by unfold next3; rw [trips3])
    rw [e, show 16 * (n + 1) = 16 * n + 16 by omega]
    exact ⟨stAt_fwd V c ⟨n, hn⟩ b ih.1 16 le_rfl, stAt_bwd V c ⟨n, hn⟩ b ih.2 16 le_rfl⟩

/-- The scores that the scan call leaves: the forward states' part, and the backward states'. -/
def sfOf (i : S640x1x64.Idx) : EReal :=
  ∑ j : Fin 256, (Spec.run (pF V c (i 2)) (uOf V c 0) ((i 0).val + 1)).1 j * (fv S2x64x256 (V c main_v62) (ix3 0 (i 2) j) : EReal)
/-- The backward part of the score. -/
def sbOf (i : S640x1x64.Idx) : EReal :=
  ∑ j : Fin 256, (late (pB V c (i 2)) (uOf V c 1) (640 - (i 0).val)).1 j * (fv S2x64x256 (V c main_v62) (ix3 1 (i 2) j) : EReal)

/-- The call leaves the forward part of the scores. -/
theorem arr3_4 : (dat3 V c).arrAt 4 cfg3.N = sfOf V c := by
  refine (dat3 V c).arrAt_eq_of_covers 4 (sfOf V c) (by decide +kernel) fun t hf y => ?_
  have ht : t.val < 40 := t.isLt
  have h0 := (y 0).isLt; change (y 0).val < 16 at h0
  blk_simp
  rw [after3_4, whole3_3]
  have ey : y = ix3 (n0 := 16) (n1 := 1) (n2 := 64) (y 0) 0 (y 2) := funext fun a => by
    fin_cases a
    · rfl
    · exact Subsingleton.elim (α := Fin 1) _ _
    · rfl
  refine (congrArg (out3_4 _ _ _ _ _ _) ey).trans ((out3_4_apply _ _ _ _ _ (y 2) _ (y 0)).trans ?_)
  have e0 : ((win3_4.blk t).view.emb y 0).val = 16 * t.val + (y 0).val := by blk_simp [idx3 t]; omega
  have e2 : (win3_4.blk t).view.emb y 2 = y 2 := Fin.ext (by blk_simp [idx3 t])
  show _ = sfOf V c ((win3_4.blk t).view.emb y)
  unfold sfOf
  rw [e0, e2]
  refine Finset.sum_congr rfl fun j _ => ?_
  refine congrArg (fun s : Spec.St => s.1 j * (fv S2x64x256 (V c main_v62) (ix3 0 (y 2) j) : EReal)) ?_
  exact stAt_fwd V c t (y 2) (stN_apply V c (y 2) t.val (by omega)).1 ((y 0).val + 1) (by omega)

/-- The call leaves the backward part of the scores. -/
theorem arr3_5 : (dat3 V c).arrAt 5 cfg3.N = sbOf V c := by
  refine (dat3 V c).arrAt_eq_of_covers 5 (sbOf V c) (by decide +kernel) fun t hf y => ?_
  have ht : t.val < 40 := t.isLt
  have h0 := (y 0).isLt; change (y 0).val < 16 at h0
  blk_simp
  rw [after3_5, whole3_3]
  have ey : y = ix3 (n0 := 16) (n1 := 1) (n2 := 64) (y 0) 0 (y 2) := funext fun a => by
    fin_cases a
    · rfl
    · exact Subsingleton.elim (α := Fin 1) _ _
    · rfl
  refine (congrArg (out3_5 _ _ _ _ _ _) ey).trans ((out3_5_apply _ _ _ _ _ (y 2) _ (y 0)).trans ?_)
  have e0 : 640 - ((win3_5.blk t).view.emb y 0).val = 16 * t.val + (15 - (y 0).val + 1) := by blk_simp [idx3 t]; omega
  have e2 : (win3_5.blk t).view.emb y 2 = y 2 := Fin.ext (by blk_simp [idx3 t])
  show _ = sbOf V c ((win3_5.blk t).view.emb y)
  unfold sbOf
  rw [e0, e2]
  refine Finset.sum_congr rfl fun j _ => ?_
  refine congrArg (fun s : Spec.St => s.1 j * (fv S2x64x256 (V c main_v62) (ix3 1 (y 2) j) : EReal)) ?_
  exact stAt_bwd V c t (y 2) (stN_apply V c (y 2) t.val (by omega)).2 (15 - (y 0).val + 1) (by omega)

end Cert.KernelIdeal.K

end
-- ==== Proof.KernelIdeal.ValueFinal.lean ====
/- The class scores that the last call leaves, over the extended reals. -/
module

public import proofs.«01_k».proof.Proof.KernelIdeal.Inputs
public import Idealize.ShloMosaic.Lib.Pipeline.ValueKit

@[expose] public section

set_option maxRecDepth 16384

noncomputable section

namespace Cert.KernelIdeal.K

open Cert.KernelIdeal Cert.KernelIdeal.Gen
open Idealize.ShloMosaic Idealize.ShloMosaic.TcCoe Idealize.ShloMosaic.Tactic Idealize.ShloMosaic.StableHlo

/-- A padded row is one past the content's last token. -/
theorem live_iff : ∀ t : Fin 640, IntOp.cmpi .slt (BitVec.ofNat 32 t.val) 637#32 = 1 ↔ t.val < 637 := by decide +kernel

/-- The mask's value. -/
theorem mask_eq : (Named.named κ "mask" 0xF149F2CA#32 : Ideal .f32) = (⊥ : EReal) := by rfl

/-- The scores with the padded rows masked. -/
def masked (f : Fin 637 → EReal) (t : Fin 640) : EReal := if h : t.val < 637 then f ⟨t.val, h⟩ else ⊥

/-- A sum over 640 rows whose last three are nothing. -/
theorem sum_pad (f : Fin 640 → EReal) (h : ∀ t : Fin 640, 637 ≤ t.val → f t = 0) : ∑ t, f t = ∑ t : Fin 637, f ⟨t.val, by omega⟩ := by
  have hz : ∑ t : Fin 3, f ⟨637 + t.val, by omega⟩ = 0 := Finset.sum_eq_zero fun t _ => h _ (by show 637 ≤ 637 + t.val; omega)
  rw [Fin.sum_univ_two_halves 637 3 rfl f, hz, add_zero]

/-- The largest score is the largest of the unmasked ones. -/
theorem top_masked (f : Fin 637 → EReal) : Spec.top (masked f) = Spec.top f := by
  unfold Spec.top
  refine le_antisymm (Finset.fold_max_le _ |>.2 ⟨bot_le, fun t _ => ?_⟩) (Finset.fold_max_le _ |>.2 ⟨bot_le, fun t _ => ?_⟩)
  · unfold masked
    split
    · exact (Finset.le_fold_max _).2 (.inr ⟨_, Finset.mem_univ _, le_rfl⟩)
    · exact bot_le
  · exact (Finset.le_fold_max _).2 (.inr ⟨⟨t.val, by omega⟩, Finset.mem_univ _, by rw [masked, dif_pos t.isLt]⟩)

/-- Softmax over the masked scores: the padded rows get nothing. -/
theorem softmax_masked (f : Fin 637 → EReal) (w : Fin 640 → EReal) (w' : Fin 637 → EReal) (hw : ∀ t : Fin 637, w ⟨t.val, by omega⟩ = w' t) (hz : ∀ t : Fin 640, 637 ≤ t.val → w t = 0) :
    ∑ t, w t * Spec.softmax (masked f) t = ∑ t, Spec.softmax f t * w' t := by
  have hs : ∑ t, Ideal.exp (masked f t - Spec.top f) = ∑ t, Ideal.exp (f t - Spec.top f) := by
    rw [sum_pad _ fun t ht => by rw [masked, dif_neg (by omega), show (⊥ : EReal) - Spec.top f = ⊥ from by rw [sub_eq_add_neg]; exact EReal.bot_add _, Ideal.exp_bot]]
    exact Finset.sum_congr rfl fun t _ => by rw [masked, dif_pos t.isLt]
  rw [sum_pad _ fun t ht => by rw [hz t ht, zero_mul]]
  refine Finset.sum_congr rfl fun t _ => ?_
  rw [hw, mul_comm]
  unfold Spec.softmax
  rw [top_masked, hs, masked, dif_pos t.isLt]

/-- What the last call leaves, off its operands. -/
theorem out4_4_apply (x0 x1 : Vec Ideal S640x1x64 .f32) (x2 : Vec Ideal S5x640 .f32) (x3 : Vec Ideal S5x1 .f32) (b : Fin 64) (o : Fin 5) :
    out4_4 x0 x1 x2 x3 (ix2 b o) = Spec.logSoftmax (fun o : Fin 5 => (∑ t : Fin 640, (x2 (ix2 o t) : EReal)
      * Spec.softmax (fun t : Fin 640 => (Scalar.select (IntOp.cmpi .slt (BitVec.ofNat 32 t.val) 637#32) ((x0 (ix3 t 0 b) : EReal) + x1 (ix3 t 0 b)) (Named.named κ "mask" 0xF149F2CA#32 : Ideal .f32) : EReal)) t)
      + x3 (ix2 o 0)) o := by
  unfold Spec.logSoftmax Spec.softmax Spec.top
  rw [← Spec.negInf]
  pointwise [out4_4, k4_pay1]

/-- The class scores' logarithmic softmax, off the two parts of the scores and the padded weights. -/
theorem out4_4_eq (x0 x1 : Vec Ideal S640x1x64 .f32) (x2 : Vec Ideal S5x640 .f32) (x3 : Vec Ideal S5x1 .f32) (f : Fin 637 → EReal) (w : Fin 5 → Fin 637 → EReal) (b : Fin 64) (o : Fin 5)
    (hf : ∀ t : Fin 637, (x0 (ix3 ⟨t.val, by omega⟩ 0 b) : EReal) + x1 (ix3 ⟨t.val, by omega⟩ 0 b) = f t)
    (hw : ∀ (o : Fin 5) (t : Fin 640), (x2 (ix2 o t) : EReal) = if h : t.val < 637 then w o ⟨t.val, h⟩ else 0) :
    out4_4 x0 x1 x2 x3 (ix2 b o) = Spec.logSoftmax (fun o : Fin 5 => (∑ t, Spec.softmax f t * w o t) + x3 (ix2 o 0)) o := by
  rw [out4_4_apply]
  refine congrArg (fun L => Spec.logSoftmax L o) (funext fun o => congrArg (fun z : EReal => z + x3 (ix2 o 0)) ?_)
  have em : (fun t : Fin 640 => (Scalar.select (IntOp.cmpi .slt (BitVec.ofNat 32 t.val) 637#32) ((x0 (ix3 t 0 b) : EReal) + x1 (ix3 t 0 b)) (Named.named κ "mask" 0xF149F2CA#32 : Ideal .f32) : EReal)) = masked f := by
    funext t
    unfold Scalar.select masked
    by_cases h : t.val < 637
    · rw [if_pos ((live_iff t).2 h), dif_pos h]; exact hf ⟨t.val, h⟩
    · rw [if_neg fun e => h ((live_iff t).1 e), dif_neg h]; exact mask_eq
  rw [em]
  exact softmax_masked f _ (w o) (fun t => (hw o _).trans (dif_pos t.isLt)) (fun t ht => (hw o t).trans (dif_neg (by omega)))

variable (V : (c : Dev nD) → (b : Ref sig .tc) → Buf (Elt Ideal) ((c : Thread nD τ).loc b)) (c : Dev nD)

/-- Where each window's block lies in call 4: at the start. -/
theorem idx4 : ∀ t : Fin cfg4.N, (∀ a, win4_0.index t a = 0) ∧ (∀ a, win4_1.index t a = 0) ∧ (∀ a, win4_2.index t a = 0) ∧ (∀ a, win4_3.index t a = 0) := by
  decide +kernel

/-- Window 0 of call 4 is its whole array. -/
theorem whole4_0 (t : Fin cfg4.N) : iblk4 V c 0 t = V c main_v63_0 := by
  funext y
  have e : (win4_0.blk t).view.emb y = y := funext fun a => Fin.ext (by
    refine (show _ = win4_0.index t a * win4_0.size a + (y a).val from by blk_simp).trans ?_
    rw [(idx4 t).1 a]; omega)
  exact congrArg (V c main_v63_0) e

/-- Window 1 of call 4 is its whole array. -/
theorem whole4_1 (t : Fin cfg4.N) : iblk4 V c 1 t = V c main_v63_1 := by
  funext y
  have e : (win4_1.blk t).view.emb y = y := funext fun a => Fin.ext (by
    refine (show _ = win4_1.index t a * win4_1.size a + (y a).val from by blk_simp).trans ?_
    rw [(idx4 t).2.1 a]; omega)
  exact congrArg (V c main_v63_1) e

/-- Window 2 of call 4 is its whole array. -/
theorem whole4_2 (t : Fin cfg4.N) : iblk4 V c 2 t = V c main_v52 := by
  funext y
  have e : (win4_2.blk t).view.emb y = y := funext fun a => Fin.ext (by
    refine (show _ = win4_2.index t a * win4_2.size a + (y a).val from by blk_simp).trans ?_
    rw [(idx4 t).2.2.1 a]; omega)
  exact congrArg (V c main_v52) e

/-- Window 3 of call 4 is its whole array. -/
theorem whole4_3 (t : Fin cfg4.N) : iblk4 V c 3 t = V c main_v64 := by
  funext y
  have e : (win4_3.blk t).view.emb y = y := funext fun a => Fin.ext (by
    refine (show _ = win4_3.index t a * win4_3.size a + (y a).val from by blk_simp).trans ?_
    rw [(idx4 t).2.2.2 a]; omega)
  exact congrArg (V c main_v64) e

/-- The last call's array is what its one point leaves. -/
theorem arr4_4 : (dat4 V c).arrAt 4 cfg4.N = out4_4 (V c main_v63_0) (V c main_v63_1) (V c main_v52) (V c main_v64) := by
  refine (dat4 V c).arrAt_eq_of_after_last 4 ⟨0, by decide⟩ (by decide +kernel) _ fun j => ?_
  refine (show _ = (dat4 V c).after 4 ⟨0, by decide⟩ j from rfl).trans ?_
  rw [after4_4, whole4_0, whole4_1, whole4_2, whole4_3]
  rfl

end Cert.KernelIdeal.K

end
-- ==== Proof.KernelIdeal.Value.lean ====
/- The kernel's result over the extended reals: the five calls' arrays, one after the other, read back to the arguments. -/
module

public import proofs.«01_k».proof.Proof.KernelIdeal.Run
public import proofs.«01_k».proof.Proof.KernelIdeal.ValueProj
public import proofs.«01_k».proof.Proof.KernelIdeal.ValueTitle
public import proofs.«01_k».proof.Proof.KernelIdeal.ValueScan
public import proofs.«01_k».proof.Proof.KernelIdeal.ValueFinal

@[expose] public section

set_option maxRecDepth 16384

noncomputable section

namespace Cert.KernelIdeal.K

open Cert.KernelIdeal Cert.KernelIdeal.Gen
open Idealize.ShloMosaic Idealize.ShloMosaic.TcCoe Idealize.ShloMosaic.Tactic Idealize.ShloMosaic.StableHlo

variable (m : (ℓ : Loc nD τ sig) → Buf (Elt Ideal) ℓ) (ρ : Dev nD → PrngReg) (c : Dev nD)

/-- The classifier's inputs that the launch memory holds. -/
def inp : Spec.In := Spec.inOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) (m ((c : Thread nD τ).loc main_arg10))
  (m ((c : Thread nD τ).loc main_arg11)) (m ((c : Thread nD τ).loc main_arg12)) (m ((c : Thread nD τ).loc main_arg13)) (m ((c : Thread nD τ).loc main_arg14))
  (m ((c : Thread nD τ).loc main_arg15)) (m ((c : Thread nD τ).loc main_arg16)) (m ((c : Thread nD τ).loc main_arg17))

/-- The embedded content, padded to 640 tokens. -/
def emb (t : Fin 640) (b : Fin 64) (e : Fin 300) : EReal := (inp m c).table (Spec.rowOf (tok (wv S64x637 (m ((c : Thread nD τ).loc main_arg0))) b t)) e

/-- Below 637 the embedded token is the content's. -/
theorem emb_of_lt (t : Fin 640) (h : t.val < 637) (b : Fin 64) : emb m c t b = (inp m c).table (Spec.rowOf ((inp m c).content b ⟨t.val, h⟩)) := by
  funext e
  unfold emb tok
  rw [dif_pos h]
  rfl

/-! ## What each stretch leaves alone -/

/-- What neither the first two calls nor the copies between them write. -/
theorem W3_keep (r : Ref sig .tc) (h1 : r ∉ hostOps1_W) (h0 : ∀ w : Fin cfg0.W, Pipeline.arrRef spec0 w = r → (cfg0.win w).isOut = false) :
    W3 m ρ c (Proc.devRef .tc r) = W1 m ρ c (Proc.devRef .tc r) := (W3_of m ρ c r h1).trans (W2_of m ρ c r h0)
/-- The same up to the end of the second call. -/
theorem W4_keep (r : Ref sig .tc) (h1 : r ∉ hostOps1_W) (h0 : ∀ w : Fin cfg0.W, Pipeline.arrRef spec0 w = r → (cfg0.win w).isOut = false)
    (g : ∀ w : Fin cfg1.W, Pipeline.arrRef spec1 w = r → (cfg1.win w).isOut = false) :
    W4 m ρ c (Proc.devRef .tc r) = W1 m ρ c (Proc.devRef .tc r) := (W4_of m ρ c r g).trans (W3_keep m ρ c r h1 h0)
/-- What the stretches about the title's call do not write. -/
theorem W7_keep (r : Ref sig .tc) (h3 : r ∉ hostOps3_W) (h2 : r ∉ hostOps2_W) (g : ∀ w : Fin cfg2.W, Pipeline.arrRef spec2 w = r → (cfg2.win w).isOut = false) :
    W7 m ρ c (Proc.devRef .tc r) = W4 m ρ c (Proc.devRef .tc r) := (W7_of m ρ c r h3).trans ((W6_of m ρ c r g).trans (W5_of m ρ c r h2))

/-- The content's input weights reach the second call as prepared. -/
theorem v35_V3 : V3 m ρ c main_v35 = V1 m ρ c main_v35 := W3_keep m ρ c main_v35 (by decide) (by decide +kernel)
/-- The content's biases reach the second call as prepared. -/
theorem v39_V3 : V3 m ρ c main_v39 = V1 m ρ c main_v39 := W3_keep m ρ c main_v39 (by decide) (by decide +kernel)

/-! ## The content's gate inputs -/

/-- The first call's rows are the embedded tokens 0 to 319. -/
theorem emb_lo (n : Fin 20480) (e : Fin 300) : fv S20480x300 (V1 m ρ c main_v11) (ix2 n e) = emb m c ⟨n.val / 64, by have := n.isLt; omega⟩ ⟨n.val % 64, Nat.mod_lt _ (by norm_num)⟩ e := by
  refine (v11_apply (W0 m ρ c) n e).trans ?_
  rw [v3_apply]
  rfl

/-- The second call's rows are the embedded tokens 320 to 639. -/
theorem emb_hi (n : Fin 20480) (e : Fin 300) : fv S20480x300 (V3 m ρ c main_v19) (ix2 n e) = emb m c ⟨320 + n.val / 64, by have := n.isLt; omega⟩ ⟨n.val % 64, Nat.mod_lt _ (by norm_num)⟩ e := by
  refine (congrFun (W3_keep m ρ c main_v19 (by decide) (by decide +kernel)) _).trans ((v19_apply (W0 m ρ c) n e).trans ?_)
  rw [v3_apply]
  refine congrArg₂ (fun t b => emb m c t b e) (Fin.ext ?_) (Fin.ext ?_)
  · show (20480 + n.val) / 64 = 320 + n.val / 64; omega
  · show (20480 + n.val) % 64 = n.val % 64; omega

/-- The copies between the first two calls. -/
theorem copy0 (W : Valuation τ sig (Elt Ideal)) : bv S640x64x1024 (after hostOps1 W (Proc.devRef .tc main_v54_0)) = bv S640x64x1024 (W (Proc.devRef .tc main_v53_0)) := by
  after_results_simp_entrywise
  rfl
/-- The copy of the backward array. -/
theorem copy1 (W : Valuation τ sig (Elt Ideal)) : bv S640x64x1024 (after hostOps1 W (Proc.devRef .tc main_v54_1)) = bv S640x64x1024 (W (Proc.devRef .tc main_v53_1)) := by
  after_results_simp_entrywise
  rfl

/-- Both directions' gate inputs, after the second call. -/
theorem gateF : bv S640x64x1024 (W4 m ρ c (Proc.devRef .tc main_v54_0)) = projOf (emb m c) (V1 m ρ c main_v35) (V1 m ρ c main_v39) 0 := by
  refine (W4_arr m ρ c 3).trans ((arr1_3 (V3 m ρ) c (emb m c) (emb_hi m ρ c) fun i hi => ?_).trans (by rw [v35_V3, v39_V3]))
  refine (congrFun (copy0 (W2 m ρ c)) i).trans ((congrFun ((W2_arr m ρ c 3).trans (arr0_3 (V1 m ρ) c (emb m c) (emb_lo m ρ c))) i).trans ?_)
  rw [v35_V3, v39_V3]
  exact if_pos (by omega)
/-- The backward gate inputs. -/
theorem gateB : bv S640x64x1024 (W4 m ρ c (Proc.devRef .tc main_v54_1)) = projOf (emb m c) (V1 m ρ c main_v35) (V1 m ρ c main_v39) 1 := by
  refine (W4_arr m ρ c 4).trans ((arr1_4 (V3 m ρ) c (emb m c) (emb_hi m ρ c) fun i hi => ?_).trans (by rw [v35_V3, v39_V3]))
  refine (congrFun (copy1 (W2 m ρ c)) i).trans ((congrFun ((W2_arr m ρ c 4).trans (arr0_4 (V1 m ρ) c (emb m c) (emb_lo m ρ c))) i).trans ?_)
  rw [v35_V3, v39_V3]
  exact if_pos (by omega)

/-- Entry by entry, off the weights. -/
theorem projF (t : Fin 640) (h : t.val < 637) (b : Fin 64) : (fun g => bv S640x64x1024 (V7 m ρ c main_v54_0) (ix3 t b g)) = Spec.inputs (inp m c).table (inp m c).cf ((inp m c).content b) ⟨t.val, h⟩ := by
  funext g
  refine (congrFun ((W7_keep m ρ c main_v54_0 (by decide) (by decide) (by decide +kernel)).trans (gateF m ρ c)) _).trans ?_
  unfold projOf Spec.inputs
  rw [← emb_of_lt m c t h b]
  refine congrArg₂ (fun w β => Spec.pre (emb m c t b) w β g) (funext fun g => funext fun e => ?_) (funext fun g => ?_)
  · exact v35_0 (W0 m ρ c) e g
  · exact v39_0 (W0 m ρ c) g
/-- The backward gate inputs of a content token. -/
theorem projB (t : Fin 640) (h : t.val < 637) (b : Fin 64) : (fun g => bv S640x64x1024 (V7 m ρ c main_v54_1) (ix3 t b g)) = Spec.inputs (inp m c).table (inp m c).cb ((inp m c).content b) ⟨t.val, h⟩ := by
  funext g
  refine (congrFun ((W7_keep m ρ c main_v54_1 (by decide) (by decide) (by decide +kernel)).trans (gateB m ρ c)) _).trans ?_
  unfold projOf Spec.inputs
  rw [← emb_of_lt m c t h b]
  refine congrArg₂ (fun w β => Spec.pre (emb m c t b) w β g) (funext fun g => funext fun e => ?_) (funext fun g => ?_)
  · exact v35_1 (W0 m ρ c) e g
  · exact v39_1 (W0 m ρ c) g

/-- The content's recurrent weights. -/
theorem v50_V7 : V7 m ρ c main_v50 = V1 m ρ c main_v50 := (W7_keep m ρ c main_v50 (by decide) (by decide) (by decide +kernel)).trans (W4_keep m ρ c main_v50 (by decide) (by decide +kernel) (by decide +kernel))
/-- The forward ones are the argument's. -/
theorem uF : uOf (V7 m ρ) c 0 = (inp m c).cf.whh := by
  funext g j
  exact (congrFun (v50_V7 m ρ c) (ix3 0 j g)).trans (v50_0 (W0 m ρ c) j g)
/-- The backward ones are the argument's. -/
theorem uB : uOf (V7 m ρ) c 1 = (inp m c).cb.whh := by
  funext g j
  exact (congrFun (v50_V7 m ρ c) (ix3 1 j g)).trans (v50_1 (W0 m ρ c) j g)

/-- The content's forward states. -/
theorem stF (b : Fin 64) (t : Fin 637) : (Spec.run (pF (V7 m ρ) c b) (uOf (V7 m ρ) c 0) (t.val + 1)).1 = Spec.fwd (inp m c).table (inp m c).cf ((inp m c).content b) t := by
  unfold Spec.fwd
  rw [uF]
  refine congrArg Prod.fst (Spec.run_congr _ fun k hk => ?_)
  have hk' : k < 637 := by omega
  unfold pF
  rw [Spec.seq_of_lt _ (by omega), Spec.seq_of_lt _ hk']
  exact projF m ρ c ⟨k, by omega⟩ hk' b
/-- The content's backward states: the first three trips are the padding's. -/
theorem stB (b : Fin 64) (t : Fin 637) : (late (pB (V7 m ρ) c b) (uOf (V7 m ρ) c 1) (640 - t.val)).1 = Spec.bwd (inp m c).table (inp m c).cb ((inp m c).content b) t := by
  unfold Spec.bwd
  rw [uB, show 640 - t.val = 637 - t.val + 3 by have := t.isLt; omega, late_eq]
  refine congrArg Prod.fst (Spec.run_congr _ fun k hk => ?_)
  have hk' : k < 637 := by omega
  unfold pB
  rw [Spec.seq_of_lt _ (by omega), Spec.seq_of_lt _ hk']
  refine (projB m ρ c (Fin.rev ⟨k + 3, by omega⟩) (by rw [Fin.val_rev]; show 640 - (k + 3 + 1) < 637; omega) b).trans (congrArg _ (Fin.ext ?_))
  show 640 - (k + 3 + 1) = 637 - (k + 1)
  omega

/-! ## The title's query -/

/-- The title call's row `64 t + b` is example `b`'s embedded token `t`. -/
theorem title_x (b : Fin 64) (t : Fin 24) (h : t.val * 64 + b.val < 1536) : (fun e : Fin 300 => (fv S1536x300 (V5 m ρ c main_v28) (ix2 ⟨t.val * 64 + b.val, h⟩ e) : EReal)) = (inp m c).table (Spec.rowOf ((inp m c).title b t)) := by
  funext e
  refine (congrFun ((W5_of m ρ c main_v28 (by decide)).trans (W4_keep m ρ c main_v28 (by decide) (by decide +kernel) (by decide +kernel))) _).trans ((v28_apply (W0 m ρ c) _ e).trans ?_)
  refine congrArg₂ (fun b t => (inp m c).table (Spec.rowOf ((inp m c).title b t)) e) (Fin.ext ?_) (Fin.ext ?_)
  · show (t.val * 64 + b.val) % 64 = _; have := b.isLt; omega
  · show (t.val * 64 + b.val) / 64 = _; have := b.isLt; omega

/-- The title's input weights reach its call as prepared. -/
theorem v42_V5 : V5 m ρ c main_v42 = V1 m ρ c main_v42 := (W5_of m ρ c main_v42 (by decide)).trans (W4_keep m ρ c main_v42 (by decide) (by decide +kernel) (by decide +kernel))
/-- The title's biases reach its call as prepared. -/
theorem v44_V5 : V5 m ρ c main_v44 = V1 m ρ c main_v44 := (W5_of m ρ c main_v44 (by decide)).trans (W4_keep m ρ c main_v44 (by decide) (by decide +kernel) (by decide +kernel))
/-- The title's forward recurrent weights at its call. -/
theorem uTF : (fun (g : Fin 1024) (j : Fin 256) => (fv S256x1024 (V5 m ρ c main_v55) (ix2 j g) : EReal)) = (inp m c).tf.whh := by
  funext g j
  exact (v55_apply (W4 m ρ c) j g).trans (congrFun (W4_args m ρ c main_arg4 (by decide)) _)
/-- The title's backward recurrent weights at its call. -/
theorem uTB : (fun (g : Fin 1024) (j : Fin 256) => (fv S256x1024 (V5 m ρ c main_v56) (ix2 j g) : EReal)) = (inp m c).tb.whh := by
  funext g j
  exact (v56_apply (W4 m ρ c) j g).trans (congrFun (W4_args m ρ c main_arg7 (by decide)) _)

/-- The title call leaves the attention's query. -/
theorem query_apply (b : Fin 64) (k : Fin 512) : fv S64x512 (W6 m ρ c (Proc.devRef .tc main_v57)) (ix2 b k) = Spec.query (inp m c) b k := by
  refine (congrFun ((W6_arr m ρ c 6).trans (arr2_6 (V5 m ρ) c)) _).trans ((out2_6_apply _ _ _ _ _ _ b k).trans ?_)
  unfold Spec.query Spec.titleSt
  refine Finset.sum_congr rfl fun j _ => congrArg₂ (· * ·) (congrFun (W5_args m ρ c main_arg15 (by decide)) _) ?_
  refine congrArg₂ (fun f g => Spec.both f g j) ?_ ?_
  · unfold Spec.fwd
    refine congrArg Prod.fst ?_
    refine congrArg₂ (fun f u => Spec.run (Spec.seq f) u 24) (funext fun t => ?_) (uTF m ρ c)
    unfold Spec.inputs
    rw [← title_x m ρ c b t (by have := b.isLt; have := t.isLt; omega)]
    refine congrArg₂ (fun w β => Spec.pre _ w β) (funext fun g => funext fun e => ?_) (funext fun g => ?_)
    · exact (congrFun (v42_V5 m ρ c) _).trans (v42_0 (W0 m ρ c) e g)
    · exact (congrFun (v44_V5 m ρ c) _).trans (v44_0 (W0 m ρ c) g)
  · unfold Spec.bwd
    refine congrArg Prod.fst ?_
    show _ = Spec.step (Spec.seq _ 0) _ (fun _ => 0, fun _ => 0)
    rw [Spec.seq_of_lt _ (by decide)]
    refine congrArg₂ (fun p u => Spec.step p u (fun _ => 0, fun _ => 0)) ?_ (uTB m ρ c)
    show _ = Spec.inputs _ _ _ (23 : Fin 24)
    unfold Spec.inputs
    rw [← title_x m ρ c b 23 (by have := b.isLt; show 23 * 64 + b.val < 1536; omega)]
    refine congrArg₂ (fun w β => Spec.pre _ w β) (funext fun g => funext fun e => ?_) (funext fun g => ?_)
    · exact (congrFun (v42_V5 m ρ c) _).trans (v42_1 (W0 m ρ c) e g)
    · exact (congrFun (v44_V5 m ρ c) _).trans (v44_1 (W0 m ρ c) g)

/-! ## The scores and the result -/

/-- The first 256 of two halves side by side. -/
theorem halfF (f g : Fin 256 → EReal) (j : Fin 256) (h : j.val < 512) : Spec.both f g ⟨j.val, h⟩ = f j := dif_pos j.isLt
/-- The last 256 of two halves side by side. -/
theorem halfB (f g : Fin 256 → EReal) (j : Fin 256) (h : 256 + j.val < 512) : Spec.both f g ⟨256 + j.val, h⟩ = g j :=
  (dif_neg (show ¬ 256 + j.val < 256 by omega)).trans (congrArg g (Fin.ext (show 256 + j.val - 256 = j.val by omega)))

/-- The two parts of the scores that the scan leaves add up to the score. -/
theorem score_apply (b : Fin 64) (t : Fin 637) : (fv S640x1x64 (V9 m ρ c main_v63_0) (ix3 ⟨t.val, by omega⟩ 0 b) : EReal) + (fv S640x1x64 (V9 m ρ c main_v63_1) (ix3 ⟨t.val, by omega⟩ 0 b) : EReal) = Spec.score (inp m c) b t := by
  unfold Spec.score
  refine Eq.trans ?_ (Fin.sum_univ_two_halves 256 256 rfl _).symm
  refine congrArg₂ (fun a b : EReal => a + b) ?_ ?_
  · refine Eq.trans (α := EReal) (congrFun ((W9_of m ρ c main_v63_0 (by decide)).trans ((W8_arr m ρ c 4).trans (arr3_4 (V7 m ρ) c))) _) ?_
    unfold sfOf
    refine Finset.sum_congr rfl fun j _ => congrArg₂ (fun a b : EReal => a * b) ?_ ((v62_0 (W6 m ρ c) b j).trans (query_apply m ρ c b _))
    exact (congrFun (stF m ρ c b t) j).trans (halfF _ _ j _).symm
  · refine Eq.trans (α := EReal) (congrFun ((W9_of m ρ c main_v63_1 (by decide)).trans ((W8_arr m ρ c 5).trans (arr3_5 (V7 m ρ) c))) _) ?_
    unfold sbOf
    refine Finset.sum_congr rfl fun j _ => congrArg₂ (fun a b : EReal => a * b) ?_ ((v62_1 (W6 m ρ c) b j).trans (query_apply m ρ c b _))
    exact (congrFun (stB m ρ c b t) j).trans (halfB _ _ j _).symm

/-- The padded class weights reach the last call as prepared. -/
theorem v52_V9 : V9 m ρ c main_v52 = V1 m ρ c main_v52 :=
  (W9_of m ρ c main_v52 (by decide)).trans ((W8_of m ρ c main_v52 (by decide +kernel)).trans
    ((W7_keep m ρ c main_v52 (by decide) (by decide) (by decide +kernel)).trans (W4_keep m ρ c main_v52 (by decide) (by decide +kernel) (by decide +kernel))))

/-- THE KERNEL'S RESULT is the classifier's. -/
theorem result_apply (b : Fin 64) (o : Fin 5) : fv S64x5 (W10 m ρ c (Proc.devRef .tc main_v65)) (ix2 b o) = Spec.result (inp m c) b o := by
  refine (congrFun ((W10_arr m ρ c 4).trans (arr4_4 (V9 m ρ) c)) _).trans ?_
  refine (out4_4_eq _ _ _ _ (Spec.score (inp m c) b) (inp m c).fcw b o (score_apply m ρ c b)
    fun o t => (congrFun (v52_V9 m ρ c) _).trans (v52_apply (W0 m ρ c) o t)).trans ?_
  refine congrArg (fun L => Spec.logSoftmax L o) (funext fun o => congrArg (fun z : EReal => _ + z) ?_)
  exact (v64_apply (W8 m ρ c) o).trans (congrFun (W8_args m ρ c main_arg17 (by decide)) _)

end Cert.KernelIdeal.K

end
-- ==== Proof.ReferenceIdeal.Loops.lean ====
/- What the reference's loops compute, read element by element over the extended reals: each loop runs the LSTM cell of
   `Spec` over the rows of its gate inputs, front to back or back to front, and records the hidden states. -/
module

public import proofs.«01_k».proof.Proof.ReferenceIdeal.Run
public import proofs.«01_k».proof.Proof.Spec
public import Idealize.ShloMosaic.Lib.StableHlo.RunClose
public import Idealize.ShloMosaic.Lib.DynamicIndex
public import Idealize.ShloMosaic.Lib.Pipeline.Value
public import Idealize.ShloMosaic.Lib.IdealHost

@[expose] public section

set_option maxRecDepth 16384

noncomputable section

namespace Cert.ReferenceIdeal.K

open Cert.ReferenceIdeal Cert.ReferenceIdeal.Gen
open Idealize.ShloMosaic Idealize.ShloMosaic.TcCoe Idealize.ShloMosaic.Tactic Idealize.ShloMosaic.StableHlo

variable (m : (ℓ : Loc nD τ sig) → Buf (Elt Ideal) ℓ)

/-- A buffer's contents taken as an array of numbers of shape `S`. -/
abbrev fv (S : Shape) (x : FVec Ideal S .f32) : FVec Ideal S .f32 := x
/-- A buffer's contents taken as an array of 32-bit words of shape `S`. -/
abbrev wv (S : Shape) (x : IVec S 32) : IVec S 32 := x

/-- The counter at step `k`, read signed. -/
theorem iv_toInt (k : ℕ) (hk : k < 2 ^ 31) : (Scf.iv 0#32 1#32 k).toInt = k := by
  rw [show Scf.iv 0#32 1#32 k = BitVec.ofNat 32 k from by simp [Scf.iv]]
  exact toInt_ofNat_of_lt hk

/-- The index a back-to-front loop takes at step `k` of `T`, read signed. -/
theorem rev_toInt (T k : ℕ) (hk : k < T) (hT : T < 2 ^ 31) : (BitVec.ofNat 32 T - Scf.iv 0#32 1#32 k - 1#32).toInt = ((T - 1 - k : ℕ) : Int) := by
  rw [show BitVec.ofNat 32 T - Scf.iv 0#32 1#32 k - 1#32 = BitVec.ofNat 32 (T - 1 - k) from by
    rw [show Scf.iv 0#32 1#32 k = BitVec.ofNat 32 k from by simp [Scf.iv]]
    apply BitVec.eq_of_toNat_eq
    simp only [BitVec.toNat_sub, BitVec.toNat_ofNat]
    omega]
  exact toInt_ofNat_of_lt (by omega)

/-- One row of an array of gate inputs, cut at a computed row number that is in range. -/
theorem row_cut24 (x : FVec Ideal S24x64x1024 .f32) (i : Fin 3 → IVec S_ 32) (n : Fin 24) (h0 : (i 0 (Shape.Idx.first h_S_)).toInt = n.val)
    (h1 : (i 1 (Shape.Idx.first h_S_)).toInt = 0) (h2 : (i 2 (Shape.Idx.first h_S_)).toInt = 0) :
    Host.dynamicSlice S1x64x1024 x (fun k => (i k (Shape.Idx.first h_S_)).toInt) sliceFits_S24x64x1024_S1x64x1024
      = extractStridedSlice S1x64x1024 ![n.val, 0, 0] x ⟨rfl, by intro a; have := n.isLt; fin_cases a <;> simp <;> omega⟩ :=
  Host.dynamicSlice_eq_extractStridedSlice _ _ _ _ _ _ (by
    intro a
    fin_cases a
    · exact h0
    · exact h1
    · exact h2)

/-- One row of a record of states replaced, at a computed row number that is in range. -/
theorem row_put24 (x : FVec Ideal S24x64x256 .f32) (u : FVec Ideal S1x64x256 .f32) (i : Fin 3 → IVec S_ 32) (n : Fin 24) (h0 : (i 0 (Shape.Idx.first h_S_)).toInt = n.val)
    (h1 : (i 1 (Shape.Idx.first h_S_)).toInt = 0) (h2 : (i 2 (Shape.Idx.first h_S_)).toInt = 0) (t : Fin 24) (b : Fin 64) (j : Fin 256) :
    Host.dynamicUpdateSlice x u (fun k => (i k (Shape.Idx.first h_S_)).toInt) updateFits_S24x64x256_S1x64x256 (ix3 t b j)
      = if t = n then u (ix3 (n0 := 1) 0 b j) else x (ix3 t b j) := by
  rw [Host.dynamicUpdateSlice_eq_updateSlice x u _ updateFits_S24x64x256_S1x64x256 ![n.val, 0, 0] (by
    intro a; have := n.isLt
    fin_cases a
    · show (min (max (i 0 (Shape.Idx.first h_S_)).toInt 0) (((24 - 1 : Nat)) : Int)).toNat = n.val
      rw [h0]; omega
    · show (min (max (i 1 (Shape.Idx.first h_S_)).toInt 0) _).toNat = 0
      rw [h1]; rfl
    · show (min (max (i 2 (Shape.Idx.first h_S_)).toInt 0) _).toNat = 0
      rw [h2]; rfl) ⟨rfl, by intro a; have := n.isLt; fin_cases a <;> simp <;> omega⟩]
  pointwise
  by_cases h : t = n
  · rw [if_pos h, dif_pos (by subst h; omega)]
    exact congrArg (fun r => u (ix3 r b j)) (Subsingleton.elim _ _)
  · rw [if_neg h, dif_neg (by intro h'; exact h (Fin.ext (by omega)))]

/-- One row of an array of gate inputs, cut at a computed row number that is in range. -/
theorem row_cut637 (x : FVec Ideal S637x64x1024 .f32) (i : Fin 3 → IVec S_ 32) (n : Fin 637) (h0 : (i 0 (Shape.Idx.first h_S_)).toInt = n.val)
    (h1 : (i 1 (Shape.Idx.first h_S_)).toInt = 0) (h2 : (i 2 (Shape.Idx.first h_S_)).toInt = 0) :
    Host.dynamicSlice S1x64x1024 x (fun k => (i k (Shape.Idx.first h_S_)).toInt) sliceFits_S637x64x1024_S1x64x1024
      = extractStridedSlice S1x64x1024 ![n.val, 0, 0] x ⟨rfl, by intro a; have := n.isLt; fin_cases a <;> simp <;> omega⟩ :=
  Host.dynamicSlice_eq_extractStridedSlice _ _ _ _ _ _ (by
    intro a
    fin_cases a
    · exact h0
    · exact h1
    · exact h2)

/-- One row of a record of states replaced, at a computed row number that is in range. -/
theorem row_put637 (x : FVec Ideal S637x64x256 .f32) (u : FVec Ideal S1x64x256 .f32) (i : Fin 3 → IVec S_ 32) (n : Fin 637) (h0 : (i 0 (Shape.Idx.first h_S_)).toInt = n.val)
    (h1 : (i 1 (Shape.Idx.first h_S_)).toInt = 0) (h2 : (i 2 (Shape.Idx.first h_S_)).toInt = 0) (t : Fin 637) (b : Fin 64) (j : Fin 256) :
    Host.dynamicUpdateSlice x u (fun k => (i k (Shape.Idx.first h_S_)).toInt) updateFits_S637x64x256_S1x64x256 (ix3 t b j)
      = if t = n then u (ix3 (n0 := 1) 0 b j) else x (ix3 t b j) := by
  rw [Host.dynamicUpdateSlice_eq_updateSlice x u _ updateFits_S637x64x256_S1x64x256 ![n.val, 0, 0] (by
    intro a; have := n.isLt
    fin_cases a
    · show (min (max (i 0 (Shape.Idx.first h_S_)).toInt 0) (((637 - 1 : Nat)) : Int)).toNat = n.val
      rw [h0]; omega
    · show (min (max (i 1 (Shape.Idx.first h_S_)).toInt 0) _).toNat = 0
      rw [h1]; rfl
    · show (min (max (i 2 (Shape.Idx.first h_S_)).toInt 0) _).toNat = 0
      rw [h2]; rfl) ⟨rfl, by intro a; have := n.isLt; fin_cases a <;> simp <;> omega⟩]
  pointwise
  by_cases h : t = n
  · rw [if_pos h, dif_pos (by subst h; omega)]
    exact congrArg (fun r => u (ix3 r b j)) (Subsingleton.elim _ _)
  · rw [if_neg h, dif_neg (by intro h'; exact h (Fin.ext (by omega)))]

/-! ## Loop 0 -/

/-- The gates of step `k` of loop 0. -/
theorem gates0 (W : Valuation τ sig (Elt Ideal)) (k : Fin 24) (hc : W (Proc.devRef .tc main_v21_2) = fun _ => Scf.iv 0#32 1#32 k.val) (b : Fin 64) (g : Fin 1024) :
    fv S64x1024 (after body0a W (Proc.devRef .tc main_while0b_v76)) (ix2 b g)
      = Spec.gates (fun g => fv S24x64x1024 (W (Proc.devRef .tc main_v21_0)) (ix3 k b g)) (fun g j => fv S1024x256 (W (Proc.devRef .tc main_v21_1)) (ix2 g j))
          (fun j => fv S64x256 (W (Proc.devRef .tc main_v21_3)) (ix2 b j)) g := by
  have hs := row_cut24 (fv S24x64x1024 (W (Proc.devRef .tc main_v21_0))) (![(wv S_ (W (Proc.devRef .tc main_v21_2))), constantI S_ 32 0#32, constantI S_ 32 0#32] : Fin 3 → IVec S_ 32) k (by
    have := k.isLt
    show (wv S_ (W (Proc.devRef .tc main_v21_2)) _).toInt = _
    rw [hc]
    exact iv_toInt k.val (by omega)) rfl rfl
  rw [show fv S64x1024 (after body0a W (Proc.devRef .tc main_while0b_v76)) = addf (shapeCast S64x1024 _ shapeCasts_S1x64x1024_S64x1024)
      (Host.dotGeneral dot_S64x256_S256x1024_S64x1024_1_0_0_1_n_n none (fv S64x256 (W (Proc.devRef .tc main_v21_3)))
        (transpose S256x1024 [1, 0] (fv S1024x256 (W (Proc.devRef .tc main_v21_1))) transposes_S1024x256_S256x1024_1_0)) from by
    after_results_simp_entrywise; exact congrArg (fun z => addf (shapeCast S64x1024 z shapeCasts_S1x64x1024_S64x1024) _) hs]
  pointwise [Spec.gates]
  done

/-- The new cell state of loop 0. -/
theorem newC0 (W : Valuation τ sig (Elt Ideal)) (b : Fin 64) (j : Fin 256) :
    fv S64x256 (after body0b W (Proc.devRef .tc main_while0b_v96)) (ix2 b j)
      = Spec.newC (fun g => fv S64x1024 (W (Proc.devRef .tc main_while0b_v76)) (ix2 b g)) (fun j => fv S64x256 (W (Proc.devRef .tc main_v21_4)) (ix2 b j)) j := by
  after_results_simp
  pointwise [Spec.newC, Ideal.logistic, Ideal.ofBits_one_f32]
  done

/-- The new hidden state of loop 0. -/
theorem newH0 (W : Valuation τ sig (Elt Ideal)) (b : Fin 64) (j : Fin 256) :
    fv S64x256 (after body0b W (Proc.devRef .tc main_while0b_v104)) (ix2 b j)
      = Spec.newH (fun g => fv S64x1024 (W (Proc.devRef .tc main_while0b_v76)) (ix2 b g)) (fun j => fv S64x256 (W (Proc.devRef .tc main_v21_4)) (ix2 b j)) j := by
  after_results_simp
  pointwise [Spec.newH, Spec.newC, Ideal.logistic, Ideal.ofBits_one_f32]
  done

/-- The record of loop 0, one row replaced. -/
theorem put0 (W : Valuation τ sig (Elt Ideal)) (n : Fin 24) (hn : (wv S_ (W (Proc.devRef .tc main_v21_2)) (Shape.Idx.first h_S_)).toInt = n.val) (t : Fin 24) (b : Fin 64) (j : Fin 256) :
    fv S24x64x256 (after body0c W (Proc.devRef .tc main_v21_5)) (ix3 t b j)
      = if t = n then fv S64x256 (W (Proc.devRef .tc main_while0b_v104)) (ix2 b j) else fv S24x64x256 (W (Proc.devRef .tc main_v21_5)) (ix3 t b j) := by
  have hs := row_put24 (fv S24x64x256 (W (Proc.devRef .tc main_v21_5))) (broadcastInDim S1x64x256 ![1, 2] bcast_S64x256_S1x64x256_1_2 (fv S64x256 (W (Proc.devRef .tc main_while0b_v104))))
    (![(wv S_ (W (Proc.devRef .tc main_v21_2))), constantI S_ 32 0#32, constantI S_ 32 0#32] : Fin 3 → IVec S_ 32) n hn rfl rfl t b j
  rw [show fv S24x64x256 (after body0c W (Proc.devRef .tc main_v21_5)) = Host.dynamicUpdateSlice _ _ _ updateFits_S24x64x256_S1x64x256 from by after_results_simp_entrywise; rfl]
  refine hs.trans ?_
  pointwise
  done

/-- Loop 0's new hidden state. -/
theorem nextH0 (W : Valuation τ sig (Elt Ideal)) : after body0c W (Proc.devRef .tc main_v21_3) = W (Proc.devRef .tc main_while0b_v104) := by
  after_results_simp_entrywise
  rfl
/-- Loop 0's new cell state. -/
theorem nextC0 (W : Valuation τ sig (Elt Ideal)) : after body0c W (Proc.devRef .tc main_v21_4) = W (Proc.devRef .tc main_while0b_v96) := by
  after_results_simp_entrywise
  rfl

/-- The states carried by loop 0 before step `k`, for batch element `b`. -/
def st0 (c : Dev nD) (b : Fin 64) (k : ℕ) : Spec.St :=
  (fun j => fv S64x256 (T0 m k c (Proc.devRef .tc main_v21_3)) (ix2 b j), fun j => fv S64x256 (T0 m k c (Proc.devRef .tc main_v21_4)) (ix2 b j))
/-- The gate inputs and the recurrent weights of loop 0. -/
def xs0 (c : Dev nD) (b : Fin 64) (t : Fin 24) (g : Fin 1024) : EReal := fv S24x64x1024 (E0 m c (Proc.devRef .tc main_v21_0)) (ix3 t b g)
/-- Loop 0's recurrent weights. -/
def us0 (c : Dev nD) (g : Fin 1024) (j : Fin 256) : EReal := fv S1024x256 (E0 m c (Proc.devRef .tc main_v21_1)) (ix2 g j)

/-- One step of loop 0: the cell's step, and the new hidden state recorded. -/
theorem step0 (c : Dev nD) (b : Fin 64) (k : ℕ) (hk : k < 24) :
    st0 m c b (k + 1) = Spec.step (xs0 m c b ⟨k, hk⟩) (us0 m c) (st0 m c b k)
    ∧ ∀ t : Fin 24, (fun j => fv S24x64x256 (T0 m (k + 1) c (Proc.devRef .tc main_v21_5)) (ix3 t b j))
        = if t = ⟨k, hk⟩ then (st0 m c b (k + 1)).1 else fun j => fv S24x64x256 (T0 m k c (Proc.devRef .tc main_v21_5)) (ix3 t b j) := by
  set V := after cond0 (T0 m k c) with hV
  have hT : T0 m (k + 1) c = after body0c (after body0b (after body0a V)) := rfl
  have r0 : V (Proc.devRef .tc main_v21_0) = E0 m c (Proc.devRef .tc main_v21_0) := (after_of_writes_sub cond0 _ cond0_writes (by decide)).trans (T0_of m c _ (by decide) (by decide) (by decide) (by decide) k)
  have r1 : V (Proc.devRef .tc main_v21_1) = E0 m c (Proc.devRef .tc main_v21_1) := (after_of_writes_sub cond0 _ cond0_writes (by decide)).trans (T0_of m c _ (by decide) (by decide) (by decide) (by decide) k)
  have r2 : V (Proc.devRef .tc main_v21_2) = fun _ => Scf.iv 0#32 1#32 k := (ctr0_cond _).trans (ctr0 m c k)
  have r3 : V (Proc.devRef .tc main_v21_3) = T0 m k c (Proc.devRef .tc main_v21_3) := after_of_writes_sub cond0 _ cond0_writes (by decide)
  have r4 : V (Proc.devRef .tc main_v21_4) = T0 m k c (Proc.devRef .tc main_v21_4) := after_of_writes_sub cond0 _ cond0_writes (by decide)
  have r5 : V (Proc.devRef .tc main_v21_5) = T0 m k c (Proc.devRef .tc main_v21_5) := after_of_writes_sub cond0 _ cond0_writes (by decide)
  have a4 : after body0a V (Proc.devRef .tc main_v21_4) = T0 m k c (Proc.devRef .tc main_v21_4) := (after_of_writes_sub body0a _ body0a_writes (by decide)).trans r4
  have hg : (fun g => fv S64x1024 (after body0a V (Proc.devRef .tc main_while0b_v76)) (ix2 b g)) = Spec.gates (xs0 m c b ⟨k, hk⟩) (us0 m c) (st0 m c b k).1 := by
    funext g; rw [gates0 V ⟨k, hk⟩ r2 b g, r0, r1, r3]; rfl
  have hh : (fun j => fv S64x256 (after body0b (after body0a V) (Proc.devRef .tc main_while0b_v104)) (ix2 b j)) = Spec.newH (Spec.gates (xs0 m c b ⟨k, hk⟩) (us0 m c) (st0 m c b k).1) (st0 m c b k).2 := by
    funext j; rw [newH0, hg, a4]; rfl
  have hst : st0 m c b (k + 1) = Spec.step (xs0 m c b ⟨k, hk⟩) (us0 m c) (st0 m c b k) := by
    unfold st0 Spec.step
    rw [hT, nextH0, nextC0]
    refine Prod.ext hh (funext fun j => ?_)
    refine (newC0 _ b j).trans ?_
    rw [hg, a4]; rfl
  refine ⟨hst, fun t => ?_⟩
  have hn : (wv S_ (after body0b (after body0a V) (Proc.devRef .tc main_v21_2)) (Shape.Idx.first h_S_)).toInt = ((⟨k, hk⟩ : Fin 24)).val := by
    rw [after_of_writes_sub body0b _ body0b_writes (by decide)]
    rw [ctr0_a, r2]
    exact iv_toInt k (by omega)
  have b5 : after body0b (after body0a V) (Proc.devRef .tc main_v21_5) = T0 m k c (Proc.devRef .tc main_v21_5) :=
    (after_of_writes_sub body0b _ body0b_writes (by decide)).trans ((after_of_writes_sub body0a _ body0a_writes (by decide)).trans r5)
  rw [hst]
  funext j
  rw [hT, put0 _ _ hn t b j, b5]
  split
  · exact congrFun hh j
  · rfl

/-- What loop 0 leaves recorded, where it was entered with zero states. -/
theorem rec0 (c : Dev nD) (b : Fin 64) (h3 : ∀ j, fv S64x256 (E0 m c (Proc.devRef .tc main_v21_3)) (ix2 b j) = 0) (h4 : ∀ j, fv S64x256 (E0 m c (Proc.devRef .tc main_v21_4)) (ix2 b j) = 0) (t : Fin 24) (j : Fin 256) :
    fv S24x64x256 (X0 m c (Proc.devRef .tc main_v21_5)) (ix3 t b j) = (Spec.run (Spec.seq fun t => xs0 m c b t) (us0 m c) (t.val + 1)).1 j := by
  have hx : X0 m c (Proc.devRef .tc main_v21_5) = T0 m 24 c (Proc.devRef .tc main_v21_5) := after_of_writes_sub cond0 _ cond0_writes (by decide)
  have hr := Spec.run_unique (T := 24) (f := fun t => xs0 m c b t) (u := us0 m c) (st := st0 m c b)
    (Prod.ext (funext h3) (funext h4)) (fun k hk => (step0 m c b k hk).1)
  have hy := Spec.record_fwd (T := 24) (ys := fun k t j => fv S24x64x256 (T0 m k c (Proc.devRef .tc main_v21_5)) (ix3 t b j)) (v := fun k => (st0 m c b k).1)
    (fun k hk t => (step0 m c b k hk).2 t) 24 le_rfl t (by have := t.isLt; omega)
  rw [hx]
  exact (congrFun hy j).trans (by rw [hr _ (by have := t.isLt; omega)])

/-! ## Loop 1 -/

/-- The gates of step `k` of loop 1. -/
theorem gates1 (W : Valuation τ sig (Elt Ideal)) (k : Fin 24) (hc : W (Proc.devRef .tc main_v30_2) = fun _ => Scf.iv 0#32 1#32 k.val) (b : Fin 64) (g : Fin 1024) :
    fv S64x1024 (after body1a W (Proc.devRef .tc main_while1b_v78)) (ix2 b g)
      = Spec.gates (fun g => fv S24x64x1024 (W (Proc.devRef .tc main_v30_0)) (ix3 (Fin.rev k) b g)) (fun g j => fv S1024x256 (W (Proc.devRef .tc main_v30_1)) (ix2 g j))
          (fun j => fv S64x256 (W (Proc.devRef .tc main_v30_3)) (ix2 b j)) g := by
  have hs := row_cut24 (fv S24x64x1024 (W (Proc.devRef .tc main_v30_0))) (![(subi (subi (constantI S_ 32 24#32) (wv S_ (W (Proc.devRef .tc main_v30_2)))) (constantI S_ 32 1#32)), constantI S_ 32 0#32, constantI S_ 32 0#32] : Fin 3 → IVec S_ 32) (Fin.rev k) (by
    have := k.isLt
    show (BitVec.ofNat 32 24 - wv S_ (W (Proc.devRef .tc main_v30_2)) _ - 1#32).toInt = _
    rw [hc]
    exact (rev_toInt 24 k.val k.isLt (by omega)).trans (by rw [Fin.val_rev]; omega)) rfl rfl
  rw [show fv S64x1024 (after body1a W (Proc.devRef .tc main_while1b_v78)) = addf (shapeCast S64x1024 _ shapeCasts_S1x64x1024_S64x1024)
      (Host.dotGeneral dot_S64x256_S256x1024_S64x1024_1_0_0_1_n_n none (fv S64x256 (W (Proc.devRef .tc main_v30_3)))
        (transpose S256x1024 [1, 0] (fv S1024x256 (W (Proc.devRef .tc main_v30_1))) transposes_S1024x256_S256x1024_1_0)) from by
    after_results_simp_entrywise; exact congrArg (fun z => addf (shapeCast S64x1024 z shapeCasts_S1x64x1024_S64x1024) _) hs]
  pointwise [Spec.gates]
  done

/-- The row loop 1 takes at step `k`. -/
theorem idx1 (W : Valuation τ sig (Elt Ideal)) :
    wv S_ (after body1a W (Proc.devRef .tc main_while1b_v74)) = subi (subi (constantI S_ 32 24#32) (wv S_ (W (Proc.devRef .tc main_v30_2)))) (constantI S_ 32 1#32) := by
  after_results_simp_entrywise

/-- The new cell state of loop 1. -/
theorem newC1 (W : Valuation τ sig (Elt Ideal)) (b : Fin 64) (j : Fin 256) :
    fv S64x256 (after body1b W (Proc.devRef .tc main_while1b_v98)) (ix2 b j)
      = Spec.newC (fun g => fv S64x1024 (W (Proc.devRef .tc main_while1b_v78)) (ix2 b g)) (fun j => fv S64x256 (W (Proc.devRef .tc main_v30_4)) (ix2 b j)) j := by
  after_results_simp
  pointwise [Spec.newC, Ideal.logistic, Ideal.ofBits_one_f32]
  done

/-- The new hidden state of loop 1. -/
theorem newH1 (W : Valuation τ sig (Elt Ideal)) (b : Fin 64) (j : Fin 256) :
    fv S64x256 (after body1b W (Proc.devRef .tc main_while1b_v106)) (ix2 b j)
      = Spec.newH (fun g => fv S64x1024 (W (Proc.devRef .tc main_while1b_v78)) (ix2 b g)) (fun j => fv S64x256 (W (Proc.devRef .tc main_v30_4)) (ix2 b j)) j := by
  after_results_simp
  pointwise [Spec.newH, Spec.newC, Ideal.logistic, Ideal.ofBits_one_f32]
  done

/-- The record of loop 1, one row replaced. -/
theorem put1 (W : Valuation τ sig (Elt Ideal)) (n : Fin 24) (hn : (wv S_ (W (Proc.devRef .tc main_while1b_v74)) (Shape.Idx.first h_S_)).toInt = n.val) (t : Fin 24) (b : Fin 64) (j : Fin 256) :
    fv S24x64x256 (after body1c W (Proc.devRef .tc main_v30_5)) (ix3 t b j)
      = if t = n then fv S64x256 (W (Proc.devRef .tc main_while1b_v106)) (ix2 b j) else fv S24x64x256 (W (Proc.devRef .tc main_v30_5)) (ix3 t b j) := by
  have hs := row_put24 (fv S24x64x256 (W (Proc.devRef .tc main_v30_5))) (broadcastInDim S1x64x256 ![1, 2] bcast_S64x256_S1x64x256_1_2 (fv S64x256 (W (Proc.devRef .tc main_while1b_v106))))
    (![(wv S_ (W (Proc.devRef .tc main_while1b_v74))), constantI S_ 32 0#32, constantI S_ 32 0#32] : Fin 3 → IVec S_ 32) n hn rfl rfl t b j
  rw [show fv S24x64x256 (after body1c W (Proc.devRef .tc main_v30_5)) = Host.dynamicUpdateSlice _ _ _ updateFits_S24x64x256_S1x64x256 from by after_results_simp_entrywise; rfl]
  refine hs.trans ?_
  pointwise
  done

/-- Loop 1's new hidden state. -/
theorem nextH1 (W : Valuation τ sig (Elt Ideal)) : after body1c W (Proc.devRef .tc main_v30_3) = W (Proc.devRef .tc main_while1b_v106) := by
  after_results_simp_entrywise
  rfl
/-- Loop 1's new cell state. -/
theorem nextC1 (W : Valuation τ sig (Elt Ideal)) : after body1c W (Proc.devRef .tc main_v30_4) = W (Proc.devRef .tc main_while1b_v98) := by
  after_results_simp_entrywise
  rfl

/-- The states carried by loop 1 before step `k`, for batch element `b`. -/
def st1 (c : Dev nD) (b : Fin 64) (k : ℕ) : Spec.St :=
  (fun j => fv S64x256 (T1 m k c (Proc.devRef .tc main_v30_3)) (ix2 b j), fun j => fv S64x256 (T1 m k c (Proc.devRef .tc main_v30_4)) (ix2 b j))
/-- The gate inputs and the recurrent weights of loop 1. -/
def xs1 (c : Dev nD) (b : Fin 64) (t : Fin 24) (g : Fin 1024) : EReal := fv S24x64x1024 (E1 m c (Proc.devRef .tc main_v30_0)) (ix3 t b g)
/-- Loop 1's recurrent weights. -/
def us1 (c : Dev nD) (g : Fin 1024) (j : Fin 256) : EReal := fv S1024x256 (E1 m c (Proc.devRef .tc main_v30_1)) (ix2 g j)

/-- One step of loop 1: the cell's step, and the new hidden state recorded. -/
theorem step1 (c : Dev nD) (b : Fin 64) (k : ℕ) (hk : k < 24) :
    st1 m c b (k + 1) = Spec.step (xs1 m c b (Fin.rev ⟨k, hk⟩)) (us1 m c) (st1 m c b k)
    ∧ ∀ t : Fin 24, (fun j => fv S24x64x256 (T1 m (k + 1) c (Proc.devRef .tc main_v30_5)) (ix3 t b j))
        = if t = Fin.rev ⟨k, hk⟩ then (st1 m c b (k + 1)).1 else fun j => fv S24x64x256 (T1 m k c (Proc.devRef .tc main_v30_5)) (ix3 t b j) := by
  set V := after cond1 (T1 m k c) with hV
  have hT : T1 m (k + 1) c = after body1c (after body1b (after body1a V)) := rfl
  have r0 : V (Proc.devRef .tc main_v30_0) = E1 m c (Proc.devRef .tc main_v30_0) := (after_of_writes_sub cond1 _ cond1_writes (by decide)).trans (T1_of m c _ (by decide) (by decide) (by decide) (by decide) k)
  have r1 : V (Proc.devRef .tc main_v30_1) = E1 m c (Proc.devRef .tc main_v30_1) := (after_of_writes_sub cond1 _ cond1_writes (by decide)).trans (T1_of m c _ (by decide) (by decide) (by decide) (by decide) k)
  have r2 : V (Proc.devRef .tc main_v30_2) = fun _ => Scf.iv 0#32 1#32 k := (ctr1_cond _).trans (ctr1 m c k)
  have r3 : V (Proc.devRef .tc main_v30_3) = T1 m k c (Proc.devRef .tc main_v30_3) := after_of_writes_sub cond1 _ cond1_writes (by decide)
  have r4 : V (Proc.devRef .tc main_v30_4) = T1 m k c (Proc.devRef .tc main_v30_4) := after_of_writes_sub cond1 _ cond1_writes (by decide)
  have r5 : V (Proc.devRef .tc main_v30_5) = T1 m k c (Proc.devRef .tc main_v30_5) := after_of_writes_sub cond1 _ cond1_writes (by decide)
  have a4 : after body1a V (Proc.devRef .tc main_v30_4) = T1 m k c (Proc.devRef .tc main_v30_4) := (after_of_writes_sub body1a _ body1a_writes (by decide)).trans r4
  have hg : (fun g => fv S64x1024 (after body1a V (Proc.devRef .tc main_while1b_v78)) (ix2 b g)) = Spec.gates (xs1 m c b (Fin.rev ⟨k, hk⟩)) (us1 m c) (st1 m c b k).1 := by
    funext g; rw [gates1 V ⟨k, hk⟩ r2 b g, r0, r1, r3]; rfl
  have hh : (fun j => fv S64x256 (after body1b (after body1a V) (Proc.devRef .tc main_while1b_v106)) (ix2 b j)) = Spec.newH (Spec.gates (xs1 m c b (Fin.rev ⟨k, hk⟩)) (us1 m c) (st1 m c b k).1) (st1 m c b k).2 := by
    funext j; rw [newH1, hg, a4]; rfl
  have hst : st1 m c b (k + 1) = Spec.step (xs1 m c b (Fin.rev ⟨k, hk⟩)) (us1 m c) (st1 m c b k) := by
    unfold st1 Spec.step
    rw [hT, nextH1, nextC1]
    refine Prod.ext hh (funext fun j => ?_)
    refine (newC1 _ b j).trans ?_
    rw [hg, a4]; rfl
  refine ⟨hst, fun t => ?_⟩
  have hn : (wv S_ (after body1b (after body1a V) (Proc.devRef .tc main_while1b_v74)) (Shape.Idx.first h_S_)).toInt = (Fin.rev (⟨k, hk⟩ : Fin 24)).val := by
    rw [after_of_writes_sub body1b _ body1b_writes (by decide)]
    rw [idx1]
    show (BitVec.ofNat 32 24 - wv S_ (V (Proc.devRef .tc main_v30_2)) _ - 1#32).toInt = _
    rw [r2]
    exact (rev_toInt 24 k hk (by omega)).trans (by rw [Fin.val_rev]; show ((24 - 1 - k : ℕ) : Int) = ((24 - (k + 1) : ℕ) : Int); congr 1; omega)
  have b5 : after body1b (after body1a V) (Proc.devRef .tc main_v30_5) = T1 m k c (Proc.devRef .tc main_v30_5) :=
    (after_of_writes_sub body1b _ body1b_writes (by decide)).trans ((after_of_writes_sub body1a _ body1a_writes (by decide)).trans r5)
  rw [hst]
  funext j
  rw [hT, put1 _ _ hn t b j, b5]
  split
  · exact congrFun hh j
  · rfl

/-- What loop 1 leaves recorded, where it was entered with zero states. -/
theorem rec1 (c : Dev nD) (b : Fin 64) (h3 : ∀ j, fv S64x256 (E1 m c (Proc.devRef .tc main_v30_3)) (ix2 b j) = 0) (h4 : ∀ j, fv S64x256 (E1 m c (Proc.devRef .tc main_v30_4)) (ix2 b j) = 0) (t : Fin 24) (j : Fin 256) :
    fv S24x64x256 (X1 m c (Proc.devRef .tc main_v30_5)) (ix3 t b j) = (Spec.run (Spec.seq fun t => xs1 m c b (Fin.rev t)) (us1 m c) (24 - t.val)).1 j := by
  have hx : X1 m c (Proc.devRef .tc main_v30_5) = T1 m 24 c (Proc.devRef .tc main_v30_5) := after_of_writes_sub cond1 _ cond1_writes (by decide)
  have hr := Spec.run_unique (T := 24) (f := fun t => xs1 m c b (Fin.rev t)) (u := us1 m c) (st := st1 m c b)
    (Prod.ext (funext h3) (funext h4)) (fun k hk => (step1 m c b k hk).1)
  have hy := Spec.record_bwd (T := 24) (ys := fun k t j => fv S24x64x256 (T1 m k c (Proc.devRef .tc main_v30_5)) (ix3 t b j)) (v := fun k => (st1 m c b k).1)
    (fun k hk t => (step1 m c b k hk).2 t) 24 le_rfl t (by have := t.isLt; omega)
  rw [hx]
  exact (congrFun hy j).trans (by rw [hr _ (by have := t.isLt; omega)])

/-! ## Loop 2 -/

/-- The gates of step `k` of loop 2. -/
theorem gates2 (W : Valuation τ sig (Elt Ideal)) (k : Fin 637) (hc : W (Proc.devRef .tc main_v40_2) = fun _ => Scf.iv 0#32 1#32 k.val) (b : Fin 64) (g : Fin 1024) :
    fv S64x1024 (after body2a W (Proc.devRef .tc main_while2b_v76)) (ix2 b g)
      = Spec.gates (fun g => fv S637x64x1024 (W (Proc.devRef .tc main_v40_0)) (ix3 k b g)) (fun g j => fv S1024x256 (W (Proc.devRef .tc main_v40_1)) (ix2 g j))
          (fun j => fv S64x256 (W (Proc.devRef .tc main_v40_3)) (ix2 b j)) g := by
  have hs := row_cut637 (fv S637x64x1024 (W (Proc.devRef .tc main_v40_0))) (![(wv S_ (W (Proc.devRef .tc main_v40_2))), constantI S_ 32 0#32, constantI S_ 32 0#32] : Fin 3 → IVec S_ 32) k (by
    have := k.isLt
    show (wv S_ (W (Proc.devRef .tc main_v40_2)) _).toInt = _
    rw [hc]
    exact iv_toInt k.val (by omega)) rfl rfl
  rw [show fv S64x1024 (after body2a W (Proc.devRef .tc main_while2b_v76)) = addf (shapeCast S64x1024 _ shapeCasts_S1x64x1024_S64x1024)
      (Host.dotGeneral dot_S64x256_S256x1024_S64x1024_1_0_0_1_n_n none (fv S64x256 (W (Proc.devRef .tc main_v40_3)))
        (transpose S256x1024 [1, 0] (fv S1024x256 (W (Proc.devRef .tc main_v40_1))) transposes_S1024x256_S256x1024_1_0)) from by
    after_results_simp_entrywise; exact congrArg (fun z => addf (shapeCast S64x1024 z shapeCasts_S1x64x1024_S64x1024) _) hs]
  pointwise [Spec.gates]
  done

/-- The new cell state of loop 2. -/
theorem newC2 (W : Valuation τ sig (Elt Ideal)) (b : Fin 64) (j : Fin 256) :
    fv S64x256 (after body2b W (Proc.devRef .tc main_while2b_v96)) (ix2 b j)
      = Spec.newC (fun g => fv S64x1024 (W (Proc.devRef .tc main_while2b_v76)) (ix2 b g)) (fun j => fv S64x256 (W (Proc.devRef .tc main_v40_4)) (ix2 b j)) j := by
  after_results_simp
  pointwise [Spec.newC, Ideal.logistic, Ideal.ofBits_one_f32]
  done

/-- The new hidden state of loop 2. -/
theorem newH2 (W : Valuation τ sig (Elt Ideal)) (b : Fin 64) (j : Fin 256) :
    fv S64x256 (after body2b W (Proc.devRef .tc main_while2b_v104)) (ix2 b j)
      = Spec.newH (fun g => fv S64x1024 (W (Proc.devRef .tc main_while2b_v76)) (ix2 b g)) (fun j => fv S64x256 (W (Proc.devRef .tc main_v40_4)) (ix2 b j)) j := by
  after_results_simp
  pointwise [Spec.newH, Spec.newC, Ideal.logistic, Ideal.ofBits_one_f32]
  done

/-- The record of loop 2, one row replaced. -/
theorem put2 (W : Valuation τ sig (Elt Ideal)) (n : Fin 637) (hn : (wv S_ (W (Proc.devRef .tc main_v40_2)) (Shape.Idx.first h_S_)).toInt = n.val) (t : Fin 637) (b : Fin 64) (j : Fin 256) :
    fv S637x64x256 (after body2c W (Proc.devRef .tc main_v40_5)) (ix3 t b j)
      = if t = n then fv S64x256 (W (Proc.devRef .tc main_while2b_v104)) (ix2 b j) else fv S637x64x256 (W (Proc.devRef .tc main_v40_5)) (ix3 t b j) := by
  have hs := row_put637 (fv S637x64x256 (W (Proc.devRef .tc main_v40_5))) (broadcastInDim S1x64x256 ![1, 2] bcast_S64x256_S1x64x256_1_2 (fv S64x256 (W (Proc.devRef .tc main_while2b_v104))))
    (![(wv S_ (W (Proc.devRef .tc main_v40_2))), constantI S_ 32 0#32, constantI S_ 32 0#32] : Fin 3 → IVec S_ 32) n hn rfl rfl t b j
  rw [show fv S637x64x256 (after body2c W (Proc.devRef .tc main_v40_5)) = Host.dynamicUpdateSlice _ _ _ updateFits_S637x64x256_S1x64x256 from by after_results_simp_entrywise; rfl]
  refine hs.trans ?_
  pointwise
  done

/-- Loop 2's new hidden state. -/
theorem nextH2 (W : Valuation τ sig (Elt Ideal)) : after body2c W (Proc.devRef .tc main_v40_3) = W (Proc.devRef .tc main_while2b_v104) := by
  after_results_simp_entrywise
  rfl
/-- Loop 2's new cell state. -/
theorem nextC2 (W : Valuation τ sig (Elt Ideal)) : after body2c W (Proc.devRef .tc main_v40_4) = W (Proc.devRef .tc main_while2b_v96) := by
  after_results_simp_entrywise
  rfl

/-- The states carried by loop 2 before step `k`, for batch element `b`. -/
def st2 (c : Dev nD) (b : Fin 64) (k : ℕ) : Spec.St :=
  (fun j => fv S64x256 (T2 m k c (Proc.devRef .tc main_v40_3)) (ix2 b j), fun j => fv S64x256 (T2 m k c (Proc.devRef .tc main_v40_4)) (ix2 b j))
/-- The gate inputs and the recurrent weights of loop 2. -/
def xs2 (c : Dev nD) (b : Fin 64) (t : Fin 637) (g : Fin 1024) : EReal := fv S637x64x1024 (E2 m c (Proc.devRef .tc main_v40_0)) (ix3 t b g)
/-- Loop 2's recurrent weights. -/
def us2 (c : Dev nD) (g : Fin 1024) (j : Fin 256) : EReal := fv S1024x256 (E2 m c (Proc.devRef .tc main_v40_1)) (ix2 g j)

/-- One step of loop 2: the cell's step, and the new hidden state recorded. -/
theorem step2 (c : Dev nD) (b : Fin 64) (k : ℕ) (hk : k < 637) :
    st2 m c b (k + 1) = Spec.step (xs2 m c b ⟨k, hk⟩) (us2 m c) (st2 m c b k)
    ∧ ∀ t : Fin 637, (fun j => fv S637x64x256 (T2 m (k + 1) c (Proc.devRef .tc main_v40_5)) (ix3 t b j))
        = if t = ⟨k, hk⟩ then (st2 m c b (k + 1)).1 else fun j => fv S637x64x256 (T2 m k c (Proc.devRef .tc main_v40_5)) (ix3 t b j) := by
  set V := after cond2 (T2 m k c) with hV
  have hT : T2 m (k + 1) c = after body2c (after body2b (after body2a V)) := rfl
  have r0 : V (Proc.devRef .tc main_v40_0) = E2 m c (Proc.devRef .tc main_v40_0) := (after_of_writes_sub cond2 _ cond2_writes (by decide)).trans (T2_of m c _ (by decide) (by decide) (by decide) (by decide) k)
  have r1 : V (Proc.devRef .tc main_v40_1) = E2 m c (Proc.devRef .tc main_v40_1) := (after_of_writes_sub cond2 _ cond2_writes (by decide)).trans (T2_of m c _ (by decide) (by decide) (by decide) (by decide) k)
  have r2 : V (Proc.devRef .tc main_v40_2) = fun _ => Scf.iv 0#32 1#32 k := (ctr2_cond _).trans (ctr2 m c k)
  have r3 : V (Proc.devRef .tc main_v40_3) = T2 m k c (Proc.devRef .tc main_v40_3) := after_of_writes_sub cond2 _ cond2_writes (by decide)
  have r4 : V (Proc.devRef .tc main_v40_4) = T2 m k c (Proc.devRef .tc main_v40_4) := after_of_writes_sub cond2 _ cond2_writes (by decide)
  have r5 : V (Proc.devRef .tc main_v40_5) = T2 m k c (Proc.devRef .tc main_v40_5) := after_of_writes_sub cond2 _ cond2_writes (by decide)
  have a4 : after body2a V (Proc.devRef .tc main_v40_4) = T2 m k c (Proc.devRef .tc main_v40_4) := (after_of_writes_sub body2a _ body2a_writes (by decide)).trans r4
  have hg : (fun g => fv S64x1024 (after body2a V (Proc.devRef .tc main_while2b_v76)) (ix2 b g)) = Spec.gates (xs2 m c b ⟨k, hk⟩) (us2 m c) (st2 m c b k).1 := by
    funext g; rw [gates2 V ⟨k, hk⟩ r2 b g, r0, r1, r3]; rfl
  have hh : (fun j => fv S64x256 (after body2b (after body2a V) (Proc.devRef .tc main_while2b_v104)) (ix2 b j)) = Spec.newH (Spec.gates (xs2 m c b ⟨k, hk⟩) (us2 m c) (st2 m c b k).1) (st2 m c b k).2 := by
    funext j; rw [newH2, hg, a4]; rfl
  have hst : st2 m c b (k + 1) = Spec.step (xs2 m c b ⟨k, hk⟩) (us2 m c) (st2 m c b k) := by
    unfold st2 Spec.step
    rw [hT, nextH2, nextC2]
    refine Prod.ext hh (funext fun j => ?_)
    refine (newC2 _ b j).trans ?_
    rw [hg, a4]; rfl
  refine ⟨hst, fun t => ?_⟩
  have hn : (wv S_ (after body2b (after body2a V) (Proc.devRef .tc main_v40_2)) (Shape.Idx.first h_S_)).toInt = ((⟨k, hk⟩ : Fin 637)).val := by
    rw [after_of_writes_sub body2b _ body2b_writes (by decide)]
    rw [ctr2_a, r2]
    exact iv_toInt k (by omega)
  have b5 : after body2b (after body2a V) (Proc.devRef .tc main_v40_5) = T2 m k c (Proc.devRef .tc main_v40_5) :=
    (after_of_writes_sub body2b _ body2b_writes (by decide)).trans ((after_of_writes_sub body2a _ body2a_writes (by decide)).trans r5)
  rw [hst]
  funext j
  rw [hT, put2 _ _ hn t b j, b5]
  split
  · exact congrFun hh j
  · rfl

/-- What loop 2 leaves recorded, where it was entered with zero states. -/
theorem rec2 (c : Dev nD) (b : Fin 64) (h3 : ∀ j, fv S64x256 (E2 m c (Proc.devRef .tc main_v40_3)) (ix2 b j) = 0) (h4 : ∀ j, fv S64x256 (E2 m c (Proc.devRef .tc main_v40_4)) (ix2 b j) = 0) (t : Fin 637) (j : Fin 256) :
    fv S637x64x256 (X2 m c (Proc.devRef .tc main_v40_5)) (ix3 t b j) = (Spec.run (Spec.seq fun t => xs2 m c b t) (us2 m c) (t.val + 1)).1 j := by
  have hx : X2 m c (Proc.devRef .tc main_v40_5) = T2 m 637 c (Proc.devRef .tc main_v40_5) := after_of_writes_sub cond2 _ cond2_writes (by decide)
  have hr := Spec.run_unique (T := 637) (f := fun t => xs2 m c b t) (u := us2 m c) (st := st2 m c b)
    (Prod.ext (funext h3) (funext h4)) (fun k hk => (step2 m c b k hk).1)
  have hy := Spec.record_fwd (T := 637) (ys := fun k t j => fv S637x64x256 (T2 m k c (Proc.devRef .tc main_v40_5)) (ix3 t b j)) (v := fun k => (st2 m c b k).1)
    (fun k hk t => (step2 m c b k hk).2 t) 637 le_rfl t (by have := t.isLt; omega)
  rw [hx]
  exact (congrFun hy j).trans (by rw [hr _ (by have := t.isLt; omega)])

/-! ## Loop 3 -/

/-- The gates of step `k` of loop 3. -/
theorem gates3 (W : Valuation τ sig (Elt Ideal)) (k : Fin 637) (hc : W (Proc.devRef .tc main_v49_2) = fun _ => Scf.iv 0#32 1#32 k.val) (b : Fin 64) (g : Fin 1024) :
    fv S64x1024 (after body3a W (Proc.devRef .tc main_while3b_v78)) (ix2 b g)
      = Spec.gates (fun g => fv S637x64x1024 (W (Proc.devRef .tc main_v49_0)) (ix3 (Fin.rev k) b g)) (fun g j => fv S1024x256 (W (Proc.devRef .tc main_v49_1)) (ix2 g j))
          (fun j => fv S64x256 (W (Proc.devRef .tc main_v49_3)) (ix2 b j)) g := by
  have hs := row_cut637 (fv S637x64x1024 (W (Proc.devRef .tc main_v49_0))) (![(subi (subi (constantI S_ 32 637#32) (wv S_ (W (Proc.devRef .tc main_v49_2)))) (constantI S_ 32 1#32)), constantI S_ 32 0#32, constantI S_ 32 0#32] : Fin 3 → IVec S_ 32) (Fin.rev k) (by
    have := k.isLt
    show (BitVec.ofNat 32 637 - wv S_ (W (Proc.devRef .tc main_v49_2)) _ - 1#32).toInt = _
    rw [hc]
    exact (rev_toInt 637 k.val k.isLt (by omega)).trans (by rw [Fin.val_rev]; omega)) rfl rfl
  rw [show fv S64x1024 (after body3a W (Proc.devRef .tc main_while3b_v78)) = addf (shapeCast S64x1024 _ shapeCasts_S1x64x1024_S64x1024)
      (Host.dotGeneral dot_S64x256_S256x1024_S64x1024_1_0_0_1_n_n none (fv S64x256 (W (Proc.devRef .tc main_v49_3)))
        (transpose S256x1024 [1, 0] (fv S1024x256 (W (Proc.devRef .tc main_v49_1))) transposes_S1024x256_S256x1024_1_0)) from by
    after_results_simp_entrywise; exact congrArg (fun z => addf (shapeCast S64x1024 z shapeCasts_S1x64x1024_S64x1024) _) hs]
  pointwise [Spec.gates]
  done

/-- The row loop 3 takes at step `k`. -/
theorem idx3 (W : Valuation τ sig (Elt Ideal)) :
    wv S_ (after body3a W (Proc.devRef .tc main_while3b_v74)) = subi (subi (constantI S_ 32 637#32) (wv S_ (W (Proc.devRef .tc main_v49_2)))) (constantI S_ 32 1#32) := by
  after_results_simp_entrywise

/-- The new cell state of loop 3. -/
theorem newC3 (W : Valuation τ sig (Elt Ideal)) (b : Fin 64) (j : Fin 256) :
    fv S64x256 (after body3b W (Proc.devRef .tc main_while3b_v98)) (ix2 b j)
      = Spec.newC (fun g => fv S64x1024 (W (Proc.devRef .tc main_while3b_v78)) (ix2 b g)) (fun j => fv S64x256 (W (Proc.devRef .tc main_v49_4)) (ix2 b j)) j := by
  after_results_simp
  pointwise [Spec.newC, Ideal.logistic, Ideal.ofBits_one_f32]
  done

/-- The new hidden state of loop 3. -/
theorem newH3 (W : Valuation τ sig (Elt Ideal)) (b : Fin 64) (j : Fin 256) :
    fv S64x256 (after body3b W (Proc.devRef .tc main_while3b_v106)) (ix2 b j)
      = Spec.newH (fun g => fv S64x1024 (W (Proc.devRef .tc main_while3b_v78)) (ix2 b g)) (fun j => fv S64x256 (W (Proc.devRef .tc main_v49_4)) (ix2 b j)) j := by
  after_results_simp
  pointwise [Spec.newH, Spec.newC, Ideal.logistic, Ideal.ofBits_one_f32]
  done

/-- The record of loop 3, one row replaced. -/
theorem put3 (W : Valuation τ sig (Elt Ideal)) (n : Fin 637) (hn : (wv S_ (W (Proc.devRef .tc main_while3b_v74)) (Shape.Idx.first h_S_)).toInt = n.val) (t : Fin 637) (b : Fin 64) (j : Fin 256) :
    fv S637x64x256 (after body3c W (Proc.devRef .tc main_v49_5)) (ix3 t b j)
      = if t = n then fv S64x256 (W (Proc.devRef .tc main_while3b_v106)) (ix2 b j) else fv S637x64x256 (W (Proc.devRef .tc main_v49_5)) (ix3 t b j) := by
  have hs := row_put637 (fv S637x64x256 (W (Proc.devRef .tc main_v49_5))) (broadcastInDim S1x64x256 ![1, 2] bcast_S64x256_S1x64x256_1_2 (fv S64x256 (W (Proc.devRef .tc main_while3b_v106))))
    (![(wv S_ (W (Proc.devRef .tc main_while3b_v74))), constantI S_ 32 0#32, constantI S_ 32 0#32] : Fin 3 → IVec S_ 32) n hn rfl rfl t b j
  rw [show fv S637x64x256 (after body3c W (Proc.devRef .tc main_v49_5)) = Host.dynamicUpdateSlice _ _ _ updateFits_S637x64x256_S1x64x256 from by after_results_simp_entrywise; rfl]
  refine hs.trans ?_
  pointwise
  done

/-- Loop 3's new hidden state. -/
theorem nextH3 (W : Valuation τ sig (Elt Ideal)) : after body3c W (Proc.devRef .tc main_v49_3) = W (Proc.devRef .tc main_while3b_v106) := by
  after_results_simp_entrywise
  rfl
/-- Loop 3's new cell state. -/
theorem nextC3 (W : Valuation τ sig (Elt Ideal)) : after body3c W (Proc.devRef .tc main_v49_4) = W (Proc.devRef .tc main_while3b_v98) := by
  after_results_simp_entrywise
  rfl

/-- The states carried by loop 3 before step `k`, for batch element `b`. -/
def st3 (c : Dev nD) (b : Fin 64) (k : ℕ) : Spec.St :=
  (fun j => fv S64x256 (T3 m k c (Proc.devRef .tc main_v49_3)) (ix2 b j), fun j => fv S64x256 (T3 m k c (Proc.devRef .tc main_v49_4)) (ix2 b j))
/-- The gate inputs and the recurrent weights of loop 3. -/
def xs3 (c : Dev nD) (b : Fin 64) (t : Fin 637) (g : Fin 1024) : EReal := fv S637x64x1024 (E3 m c (Proc.devRef .tc main_v49_0)) (ix3 t b g)
/-- Loop 3's recurrent weights. -/
def us3 (c : Dev nD) (g : Fin 1024) (j : Fin 256) : EReal := fv S1024x256 (E3 m c (Proc.devRef .tc main_v49_1)) (ix2 g j)

/-- One step of loop 3: the cell's step, and the new hidden state recorded. -/
theorem step3 (c : Dev nD) (b : Fin 64) (k : ℕ) (hk : k < 637) :
    st3 m c b (k + 1) = Spec.step (xs3 m c b (Fin.rev ⟨k, hk⟩)) (us3 m c) (st3 m c b k)
    ∧ ∀ t : Fin 637, (fun j => fv S637x64x256 (T3 m (k + 1) c (Proc.devRef .tc main_v49_5)) (ix3 t b j))
        = if t = Fin.rev ⟨k, hk⟩ then (st3 m c b (k + 1)).1 else fun j => fv S637x64x256 (T3 m k c (Proc.devRef .tc main_v49_5)) (ix3 t b j) := by
  set V := after cond3 (T3 m k c) with hV
  have hT : T3 m (k + 1) c = after body3c (after body3b (after body3a V)) := rfl
  have r0 : V (Proc.devRef .tc main_v49_0) = E3 m c (Proc.devRef .tc main_v49_0) := (after_of_writes_sub cond3 _ cond3_writes (by decide)).trans (T3_of m c _ (by decide) (by decide) (by decide) (by decide) k)
  have r1 : V (Proc.devRef .tc main_v49_1) = E3 m c (Proc.devRef .tc main_v49_1) := (after_of_writes_sub cond3 _ cond3_writes (by decide)).trans (T3_of m c _ (by decide) (by decide) (by decide) (by decide) k)
  have r2 : V (Proc.devRef .tc main_v49_2) = fun _ => Scf.iv 0#32 1#32 k := (ctr3_cond _).trans (ctr3 m c k)
  have r3 : V (Proc.devRef .tc main_v49_3) = T3 m k c (Proc.devRef .tc main_v49_3) := after_of_writes_sub cond3 _ cond3_writes (by decide)
  have r4 : V (Proc.devRef .tc main_v49_4) = T3 m k c (Proc.devRef .tc main_v49_4) := after_of_writes_sub cond3 _ cond3_writes (by decide)
  have r5 : V (Proc.devRef .tc main_v49_5) = T3 m k c (Proc.devRef .tc main_v49_5) := after_of_writes_sub cond3 _ cond3_writes (by decide)
  have a4 : after body3a V (Proc.devRef .tc main_v49_4) = T3 m k c (Proc.devRef .tc main_v49_4) := (after_of_writes_sub body3a _ body3a_writes (by decide)).trans r4
  have hg : (fun g => fv S64x1024 (after body3a V (Proc.devRef .tc main_while3b_v78)) (ix2 b g)) = Spec.gates (xs3 m c b (Fin.rev ⟨k, hk⟩)) (us3 m c) (st3 m c b k).1 := by
    funext g; rw [gates3 V ⟨k, hk⟩ r2 b g, r0, r1, r3]; rfl
  have hh : (fun j => fv S64x256 (after body3b (after body3a V) (Proc.devRef .tc main_while3b_v106)) (ix2 b j)) = Spec.newH (Spec.gates (xs3 m c b (Fin.rev ⟨k, hk⟩)) (us3 m c) (st3 m c b k).1) (st3 m c b k).2 := by
    funext j; rw [newH3, hg, a4]; rfl
  have hst : st3 m c b (k + 1) = Spec.step (xs3 m c b (Fin.rev ⟨k, hk⟩)) (us3 m c) (st3 m c b k) := by
    unfold st3 Spec.step
    rw [hT, nextH3, nextC3]
    refine Prod.ext hh (funext fun j => ?_)
    refine (newC3 _ b j).trans ?_
    rw [hg, a4]; rfl
  refine ⟨hst, fun t => ?_⟩
  have hn : (wv S_ (after body3b (after body3a V) (Proc.devRef .tc main_while3b_v74)) (Shape.Idx.first h_S_)).toInt = (Fin.rev (⟨k, hk⟩ : Fin 637)).val := by
    rw [after_of_writes_sub body3b _ body3b_writes (by decide)]
    rw [idx3]
    show (BitVec.ofNat 32 637 - wv S_ (V (Proc.devRef .tc main_v49_2)) _ - 1#32).toInt = _
    rw [r2]
    exact (rev_toInt 637 k hk (by omega)).trans (by rw [Fin.val_rev]; show ((637 - 1 - k : ℕ) : Int) = ((637 - (k + 1) : ℕ) : Int); congr 1; omega)
  have b5 : after body3b (after body3a V) (Proc.devRef .tc main_v49_5) = T3 m k c (Proc.devRef .tc main_v49_5) :=
    (after_of_writes_sub body3b _ body3b_writes (by decide)).trans ((after_of_writes_sub body3a _ body3a_writes (by decide)).trans r5)
  rw [hst]
  funext j
  rw [hT, put3 _ _ hn t b j, b5]
  split
  · exact congrFun hh j
  · rfl

/-- What loop 3 leaves recorded, where it was entered with zero states. -/
theorem rec3 (c : Dev nD) (b : Fin 64) (h3 : ∀ j, fv S64x256 (E3 m c (Proc.devRef .tc main_v49_3)) (ix2 b j) = 0) (h4 : ∀ j, fv S64x256 (E3 m c (Proc.devRef .tc main_v49_4)) (ix2 b j) = 0) (t : Fin 637) (j : Fin 256) :
    fv S637x64x256 (X3 m c (Proc.devRef .tc main_v49_5)) (ix3 t b j) = (Spec.run (Spec.seq fun t => xs3 m c b (Fin.rev t)) (us3 m c) (637 - t.val)).1 j := by
  have hx : X3 m c (Proc.devRef .tc main_v49_5) = T3 m 637 c (Proc.devRef .tc main_v49_5) := after_of_writes_sub cond3 _ cond3_writes (by decide)
  have hr := Spec.run_unique (T := 637) (f := fun t => xs3 m c b (Fin.rev t)) (u := us3 m c) (st := st3 m c b)
    (Prod.ext (funext h3) (funext h4)) (fun k hk => (step3 m c b k hk).1)
  have hy := Spec.record_bwd (T := 637) (ys := fun k t j => fv S637x64x256 (T3 m k c (Proc.devRef .tc main_v49_5)) (ix3 t b j)) (v := fun k => (st3 m c b k).1)
    (fun k hk t => (step3 m c b k hk).2 t) 637 le_rfl t (by have := t.isLt; omega)
  rw [hx]
  exact (congrFun hy j).trans (by rw [hr _ (by have := t.isLt; omega)])

end Cert.ReferenceIdeal.K

end
-- ==== Proof.ReferenceIdeal.Value.lean ====
/- The reference's result, element by element: the classifier of `Spec`. -/
module

public import proofs.«01_k».proof.Proof.ReferenceIdeal.Loops
public import proofs.«01_k».proof.Proof.Rows

@[expose] public section

set_option maxRecDepth 16384

noncomputable section

namespace Cert.ReferenceIdeal.K

open Cert.ReferenceIdeal Cert.ReferenceIdeal.Gen
open Idealize.ShloMosaic Idealize.ShloMosaic.TcCoe Idealize.ShloMosaic.Tactic Idealize.ShloMosaic.StableHlo

variable (m : (ℓ : Loc nD τ sig) → Buf (Elt Ideal) ℓ)

/-- The classifier's inputs, as launched. -/
def inp (c : Dev nD) : Spec.In :=
  Spec.inOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))

/-- The counted-from-the-end choice as the program writes it. -/
theorem wrap_eq (w : BitVec 32) : Scalar.select (IntOp.cmpi .slt w 0#32) (IntOp.addi w 50000#32) w = Spec.wrap w := by
  unfold Spec.wrap
  show (if BitVec.ofBool (BitVec.slt w 0#32) = 1 then w + 50000#32 else w) = _
  cases BitVec.slt w 0#32 <;> rfl

/-- The embedded title. -/
theorem emb24 (c : Dev nD) (b : Fin 64) (t : Fin 24) (e : Fin 300) :
    fv S64x24x300 (E0 m c (Proc.devRef .tc main_v13)) (ix3 b t e) = (inp m c).table (Spec.rowOf ((inp m c).title b t)) e := by
  have hg := Rows.dims3_apply (by norm_num) gather_S50000x300_S64x24x1_S64x24x300_2_0_n_n_0_2_1300_wf (fv S50000x300 (L0 m c (Proc.devRef .tc main_arg2)))
    (broadcastInDim S64x24x1 ![0, 1] bcast_S64x24_S64x24x1_0_1 (select (cmpi .slt (wv S64x24 (L0 m c (Proc.devRef .tc main_arg1))) (broadcastInDim S64x24 ![] bcast_S_S64x24 (constantI S_ 32 0#32)))
      (addi (wv S64x24 (L0 m c (Proc.devRef .tc main_arg1))) (broadcastInDim S64x24 ![] bcast_S_S64x24 (constantI S_ 32 50000#32))) (wv S64x24 (L0 m c (Proc.devRef .tc main_arg1))))) b t e
  unfold E0
  refine Eq.trans ?_ (hg.trans ?_)
  · rw [show fv S64x24x300 (after ops0 (L0 m c) (Proc.devRef .tc main_v13)) = _ from by after_results_simp_entrywise; rfl]
    rfl
  · refine congrArg (fun r => fv S50000x300 (L0 m c (Proc.devRef .tc main_arg2)) (ix2 r e)) (Fin.ext ?_)
    show min (BitVec.toInt _).toNat 49999 = min (Spec.wrap _).toInt.toNat 49999
    refine congrArg (fun z : BitVec 32 => min z.toInt.toNat 49999) ?_
    pointwise
    exact wrap_eq _

/-- The embedded content. -/
theorem emb637 (c : Dev nD) (b : Fin 64) (t : Fin 637) (e : Fin 300) :
    fv S64x637x300 (E0 m c (Proc.devRef .tc main_v6)) (ix3 b t e) = (inp m c).table (Spec.rowOf ((inp m c).content b t)) e := by
  have hg := Rows.dims3_apply (by norm_num) gather_S50000x300_S64x637x1_S64x637x300_2_0_n_n_0_2_1300_wf (fv S50000x300 (L0 m c (Proc.devRef .tc main_arg2)))
    (broadcastInDim S64x637x1 ![0, 1] bcast_S64x637_S64x637x1_0_1 (select (cmpi .slt (wv S64x637 (L0 m c (Proc.devRef .tc main_arg0))) (broadcastInDim S64x637 ![] bcast_S_S64x637 (constantI S_ 32 0#32)))
      (addi (wv S64x637 (L0 m c (Proc.devRef .tc main_arg0))) (broadcastInDim S64x637 ![] bcast_S_S64x637 (constantI S_ 32 50000#32))) (wv S64x637 (L0 m c (Proc.devRef .tc main_arg0))))) b t e
  unfold E0
  refine Eq.trans ?_ (hg.trans ?_)
  · rw [show fv S64x637x300 (after ops0 (L0 m c) (Proc.devRef .tc main_v6)) = _ from by after_results_simp_entrywise; rfl]
    rfl
  · refine congrArg (fun r => fv S50000x300 (L0 m c (Proc.devRef .tc main_arg2)) (ix2 r e)) (Fin.ext ?_)
    show min (BitVec.toInt _).toNat 49999 = min (Spec.wrap _).toInt.toNat 49999
    refine congrArg (fun z : BitVec 32 => min z.toInt.toNat 49999) ?_
    pointwise
    exact wrap_eq _

/-- Loop 0's gate inputs are the projected tokens. -/
theorem xs0_eq (c : Dev nD) (b : Fin 64) (t : Fin 24) : xs0 m c b t = Spec.inputs (inp m c).table (inp m c).tf ((inp m c).title b) t := by
  funext g
  have hx : ∀ e, fv S64x24x300 (after ops0 (L0 m c) (Proc.devRef .tc main_v13)) (ix3 b t e) = (inp m c).table (Spec.rowOf ((inp m c).title b t)) e := fun e => by
    refine Eq.trans ?_ (emb24 m c b t e)
    rfl
  unfold xs0 E0
  rw [show fv S24x64x1024 (after ops0 (L0 m c) (Proc.devRef .tc main_v21_0)) = transpose S24x64x1024 [1, 0, 2]
      (addf (Host.dotGeneral dot_S64x24x300_S1024x300_S64x24x1024_2_1_01_0_n_n none (fv S64x24x300 (after ops0 (L0 m c) (Proc.devRef .tc main_v13))) (fv S1024x300 (L0 m c (Proc.devRef .tc main_arg3))))
        (broadcastInDim S64x24x1024 ![0, 1, 2] bcast_S1x1x1024_S64x24x1024_0_1_2 (broadcastInDim S1x1x1024 ![2] bcast_S1024_S1x1x1024_2 (fv S1024 (L0 m c (Proc.devRef .tc main_arg5))))))
      transposes_S64x24x1024_S24x64x1024_1_0_2 from by after_results_simp_entrywise; rfl]
  rw [(show L0 m c (Proc.devRef .tc main_arg3) = m ((c : Thread nD τ).loc main_arg3) from rfl), (show L0 m c (Proc.devRef .tc main_arg5) = m ((c : Thread nD τ).loc main_arg5) from rfl)]
  pointwise [Spec.inputs, Spec.pre]
  simp only [hx]
  rfl

/-- Loop 0's recurrent weights are the argument's. -/
theorem us0_eq (c : Dev nD) : us0 m c = (inp m c).tf.whh := by
  funext g j
  unfold us0 E0
  rw [show fv S1024x256 (after ops0 (L0 m c) (Proc.devRef .tc main_v21_1)) = fv S1024x256 (L0 m c (Proc.devRef .tc main_arg4)) from by after_results_simp_entrywise; simp only [id_eq], (show L0 m c (Proc.devRef .tc main_arg4) = m ((c : Thread nD τ).loc main_arg4) from rfl)]
  rfl

/-- Loop 0 starts from zero. -/
theorem zero0 (c : Dev nD) (b : Fin 64) (j : Fin 256) : fv S64x256 (E0 m c (Proc.devRef .tc main_v21_3)) (ix2 b j) = 0 ∧ fv S64x256 (E0 m c (Proc.devRef .tc main_v21_4)) (ix2 b j) = 0 := by
  unfold E0
  constructor
  · after_results_simp
    pointwise [id]
    done
  · after_results_simp
    pointwise [id]
    done

/-- The hidden states loop 0 leaves recorded. -/
theorem states0 (c : Dev nD) (b : Fin 64) (t : Fin 24) (j : Fin 256) :
    fv S24x64x256 (X0 m c (Proc.devRef .tc main_v21_5)) (ix3 t b j) = Spec.fwd (inp m c).table (inp m c).tf ((inp m c).title b) t j := by
  rw [rec0 m c b (fun j => (zero0 m c b j).1) (fun j => (zero0 m c b j).2) t j, us0_eq]
  simp only [xs0_eq]
  rfl

/-- Loop 1's gate inputs are the projected tokens. -/
theorem xs1_eq (c : Dev nD) (b : Fin 64) (t : Fin 24) : xs1 m c b t = Spec.inputs (inp m c).table (inp m c).tb ((inp m c).title b) t := by
  funext g
  have hx : ∀ e, fv S64x24x300 (X0 m c (Proc.devRef .tc main_v13)) (ix3 b t e) = (inp m c).table (Spec.rowOf ((inp m c).title b t)) e := fun e => by
    refine Eq.trans ?_ (emb24 m c b t e)
    exact congrFun (X0_of m c main_v13 (by decide) (by decide) (by decide) (by decide)) _
  unfold xs1 E1
  rw [show fv S24x64x1024 (after ops1 (X0 m c) (Proc.devRef .tc main_v30_0)) = transpose S24x64x1024 [1, 0, 2]
      (addf (Host.dotGeneral dot_S64x24x300_S1024x300_S64x24x1024_2_1_01_0_n_n none (fv S64x24x300 (X0 m c (Proc.devRef .tc main_v13))) (fv S1024x300 (X0 m c (Proc.devRef .tc main_arg6))))
        (broadcastInDim S64x24x1024 ![0, 1, 2] bcast_S1x1x1024_S64x24x1024_0_1_2 (broadcastInDim S1x1x1024 ![2] bcast_S1024_S1x1x1024_2 (fv S1024 (X0 m c (Proc.devRef .tc main_arg8))))))
      transposes_S64x24x1024_S24x64x1024_1_0_2 from by after_results_simp_entrywise; rfl]
  rw [(X0_args m c main_arg6 (by decide)), (X0_args m c main_arg8 (by decide))]
  pointwise [Spec.inputs, Spec.pre]
  simp only [hx]
  rfl

/-- Loop 1's recurrent weights are the argument's. -/
theorem us1_eq (c : Dev nD) : us1 m c = (inp m c).tb.whh := by
  funext g j
  unfold us1 E1
  rw [show fv S1024x256 (after ops1 (X0 m c) (Proc.devRef .tc main_v30_1)) = fv S1024x256 (X0 m c (Proc.devRef .tc main_arg7)) from by after_results_simp_entrywise; simp only [id_eq], (X0_args m c main_arg7 (by decide))]
  rfl

/-- Loop 1 starts from zero. -/
theorem zero1 (c : Dev nD) (b : Fin 64) (j : Fin 256) : fv S64x256 (E1 m c (Proc.devRef .tc main_v30_3)) (ix2 b j) = 0 ∧ fv S64x256 (E1 m c (Proc.devRef .tc main_v30_4)) (ix2 b j) = 0 := by
  unfold E1
  constructor
  · after_results_simp
    pointwise [id]
    done
  · after_results_simp
    pointwise [id]
    done

/-- The hidden states loop 1 leaves recorded. -/
theorem states1 (c : Dev nD) (b : Fin 64) (t : Fin 24) (j : Fin 256) :
    fv S24x64x256 (X1 m c (Proc.devRef .tc main_v30_5)) (ix3 t b j) = Spec.bwd (inp m c).table (inp m c).tb ((inp m c).title b) t j := by
  rw [rec1 m c b (fun j => (zero1 m c b j).1) (fun j => (zero1 m c b j).2) t j, us1_eq]
  simp only [xs1_eq]
  rfl

/-- Loop 2's gate inputs are the projected tokens. -/
theorem xs2_eq (c : Dev nD) (b : Fin 64) (t : Fin 637) : xs2 m c b t = Spec.inputs (inp m c).table (inp m c).cf ((inp m c).content b) t := by
  funext g
  have hx : ∀ e, fv S64x637x300 (X1 m c (Proc.devRef .tc main_v6)) (ix3 b t e) = (inp m c).table (Spec.rowOf ((inp m c).content b t)) e := fun e => by
    refine Eq.trans ?_ (emb637 m c b t e)
    exact congrFun ((X1_of m c main_v6 (by decide) (by decide) (by decide) (by decide)).trans ((after_of_writes_sub ops1 _ ops1_writes (by decide)).trans (X0_of m c main_v6 (by decide) (by decide) (by decide) (by decide)))) _
  unfold xs2 E2
  rw [show fv S637x64x1024 (after ops2 (X1 m c) (Proc.devRef .tc main_v40_0)) = transpose S637x64x1024 [1, 0, 2]
      (addf (Host.dotGeneral dot_S64x637x300_S1024x300_S64x637x1024_2_1_01_0_n_n none (fv S64x637x300 (X1 m c (Proc.devRef .tc main_v6))) (fv S1024x300 (X1 m c (Proc.devRef .tc main_arg9))))
        (broadcastInDim S64x637x1024 ![0, 1, 2] bcast_S1x1x1024_S64x637x1024_0_1_2 (broadcastInDim S1x1x1024 ![2] bcast_S1024_S1x1x1024_2 (fv S1024 (X1 m c (Proc.devRef .tc main_arg11))))))
      transposes_S64x637x1024_S637x64x1024_1_0_2 from by after_results_simp_entrywise; rfl]
  rw [(X1_args m c main_arg9 (by decide)), (X1_args m c main_arg11 (by decide))]
  pointwise [Spec.inputs, Spec.pre]
  simp only [hx]
  rfl

/-- Loop 2's recurrent weights are the argument's. -/
theorem us2_eq (c : Dev nD) : us2 m c = (inp m c).cf.whh := by
  funext g j
  unfold us2 E2
  rw [show fv S1024x256 (after ops2 (X1 m c) (Proc.devRef .tc main_v40_1)) = fv S1024x256 (X1 m c (Proc.devRef .tc main_arg10)) from by after_results_simp_entrywise; simp only [id_eq], (X1_args m c main_arg10 (by decide))]
  rfl

/-- Loop 2 starts from zero. -/
theorem zero2 (c : Dev nD) (b : Fin 64) (j : Fin 256) : fv S64x256 (E2 m c (Proc.devRef .tc main_v40_3)) (ix2 b j) = 0 ∧ fv S64x256 (E2 m c (Proc.devRef .tc main_v40_4)) (ix2 b j) = 0 := by
  unfold E2
  constructor
  · after_results_simp
    pointwise [id]
    done
  · after_results_simp
    pointwise [id]
    done

/-- The hidden states loop 2 leaves recorded. -/
theorem states2 (c : Dev nD) (b : Fin 64) (t : Fin 637) (j : Fin 256) :
    fv S637x64x256 (X2 m c (Proc.devRef .tc main_v40_5)) (ix3 t b j) = Spec.fwd (inp m c).table (inp m c).cf ((inp m c).content b) t j := by
  rw [rec2 m c b (fun j => (zero2 m c b j).1) (fun j => (zero2 m c b j).2) t j, us2_eq]
  simp only [xs2_eq]
  rfl

/-- Loop 3's gate inputs are the projected tokens. -/
theorem xs3_eq (c : Dev nD) (b : Fin 64) (t : Fin 637) : xs3 m c b t = Spec.inputs (inp m c).table (inp m c).cb ((inp m c).content b) t := by
  funext g
  have hx : ∀ e, fv S64x637x300 (X2 m c (Proc.devRef .tc main_v6)) (ix3 b t e) = (inp m c).table (Spec.rowOf ((inp m c).content b t)) e := fun e => by
    refine Eq.trans ?_ (emb637 m c b t e)
    exact congrFun ((X2_of m c main_v6 (by decide) (by decide) (by decide) (by decide)).trans ((after_of_writes_sub ops2 _ ops2_writes (by decide)).trans ((X1_of m c main_v6 (by decide) (by decide) (by decide) (by decide)).trans ((after_of_writes_sub ops1 _ ops1_writes (by decide)).trans (X0_of m c main_v6 (by decide) (by decide) (by decide) (by decide)))))) _
  unfold xs3 E3
  rw [show fv S637x64x1024 (after ops3 (X2 m c) (Proc.devRef .tc main_v49_0)) = transpose S637x64x1024 [1, 0, 2]
      (addf (Host.dotGeneral dot_S64x637x300_S1024x300_S64x637x1024_2_1_01_0_n_n none (fv S64x637x300 (X2 m c (Proc.devRef .tc main_v6))) (fv S1024x300 (X2 m c (Proc.devRef .tc main_arg12))))
        (broadcastInDim S64x637x1024 ![0, 1, 2] bcast_S1x1x1024_S64x637x1024_0_1_2 (broadcastInDim S1x1x1024 ![2] bcast_S1024_S1x1x1024_2 (fv S1024 (X2 m c (Proc.devRef .tc main_arg14))))))
      transposes_S64x637x1024_S637x64x1024_1_0_2 from by after_results_simp_entrywise; rfl]
  rw [(X2_args m c main_arg12 (by decide)), (X2_args m c main_arg14 (by decide))]
  pointwise [Spec.inputs, Spec.pre]
  simp only [hx]
  rfl

/-- Loop 3's recurrent weights are the argument's. -/
theorem us3_eq (c : Dev nD) : us3 m c = (inp m c).cb.whh := by
  funext g j
  unfold us3 E3
  rw [show fv S1024x256 (after ops3 (X2 m c) (Proc.devRef .tc main_v49_1)) = fv S1024x256 (X2 m c (Proc.devRef .tc main_arg13)) from by after_results_simp_entrywise; simp only [id_eq], (X2_args m c main_arg13 (by decide))]
  rfl

/-- Loop 3 starts from zero. -/
theorem zero3 (c : Dev nD) (b : Fin 64) (j : Fin 256) : fv S64x256 (E3 m c (Proc.devRef .tc main_v49_3)) (ix2 b j) = 0 ∧ fv S64x256 (E3 m c (Proc.devRef .tc main_v49_4)) (ix2 b j) = 0 := by
  unfold E3
  constructor
  · after_results_simp
    pointwise [id]
    done
  · after_results_simp
    pointwise [id]
    done

/-- The hidden states loop 3 leaves recorded. -/
theorem states3 (c : Dev nD) (b : Fin 64) (t : Fin 637) (j : Fin 256) :
    fv S637x64x256 (X3 m c (Proc.devRef .tc main_v49_5)) (ix3 t b j) = Spec.bwd (inp m c).table (inp m c).cb ((inp m c).content b) t j := by
  rw [rec3 m c b (fun j => (zero3 m c b j).1) (fun j => (zero3 m c b j).2) t j, us3_eq]
  simp only [xs3_eq]
  rfl

end Cert.ReferenceIdeal.K

end
-- ==== Proof.ReferenceIdeal.Result.lean ====
/- The reference's result after its loops, element by element: the classifier of `Spec`. -/
module

public import proofs.«01_k».proof.Proof.ReferenceIdeal.Value

@[expose] public section

set_option maxRecDepth 16384

noncomputable section

namespace Cert.ReferenceIdeal.K

open Cert.ReferenceIdeal Cert.ReferenceIdeal.Gen
open Idealize.ShloMosaic Idealize.ShloMosaic.TcCoe Idealize.ShloMosaic.Tactic Idealize.ShloMosaic.StableHlo

variable (m : (ℓ : Loc nD τ sig) → Buf (Elt Ideal) ℓ)

/-- The softmax of each row, as the reference computes it. -/
def smx (x : FVec Ideal S64x637 .f32) : FVec Ideal S64x637 .f32 :=
  let e := Host.exp (subf x (broadcastInDim S64x637 ![0, 1] bcast_S64x1_S64x637_0_1 (broadcastInDim S64x1 ![0] bcast_S64_S64x1_0
    (maximumf (broadcastInDim S64 ![] bcast_S_S64 (constant S_ .f32 0xFF800000#32)) (Host.reduce FloatOps.maximumf x (constant S_ .f32 0xFF800000#32) reducesTo_S64x637_S64_d1 h_S_)))))
  Host.divf e (broadcastInDim S64x637 ![0, 1] bcast_S64x1_S64x637_0_1 (broadcastInDim S64x1 ![0] bcast_S64_S64x1_0
    (Host.reduceAdd e (constant S_ .f32 0x00000000#32) reducesTo_S64x637_S64_d1 h_S_)))

/-- The attention weights are the softmax of the scores. -/
theorem smx_apply (x : FVec Ideal S64x637 .f32) (b : Fin 64) (t : Fin 637) : smx x (ix2 b t) = Spec.softmax (fun t => x (ix2 b t)) t := by
  pointwise [smx, Spec.softmax, Spec.top]
  simp only [Spec.negInf, Spec.max_bot]

/-- The logarithm of the softmax of each row, as the reference computes it. -/
def lsm (x : FVec Ideal S64x5 .f32) : FVec Ideal S64x5 .f32 :=
  let y := subf x (broadcastInDim S64x5 ![0, 1] bcast_S64x1_S64x5_0_1 (broadcastInDim S64x1 ![0] bcast_S64_S64x1_0
    (maximumf (broadcastInDim S64 ![] bcast_S_S64 (constant S_ .f32 0xFF800000#32)) (Host.reduce FloatOps.maximumf x (constant S_ .f32 0xFF800000#32) reducesTo_S64x5_S64_d1 h_S_))))
  subf y (broadcastInDim S64x5 ![0, 1] bcast_S64x1_S64x5_0_1 (Host.log (broadcastInDim S64x1 ![0] bcast_S64_S64x1_0
    (Host.reduceAdd (Host.exp y) (constant S_ .f32 0x00000000#32) reducesTo_S64x5_S64_d1 h_S_))))

/-- The last operations are the log softmax of the class scores. -/
theorem lsm_apply (x : FVec Ideal S64x5 .f32) (b : Fin 64) (o : Fin 5) : lsm x (ix2 b o) = Spec.logSoftmax (fun o => x (ix2 b o)) o := by
  pointwise [lsm, Spec.logSoftmax, Spec.top]
  simp only [Spec.negInf, Spec.max_bot]

/-- The reference's attention weights are `smx` of its scores. -/
theorem pr_apply (W : Valuation τ sig (Elt Ideal)) : fv S64x637 (after ops4 W (Proc.devRef .tc main_v66)) = smx (fv S64x637 (after ops4 W (Proc.devRef .tc main_v55))) := by
  after_results_simp_entrywise
  rfl
/-- The reference's result is `lsm` of its class scores. -/
theorem out_apply (W : Valuation τ sig (Elt Ideal)) : fv S64x5 (after ops4 W (Proc.devRef .tc main_v72)) = lsm (fv S64x5 (after ops4 W (Proc.devRef .tc main_v71))) := by
  after_results_simp_entrywise
  rfl

/-- The class scores off the softmax of the attention scores. -/
theorem logits_apply (W : Valuation τ sig (Elt Ideal)) (b : Fin 64) (o : Fin 5) : fv S64x5 (after ops4 W (Proc.devRef .tc main_v71)) (ix2 b o)
    = (∑ t : Fin 637, fv S64x637 (after ops4 W (Proc.devRef .tc main_v66)) (ix2 b t) * fv S5x637 (W (Proc.devRef .tc main_arg16)) (ix2 o t)) + fv S5 (W (Proc.devRef .tc main_arg17)) (ix1 o) := by
  rw [show fv S64x5 (after ops4 W (Proc.devRef .tc main_v71)) = addf (Host.dotGeneral dot_S64x637_S637x5_S64x5_1_0_0_1_n_n none (fv S64x637 (after ops4 W (Proc.devRef .tc main_v66))) (transpose S637x5 [1, 0] (fv S5x637 (W (Proc.devRef .tc main_arg16))) transposes_S5x637_S637x5_1_0))
    (broadcastInDim S64x5 ![0, 1] bcast_S1x5_S64x5_0_1 (broadcastInDim S1x5 ![1] bcast_S5_S1x5_1 (fv S5 (W (Proc.devRef .tc main_arg17))))) from by after_results_simp_entrywise]
  pointwise
  done

/-- The scores off the content's states, the title's states and the attention matrix. -/
theorem score_apply (W : Valuation τ sig (Elt Ideal)) (b : Fin 64) (t : Fin 637) : fv S64x637 (after ops4 W (Proc.devRef .tc main_v55)) (ix2 b t)
    = ∑ k : Fin 512, fv S64x637x512 (after ops4 W (Proc.devRef .tc main_v51)) (ix3 b t k) * ∑ j : Fin 512, fv S512x512 (W (Proc.devRef .tc main_arg15)) (ix2 j k) * fv S64x24x512 (W (Proc.devRef .tc main_v32)) (ix3 b (23 : Fin 24) j) := by
  rw [show fv S64x637 (after ops4 W (Proc.devRef .tc main_v55)) = Host.dotGeneral dot_S64x637x512_S512x64_S64x637_2_0_1_n_0_1 none (fv S64x637x512 (after ops4 W (Proc.devRef .tc main_v51)))
      (Host.dotGeneral dot_S512x512_S64x512_S512x64_0_1_1_0_n_n none (fv S512x512 (W (Proc.devRef .tc main_arg15)))
        (shapeCast S64x512 (extractStridedSlice S64x1x512 ![0, 23, 0] (fv S64x24x512 (W (Proc.devRef .tc main_v32))) slices_S64x24x512_S64x1x512_0_23_0) shapeCasts_S64x1x512_S64x512)) from by after_results_simp_entrywise; rfl]
  pointwise
  done

/-- The title's states are its two directions side by side. -/
theorem sides2 (W : Valuation τ sig (Elt Ideal)) : fv S64x24x512 (after ops2 W (Proc.devRef .tc main_v32)) = concatenate S64x24x512 2 [⟨S64x24x256, fv S64x24x256 (W (Proc.devRef .tc main_v22))⟩,
      ⟨S64x24x256, transpose S64x24x256 [1, 0, 2] (fv S24x64x256 (W (Proc.devRef .tc main_v30_5))) transposes_S24x64x256_S64x24x256_1_0_2⟩] concatenates_S64x24x256_S64x24x256_S64x24x512_d2 := by
  after_results_simp_entrywise
  rfl
/-- The content's states are its two directions side by side. -/
theorem sides4 (W : Valuation τ sig (Elt Ideal)) : fv S64x637x512 (after ops4 W (Proc.devRef .tc main_v51)) = concatenate S64x637x512 2 [⟨S64x637x256, fv S64x637x256 (W (Proc.devRef .tc main_v41))⟩,
      ⟨S64x637x256, transpose S64x637x256 [1, 0, 2] (fv S637x64x256 (W (Proc.devRef .tc main_v49_5))) transposes_S637x64x256_S64x637x256_1_0_2⟩] concatenates_S64x637x256_S64x637x256_S64x637x512_d2 := by
  after_results_simp_entrywise
  rfl

/-- The states of the title, both directions side by side. -/
theorem titles_apply (c : Dev nD) (b : Fin 64) (t : Fin 24) (k : Fin 512) : fv S64x24x512 (X3 m c (Proc.devRef .tc main_v32)) (ix3 b t k)
    = Spec.both (Spec.fwd (inp m c).table (inp m c).tf ((inp m c).title b) t) (Spec.bwd (inp m c).table (inp m c).tb ((inp m c).title b) t) k := by
  have h1 : X3 m c (Proc.devRef .tc main_v32) = E2 m c (Proc.devRef .tc main_v32) :=
    (X3_of m c main_v32 (by decide) (by decide) (by decide) (by decide)).trans ((after_of_writes_sub ops3 _ ops3_writes (by decide)).trans (X2_of m c main_v32 (by decide) (by decide) (by decide) (by decide)))
  have h2 : fv S64x24x256 (X1 m c (Proc.devRef .tc main_v22)) = transpose S64x24x256 [1, 0, 2] (fv S24x64x256 (X0 m c (Proc.devRef .tc main_v21_5))) transposes_S24x64x256_S64x24x256_1_0_2 :=
    (X1_of m c main_v22 (by decide) (by decide) (by decide) (by decide)).trans (by unfold E1; after_results_simp_entrywise)
  rw [h1]; unfold E2; rw [sides2, h2]
  pointwise [Spec.both]
  split
  · exact states0 m c b t _
  · exact states1 m c b t _

/-- The states of the content, both directions side by side. -/
theorem contents_apply (c : Dev nD) (b : Fin 64) (t : Fin 637) (k : Fin 512) : fv S64x637x512 (after ops4 (X3 m c) (Proc.devRef .tc main_v51)) (ix3 b t k)
    = Spec.both (Spec.fwd (inp m c).table (inp m c).cf ((inp m c).content b) t) (Spec.bwd (inp m c).table (inp m c).cb ((inp m c).content b) t) k := by
  have h2 : fv S64x637x256 (X3 m c (Proc.devRef .tc main_v41)) = transpose S64x637x256 [1, 0, 2] (fv S637x64x256 (X2 m c (Proc.devRef .tc main_v40_5))) transposes_S637x64x256_S64x637x256_1_0_2 :=
    (X3_of m c main_v41 (by decide) (by decide) (by decide) (by decide)).trans (by unfold E3; after_results_simp_entrywise)
  rw [sides4, h2]
  pointwise [Spec.both]
  split
  · exact states2 m c b t _
  · exact states3 m c b t _

/-- THE REFERENCE'S RESULT is the classifier's. -/
theorem result_apply (c : Dev nD) (b : Fin 64) (o : Fin 5) : fv S64x5 (Wend m c (Proc.devRef .tc main_v72)) (ix2 b o) = Spec.result (inp m c) b o := by
  have hs : ∀ b t, fv S64x637 (after ops4 (X3 m c) (Proc.devRef .tc main_v55)) (ix2 b t) = Spec.score (inp m c) b t := fun b t => by
    rw [score_apply, X3_args m c main_arg15 (by decide)]
    exact Finset.sum_congr rfl fun k _ => congrArg₂ (· * ·) (contents_apply m c b t k) (Finset.sum_congr rfl fun j _ => congrArg (_ * ·) (titles_apply m c b 23 j))
  unfold Wend
  rw [out_apply, lsm_apply]
  refine congrArg (fun f => Spec.logSoftmax f o) (funext fun o => ?_)
  rw [logits_apply, pr_apply, X3_args m c main_arg16 (by decide), X3_args m c main_arg17 (by decide)]
  simp only [smx_apply, hs]
  rfl

end Cert.ReferenceIdeal.K

end
-- ==== Proof.Algebraic.lean ====
/- The algebraic claim: at every launch that agrees on the arguments, the idealized kernel and the idealized reference
   leave the same result — the classifier's (`Spec.result`) of the inputs the memory holds. -/
module

public import proofs.«01_k».proof.Defs
public import proofs.«01_k».proof.Proof.KernelIdeal.Value
public import proofs.«01_k».proof.Proof.ReferenceIdeal.Result
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- Both programs' results, entry by entry, given that both hold the same inputs. -/
theorem results (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h : Cert.ReferenceIdeal.K.inp m' c = Cert.KernelIdeal.K.inp m c) :
    (Cert.ReferenceIdeal.K.Wend m' c (Proc.devRef .tc Cert.ReferenceIdeal.main_v72) : Shape.Idx ⟨2, ![64, 5]⟩ → EReal)
      = (Cert.KernelIdeal.K.W10 m g c (Proc.devRef .tc Cert.KernelIdeal.main_v65) : Shape.Idx ⟨2, ![64, 5]⟩ → EReal) := by
  funext i
  rw [eq_ix2 i]
  exact (Cert.ReferenceIdeal.K.result_apply m' c _ _).trans ((congrArg (fun I => Spec.result I _ _) h).trans (Cert.KernelIdeal.K.result_apply m g c _ _).symm)

/-- The idealized kernel computes what the idealized reference computes. -/
theorem algebraic : Cert.algebraic_KernelIdeal_ReferenceIdeal := by
  intro m g m' g' _ hm
  refine ⟨fun c => Cert.KernelIdeal.K.W10 m g c (Proc.devRef .tc Cert.KernelIdeal.main_v65), ?_, ?_⟩
  · refine (θ_run Cert.KernelIdeal.defs _ _).mono (fun r h c => ?_) (Cert.KernelIdeal.K.run m g)
    have A := fun (a : Ref Cert.KernelIdeal.sig .tc) ha hn => (h.1 c _ (Cert.KernelIdeal.K.mem_uc a hn)).trans (Cert.KernelIdeal.K.W10_args m g c a ha)
    exact ⟨h.1 c _ (Cert.KernelIdeal.K.mem_uc Cert.KernelIdeal.main_v65 (by decide)),
      A Cert.KernelIdeal.main_arg0 (by decide) (by decide),
      A Cert.KernelIdeal.main_arg1 (by decide) (by decide),
      A Cert.KernelIdeal.main_arg2 (by decide) (by decide),
      A Cert.KernelIdeal.main_arg3 (by decide) (by decide),
      A Cert.KernelIdeal.main_arg4 (by decide) (by decide),
      A Cert.KernelIdeal.main_arg5 (by decide) (by decide),
      A Cert.KernelIdeal.main_arg6 (by decide) (by decide),
      A Cert.KernelIdeal.main_arg7 (by decide) (by decide),
      A Cert.KernelIdeal.main_arg8 (by decide) (by decide),
      A Cert.KernelIdeal.main_arg9 (by decide) (by decide),
      A Cert.KernelIdeal.main_arg10 (by decide) (by decide),
      A Cert.KernelIdeal.main_arg11 (by decide) (by decide),
      A Cert.KernelIdeal.main_arg12 (by decide) (by decide),
      A Cert.KernelIdeal.main_arg13 (by decide) (by decide),
      A Cert.KernelIdeal.main_arg14 (by decide) (by decide),
      A Cert.KernelIdeal.main_arg15 (by decide) (by decide),
      A Cert.KernelIdeal.main_arg16 (by decide) (by decide),
      A Cert.KernelIdeal.main_arg17 (by decide) (by decide)⟩
  · refine (θ_run Cert.ReferenceIdeal.defs _ _).mono (fun r h c => ?_) (Cert.ReferenceIdeal.K.run m' g')
    have A := fun (a : Ref Cert.ReferenceIdeal.sig .tc) ha hn => (h.1 c _ (Cert.ReferenceIdeal.K.mem_uc a hn)).trans (Cert.ReferenceIdeal.K.Wend_args m' c a ha)
    have hI : Cert.ReferenceIdeal.K.inp m' c = Cert.KernelIdeal.K.inp m c := by
      obtain ⟨h0, h1, h2, h3, h4, h5, h6, h7, h8, h9, h10, h11, h12, h13, h14, h15, h16, h17⟩ := hm c
      unfold Cert.ReferenceIdeal.K.inp Cert.KernelIdeal.K.inp
      rw [h0, h1, h2, h3, h4, h5, h6, h7, h8, h9, h10, h11, h12, h13, h14, h15, h16, h17]
    exact ⟨(h.1 c _ (Cert.ReferenceIdeal.K.mem_uc Cert.ReferenceIdeal.main_v72 (by decide))).trans (results m g m' c hI),
      A Cert.ReferenceIdeal.main_arg0 (by decide) (by decide),
      A Cert.ReferenceIdeal.main_arg1 (by decide) (by decide),
      A Cert.ReferenceIdeal.main_arg2 (by decide) (by decide),
      A Cert.ReferenceIdeal.main_arg3 (by decide) (by decide),
      A Cert.ReferenceIdeal.main_arg4 (by decide) (by decide),
      A Cert.ReferenceIdeal.main_arg5 (by decide) (by decide),
      A Cert.ReferenceIdeal.main_arg6 (by decide) (by decide),
      A Cert.ReferenceIdeal.main_arg7 (by decide) (by decide),
      A Cert.ReferenceIdeal.main_arg8 (by decide) (by decide),
      A Cert.ReferenceIdeal.main_arg9 (by decide) (by decide),
      A Cert.ReferenceIdeal.main_arg10 (by decide) (by decide),
      A Cert.ReferenceIdeal.main_arg11 (by decide) (by decide),
      A Cert.ReferenceIdeal.main_arg12 (by decide) (by decide),
      A Cert.ReferenceIdeal.main_arg13 (by decide) (by decide),
      A Cert.ReferenceIdeal.main_arg14 (by decide) (by decide),
      A Cert.ReferenceIdeal.main_arg15 (by decide) (by decide),
      A Cert.ReferenceIdeal.main_arg16 (by decide) (by decide),
      A Cert.ReferenceIdeal.main_arg17 (by decide) (by decide)⟩

end Cert.Proof

end
-- ==== Proof.lean ====
module

public import proofs.«01_k».proof.Defs
public import proofs.«01_k».proof.Proof.Kernel.Run
public import proofs.«01_k».proof.Proof.KernelIdeal.Run
public import proofs.«01_k».proof.Proof.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem

/-- The ledger's one entry: the mask literal is read as minus infinity. -/
theorem preserves : Cert.preserves_Kernel_KernelIdeal :=
  IdealRules.named_const.statement Cert.KernelIdeal.κ "mask" .f32 0xF149F2CA#32 ⊥ rfl

/-- Everything claimed. -/
theorem claim : Cert.Claim :=
  ⟨Cert.Kernel.Gen.facts, Cert.KernelIdeal.Gen.facts, Cert.ReferenceIdeal.Gen.facts,
    fun m ρ _ => Cert.Kernel.K.frame m ρ,
    fun m ρ _ => Cert.KernelIdeal.K.frame m ρ,
    fun m ρ _ => Cert.ReferenceIdeal.K.frame m ρ,
    preserves, algebraic⟩

end Cert.Proof

end
